-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x2048 : Shape := ⟨3, ![4, 8192, 2048]⟩
abbrev S512x2048 : Shape := ⟨2, ![512, 2048]⟩
abbrev S800x2048 : Shape := ⟨2, ![800, 2048]⟩
abbrev S8 : Shape := ⟨1, ![8]⟩
abbrev S_ : Shape := ⟨0, ![]⟩
abbrev S1x304x2048 : Shape := ⟨3, ![1, 304, 2048]⟩
abbrev S304x2048 : Shape := ⟨2, ![304, 2048]⟩
abbrev S1x456x2048 : Shape := ⟨3, ![1, 456, 2048]⟩
abbrev S456x2048 : Shape := ⟨2, ![456, 2048]⟩
abbrev S1x720x2048 : Shape := ⟨3, ![1, 720, 2048]⟩
abbrev S720x2048 : Shape := ⟨2, ![720, 2048]⟩
abbrev S1x288x2048 : Shape := ⟨3, ![1, 288, 2048]⟩
abbrev S288x2048 : Shape := ⟨2, ![288, 2048]⟩
abbrev S1x800x2048 : Shape := ⟨3, ![1, 800, 2048]⟩
abbrev S1x504x2048 : Shape := ⟨3, ![1, 504, 2048]⟩
abbrev S504x2048 : Shape := ⟨2, ![504, 2048]⟩
abbrev S1x704x2048 : Shape := ⟨3, ![1, 704, 2048]⟩
abbrev S704x2048 : Shape := ⟨2, ![704, 2048]⟩
abbrev S1 : Shape := ⟨1, ![1]⟩
abbrev S1x512x2048 : Shape := ⟨3, ![1, 512, 2048]⟩
abbrev S64x2048 : Shape := ⟨2, ![64, 2048]⟩
abbrev S1x64x2048 : Shape := ⟨3, ![1, 64, 2048]⟩
abbrev S4x2048 : Shape := ⟨2, ![4, 2048]⟩
abbrev S7x2048 : Shape := ⟨2, ![7, 2048]⟩
abbrev S136x2048 : Shape := ⟨2, ![136, 2048]⟩
abbrev S1x136x2048 : Shape := ⟨3, ![1, 136, 2048]⟩
abbrev S3x2048 : Shape := ⟨2, ![3, 2048]⟩
abbrev S352x2048 : Shape := ⟨2, ![352, 2048]⟩
abbrev S1x352x2048 : Shape := ⟨3, ![1, 352, 2048]⟩
abbrev S5x2048 : Shape := ⟨2, ![5, 2048]⟩
abbrev S368x2048 : Shape := ⟨2, ![368, 2048]⟩
abbrev S1x368x2048 : Shape := ⟨3, ![1, 368, 2048]⟩
abbrev S320x2048 : Shape := ⟨2, ![320, 2048]⟩
abbrev S1x320x2048 : Shape := ⟨3, ![1, 320, 2048]⟩
abbrev S24x2048 : Shape := ⟨2, ![24, 2048]⟩
abbrev S1x24x2048 : Shape := ⟨3, ![1, 24, 2048]⟩
abbrev S2x2048 : Shape := ⟨2, ![2, 2048]⟩
abbrev S1x2048 : Shape := ⟨2, ![1, 2048]⟩
abbrev S6x2048 : Shape := ⟨2, ![6, 2048]⟩
abbrev S272x2048 : Shape := ⟨2, ![272, 2048]⟩
abbrev S1x272x2048 : Shape := ⟨3, ![1, 272, 2048]⟩
abbrev S448x2048 : Shape := ⟨2, ![448, 2048]⟩
abbrev S1x448x2048 : Shape := ⟨3, ![1, 448, 2048]⟩
abbrev S344x2048 : Shape := ⟨2, ![344, 2048]⟩
abbrev S1x344x2048 : Shape := ⟨3, ![1, 344, 2048]⟩
abbrev S488x2048 : Shape := ⟨2, ![488, 2048]⟩
abbrev S1x488x2048 : Shape := ⟨3, ![1, 488, 2048]⟩

abbrev nBuf : Space → Nat
  | .hbm => 2
  | .vmem => 9
  | .smem => 0
  | _ => 0

abbrev bufTy : (tb : Table) → Fin (tcTables nBuf tb) → BufTy
  | .hbm, ⟨0, _⟩ => ⟨S4x8192x2048, .f32⟩
  | .hbm, ⟨1, _⟩ => ⟨S4x8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S800x2048, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩

abbrev nD : Nat := 1
abbrev τ : Topo := Topo.v7x

variable {F : FTy → Type} [FloatOps F]

abbrev grid0 : Pipeline.Grid := .none
-- ==== ReferenceIdeal.lean ====
abbrev S4x8192x2048 : Shape := ⟨3, ![4, 8192, 2048]⟩
abbrev S_ : Shape := ⟨0, ![]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S1x1 : Shape := ⟨2, ![1, 1]⟩
abbrev S4x2 : Shape := ⟨2, ![4, 2]⟩
abbrev S8192 : Shape := ⟨1, ![8192]⟩
abbrev S1x1x8192 : Shape := ⟨3, ![1, 1, 8192]⟩
abbrev S4x2x1 : Shape := ⟨3, ![4, 2, 1]⟩
abbrev S4x2x8192 : Shape := ⟨3, ![4, 2, 8192]⟩
abbrev S4x8192 : Shape := ⟨2, ![4, 8192]⟩
abbrev S4x8192x1 : Shape := ⟨3, ![4, 8192, 1]⟩

abbrev nBuf : Space → Nat
  | .hbm => 1825
  | .vmem => 0
  | .smem => 0
  | _ => 0

abbrev hbmTy0_0 (i : Nat) : BufTy := match i % 128 with
  | 0 => ⟨S4x8192x2048, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S1, .i32⟩
  | 12 => ⟨S_, .i32⟩
  | 13 => ⟨S1, .i32⟩
  | 14 => ⟨S_, .i32⟩
  | 15 => ⟨S2, .i64⟩
  | 16 => ⟨S_, .i64⟩
  | 17 => ⟨S2, .i64⟩
  | 18 => ⟨S2, .i64⟩
  | 19 => ⟨S_, .i64⟩
  | 20 => ⟨S2, .i64⟩
  | 21 => ⟨S2, .i64⟩
  | 22 => ⟨S2, .i32⟩
  | 23 => ⟨S2, .i32⟩
  | 24 => ⟨S_, .i32⟩
  | 25 => ⟨S_, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S2, .i32⟩
  | 49 => ⟨S2, .i32⟩
  | 50 => ⟨S_, .i32⟩
  | 51 => ⟨S2, .i32⟩
  | 52 => ⟨S2, .i32⟩
  | 53 => ⟨S_, .i32⟩
  | 54 => ⟨S2, .i32⟩
  | 55 => ⟨S2, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S2, .i32⟩
  | 101 => ⟨S2, .i32⟩
  | 102 => ⟨S_, .i32⟩
  | 103 => ⟨S2, .i32⟩
  | 104 => ⟨S2, .i32⟩
  | 105 => ⟨S_, .i32⟩
  | 106 => ⟨S2, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S2, .i32⟩
  | 126 => ⟨S2, .i32⟩
  | 127 => ⟨S_, .i32⟩
  | _ => ⟨S4x8192x2048, .f32⟩

abbrev hbmTy0_1 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2, .i32⟩
  | 6 => ⟨S2, .i32⟩
  | 7 => ⟨S2, .i32⟩
  | 8 => ⟨S_, .i32⟩
  | 9 => ⟨S2, .i32⟩
  | 10 => ⟨S2, .i32⟩
  | 11 => ⟨S_, .i32⟩
  | 12 => ⟨S2, .i32⟩
  | 13 => ⟨S2, .i32⟩
  | 14 => ⟨S2, .i32⟩
  | 15 => ⟨S2, .i32⟩
  | 16 => ⟨S2, .i32⟩
  | 17 => ⟨S_, .i32⟩
  | 18 => ⟨S2, .i32⟩
  | 19 => ⟨S2, .i32⟩
  | 20 => ⟨S_, .i32⟩
  | 21 => ⟨S2, .i32⟩
  | 22 => ⟨S2, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S2x1, .i32⟩
  | 119 => ⟨S2x1, .i32⟩
  | 120 => ⟨S2x2, .i32⟩
  | 121 => ⟨S1x2, .i32⟩
  | 122 => ⟨S2, .i32⟩
  | 123 => ⟨S1x2, .i32⟩
  | 124 => ⟨S2, .i32⟩
  | 125 => ⟨S_, .i32⟩
  | 126 => ⟨S_, .i32⟩
  | 127 => ⟨S_, .i32⟩
  | _ => ⟨S4x8192x2048, .f32⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S_, .i1⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S1x1, .i32⟩
  | 16 => ⟨S1x1, .i32⟩
  | 17 => ⟨S1, .i32⟩
  | 18 => ⟨S_, .i32⟩
  | 19 => ⟨S1, .i32⟩
  | 20 => ⟨S_, .i32⟩
  | 21 => ⟨S2, .i64⟩
  | 22 => ⟨S_, .i64⟩
  | 23 => ⟨S2, .i64⟩
  | 24 => ⟨S2, .i64⟩
  | 25 => ⟨S_, .i64⟩
  | 26 => ⟨S2, .i64⟩
  | 27 => ⟨S2, .i64⟩
  | 28 => ⟨S2, .i32⟩
  | 29 => ⟨S2, .i32⟩
  | 30 => ⟨S_, .i32⟩
  | 31 => ⟨S_, .i32⟩
  | 32 => ⟨S_, .i32⟩
  | 33 => ⟨S2, .i32⟩
  | 34 => ⟨S2, .i32⟩
  | 35 => ⟨S2, .i32⟩
  | 36 => ⟨S2, .i32⟩
  | 37 => ⟨S2, .i32⟩
  | 38 => ⟨S_, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S_, .i32⟩
  | _ => ⟨S4x8192x2048, .f32⟩

abbrev hbmTy0_3 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S_, .i32⟩
  | 6 => ⟨S2, .i32⟩
  | 7 => ⟨S2, .i32⟩
  | 8 => ⟨S_, .i32⟩
  | 9 => ⟨S2, .i32⟩
  | 10 => ⟨S2, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S_, .i32⟩
  | 18 => ⟨S2, .i32⟩
  | 19 => ⟨S2, .i32⟩
  | 20 => ⟨S2, .i32⟩
  | 21 => ⟨S2, .i32⟩
  | 22 => ⟨S2, .i32⟩
  | 23 => ⟨S_, .i32⟩
  | 24 => ⟨S2, .i32⟩
  | 25 => ⟨S2, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S2, .i32⟩
  | 47 => ⟨S2, .i32⟩
  | 48 => ⟨S_, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S2x1, .i32⟩
  | 125 => ⟨S2x1, .i32⟩
  | 126 => ⟨S2x2, .i32⟩
  | 127 => ⟨S1x2, .i32⟩
  | _ => ⟨S4x8192x2048, .f32⟩

abbrev hbmTy0_4 (i : Nat) : BufTy := match i % 128 with
  | 0 => ⟨S2, .i32⟩
  | 1 => ⟨S1x2, .i32⟩
  | 2 => ⟨S2, .i32⟩
  | 3 => ⟨S1, .i32⟩
  | 4 => ⟨S_, .i32⟩
  | 5 => ⟨S1, .i32⟩
  | 6 => ⟨S_, .i32⟩
  | 7 => ⟨S4x2, .i64⟩
  | 8 => ⟨S4x2, .i64⟩
  | 9 => ⟨S_, .i64⟩
  | 10 => ⟨S4x2, .i64⟩
  | 11 => ⟨S4x2, .i64⟩
  | 12 => ⟨S_, .i64⟩
  | 13 => ⟨S4x2, .i64⟩
  | 14 => ⟨S4x2, .i64⟩
  | 15 => ⟨S4x2, .i64⟩
  | 16 => ⟨S_, .i64⟩
  | 17 => ⟨S4x2, .i64⟩
  | 18 => ⟨S4x2, .i64⟩
  | 19 => ⟨S4x2, .i32⟩
  | 20 => ⟨S4x2, .i32⟩
  | 21 => ⟨S_, .i32⟩
  | 22 => ⟨S_, .i32⟩
  | 23 => ⟨S_, .i32⟩
  | 24 => ⟨S4x2, .i32⟩
  | 25 => ⟨S4x2, .i32⟩
  | 26 => ⟨S4x2, .i32⟩
  | 27 => ⟨S4x2, .i32⟩
  | 28 => ⟨S4x2, .i32⟩
  | 29 => ⟨S_, .i32⟩
  | 30 => ⟨S4x2, .i32⟩
  | 31 => ⟨S4x2, .i32⟩
  | 32 => ⟨S_, .i32⟩
  | 33 => ⟨S4x2, .i32⟩
  | 34 => ⟨S4x2, .i32⟩
  | 35 => ⟨S4x2, .i32⟩
  | 36 => ⟨S4x2, .i32⟩
  | 37 => ⟨S4x2, .i32⟩
  | 38 => ⟨S_, .i32⟩
  | 39 => ⟨S4x2, .i32⟩
  | 40 => ⟨S4x2, .i32⟩
  | 41 => ⟨S_, .i32⟩
  | 42 => ⟨S4x2, .i32⟩
  | 43 => ⟨S4x2, .i32⟩
  | 44 => ⟨S4x2, .i32⟩
  | 45 => ⟨S4x2, .i32⟩
  | 46 => ⟨S4x2, .i32⟩
  | 47 => ⟨S_, .i32⟩
  | 48 => ⟨S4x2, .i32⟩
  | 49 => ⟨S4x2, .i32⟩
  | 50 => ⟨S_, .i32⟩
  | 51 => ⟨S4x2, .i32⟩
  | 52 => ⟨S4x2, .i32⟩
  | 53 => ⟨S4x2, .i32⟩
  | 54 => ⟨S4x2, .i32⟩
  | 55 => ⟨S4x2, .i32⟩
  | 56 => ⟨S_, .i32⟩
  | 57 => ⟨S4x2, .i32⟩
  | 58 => ⟨S4x2, .i32⟩
  | 59 => ⟨S_, .i32⟩
  | 60 => ⟨S4x2, .i32⟩
  | 61 => ⟨S4x2, .i32⟩
  | 62 => ⟨S4x2, .i32⟩
  | 63 => ⟨S4x2, .i32⟩
  | 64 => ⟨S4x2, .i32⟩
  | 65 => ⟨S4x2, .i32⟩
  | 66 => ⟨S4x2, .i32⟩
  | 67 => ⟨S4x2, .i32⟩
  | 68 => ⟨S_, .i32⟩
  | 69 => ⟨S4x2, .i32⟩
  | 70 => ⟨S4x2, .i32⟩
  | 71 => ⟨S4x2, .i32⟩
  | 72 => ⟨S_, .i32⟩
  | 73 => ⟨S4x2, .i32⟩
  | 74 => ⟨S4x2, .i32⟩
  | 75 => ⟨S_, .i32⟩
  | 76 => ⟨S4x2, .i32⟩
  | 77 => ⟨S4x2, .i32⟩
  | 78 => ⟨S4x2, .i32⟩
  | 79 => ⟨S4x2, .i32⟩
  | 80 => ⟨S4x2, .i32⟩
  | 81 => ⟨S_, .i32⟩
  | 82 => ⟨S4x2, .i32⟩
  | 83 => ⟨S4x2, .i32⟩
  | 84 => ⟨S_, .i32⟩
  | 85 => ⟨S4x2, .i32⟩
  | 86 => ⟨S4x2, .i32⟩
  | 87 => ⟨S4x2, .i32⟩
  | 88 => ⟨S4x2, .i32⟩
  | 89 => ⟨S4x2, .i32⟩
  | 90 => ⟨S_, .i32⟩
  | 91 => ⟨S4x2, .i32⟩
  | 92 => ⟨S4x2, .i32⟩
  | 93 => ⟨S_, .i32⟩
  | 94 => ⟨S4x2, .i32⟩
  | 95 => ⟨S4x2, .i32⟩
  | 96 => ⟨S4x2, .i32⟩
  | 97 => ⟨S4x2, .i32⟩
  | 98 => ⟨S4x2, .i32⟩
  | 99 => ⟨S_, .i32⟩
  | 100 => ⟨S4x2, .i32⟩
  | 101 => ⟨S4x2, .i32⟩
  | 102 => ⟨S_, .i32⟩
  | 103 => ⟨S4x2, .i32⟩
  | 104 => ⟨S4x2, .i32⟩
  | 105 => ⟨S4x2, .i32⟩
  | 106 => ⟨S4x2, .i32⟩
  | 107 => ⟨S4x2, .i32⟩
  | 108 => ⟨S4x2, .i32⟩
  | 109 => ⟨S4x2, .i32⟩
  | 110 => ⟨S4x2, .i32⟩
  | 111 => ⟨S_, .i32⟩
  | 112 => ⟨S4x2, .i32⟩
  | 113 => ⟨S4x2, .i32⟩
  | 114 => ⟨S4x2, .i32⟩
  | 115 => ⟨S_, .i32⟩
  | 116 => ⟨S4x2, .i32⟩
  | 117 => ⟨S4x2, .i32⟩
  | 118 => ⟨S_, .i32⟩
  | 119 => ⟨S4x2, .i32⟩
  | 120 => ⟨S4x2, .i32⟩
  | 121 => ⟨S4x2, .i32⟩
  | 122 => ⟨S4x2, .i32⟩
  | 123 => ⟨S4x2, .i32⟩
  | 124 => ⟨S_, .i32⟩
  | 125 => ⟨S4x2, .i32⟩
  | 126 => ⟨S4x2, .i32⟩
  | 127 => ⟨S_, .i32⟩
  | _ => ⟨S4x8192x2048, .f32⟩

abbrev hbmTy0_5 (i : Nat) : BufTy := match i % 128 with
  | 0 => ⟨S4x2, .i32⟩
  | 1 => ⟨S4x2, .i32⟩
  | 2 => ⟨S4x2, .i32⟩
  | 3 => ⟨S4x2, .i32⟩
  | 4 => ⟨S4x2, .i32⟩
  | 5 => ⟨S_, .i32⟩
  | 6 => ⟨S4x2, .i32⟩
  | 7 => ⟨S4x2, .i32⟩
  | 8 => ⟨S_, .i32⟩
  | 9 => ⟨S4x2, .i32⟩
  | 10 => ⟨S4x2, .i32⟩
  | 11 => ⟨S4x2, .i32⟩
  | 12 => ⟨S4x2, .i32⟩
  | 13 => ⟨S4x2, .i32⟩
  | 14 => ⟨S_, .i32⟩
  | 15 => ⟨S4x2, .i32⟩
  | 16 => ⟨S4x2, .i32⟩
  | 17 => ⟨S_, .i32⟩
  | 18 => ⟨S4x2, .i32⟩
  | 19 => ⟨S4x2, .i32⟩
  | 20 => ⟨S4x2, .i32⟩
  | 21 => ⟨S4x2, .i32⟩
  | 22 => ⟨S4x2, .i32⟩
  | 23 => ⟨S4x2, .i32⟩
  | 24 => ⟨S4x2, .i32⟩
  | 25 => ⟨S4x2, .i32⟩
  | 26 => ⟨S_, .i32⟩
  | 27 => ⟨S4x2, .i32⟩
  | 28 => ⟨S4x2, .i32⟩
  | 29 => ⟨S4x2, .i32⟩
  | 30 => ⟨S_, .i32⟩
  | 31 => ⟨S4x2, .i32⟩
  | 32 => ⟨S4x2, .i32⟩
  | 33 => ⟨S_, .i32⟩
  | 34 => ⟨S4x2, .i32⟩
  | 35 => ⟨S4x2, .i32⟩
  | 36 => ⟨S4x2, .i32⟩
  | 37 => ⟨S4x2, .i32⟩
  | 38 => ⟨S4x2, .i32⟩
  | 39 => ⟨S_, .i32⟩
  | 40 => ⟨S4x2, .i32⟩
  | 41 => ⟨S4x2, .i32⟩
  | 42 => ⟨S_, .i32⟩
  | 43 => ⟨S4x2, .i32⟩
  | 44 => ⟨S4x2, .i32⟩
  | 45 => ⟨S4x2, .i32⟩
  | 46 => ⟨S4x2, .i32⟩
  | 47 => ⟨S4x2, .i32⟩
  | 48 => ⟨S_, .i32⟩
  | 49 => ⟨S4x2, .i32⟩
  | 50 => ⟨S4x2, .i32⟩
  | 51 => ⟨S_, .i32⟩
  | 52 => ⟨S4x2, .i32⟩
  | 53 => ⟨S4x2, .i32⟩
  | 54 => ⟨S4x2, .i32⟩
  | 55 => ⟨S4x2, .i32⟩
  | 56 => ⟨S4x2, .i32⟩
  | 57 => ⟨S_, .i32⟩
  | 58 => ⟨S4x2, .i32⟩
  | 59 => ⟨S4x2, .i32⟩
  | 60 => ⟨S_, .i32⟩
  | 61 => ⟨S4x2, .i32⟩
  | 62 => ⟨S4x2, .i32⟩
  | 63 => ⟨S4x2, .i32⟩
  | 64 => ⟨S4x2, .i32⟩
  | 65 => ⟨S4x2, .i32⟩
  | 66 => ⟨S4x2, .i32⟩
  | 67 => ⟨S4x2, .i32⟩
  | 68 => ⟨S4x2, .i32⟩
  | 69 => ⟨S_, .i32⟩
  | 70 => ⟨S4x2, .i32⟩
  | 71 => ⟨S4x2, .i32⟩
  | 72 => ⟨S4x2, .i32⟩
  | 73 => ⟨S_, .i32⟩
  | 74 => ⟨S4x2, .i32⟩
  | 75 => ⟨S4x2, .i32⟩
  | 76 => ⟨S_, .i32⟩
  | 77 => ⟨S4x2, .i32⟩
  | 78 => ⟨S4x2, .i32⟩
  | 79 => ⟨S4x2, .i32⟩
  | 80 => ⟨S4x2, .i32⟩
  | 81 => ⟨S4x2, .i32⟩
  | 82 => ⟨S_, .i32⟩
  | 83 => ⟨S4x2, .i32⟩
  | 84 => ⟨S4x2, .i32⟩
  | 85 => ⟨S_, .i32⟩
  | 86 => ⟨S4x2, .i32⟩
  | 87 => ⟨S4x2, .i32⟩
  | 88 => ⟨S4x2, .i32⟩
  | 89 => ⟨S4x2, .i32⟩
  | 90 => ⟨S4x2, .i32⟩
  | 91 => ⟨S_, .i32⟩
  | 92 => ⟨S4x2, .i32⟩
  | 93 => ⟨S4x2, .i32⟩
  | 94 => ⟨S_, .i32⟩
  | 95 => ⟨S4x2, .i32⟩
  | 96 => ⟨S4x2, .i32⟩
  | 97 => ⟨S4x2, .i32⟩
  | 98 => ⟨S4x2, .i32⟩
  | 99 => ⟨S4x2, .i32⟩
  | 100 => ⟨S_, .i32⟩
  | 101 => ⟨S4x2, .i32⟩
  | 102 => ⟨S4x2, .i32⟩
  | 103 => ⟨S_, .i32⟩
  | 104 => ⟨S4x2, .i32⟩
  | 105 => ⟨S4x2, .i32⟩
  | 106 => ⟨S4x2, .i32⟩
  | 107 => ⟨S4x2, .i32⟩
  | 108 => ⟨S4x2, .i32⟩
  | 109 => ⟨S4x2, .i32⟩
  | 110 => ⟨S4x2, .i32⟩
  | 111 => ⟨S4x2, .i32⟩
  | 112 => ⟨S_, .i32⟩
  | 113 => ⟨S4x2, .i32⟩
  | 114 => ⟨S4x2, .i32⟩
  | 115 => ⟨S4x2, .i32⟩
  | 116 => ⟨S1, .i32⟩
  | 117 => ⟨S_, .i32⟩
  | 118 => ⟨S1, .i32⟩
  | 119 => ⟨S_, .i32⟩
  | 120 => ⟨S4x2, .i64⟩
  | 121 => ⟨S4x2, .i64⟩
  | 122 => ⟨S_, .i64⟩
  | 123 => ⟨S4x2, .i64⟩
  | 124 => ⟨S4x2, .i64⟩
  | 125 => ⟨S_, .i64⟩
  | 126 => ⟨S4x2, .i64⟩
  | 127 => ⟨S4x2, .i64⟩
  | _ => ⟨S4x8192x2048, .f32⟩

abbrev hbmTy0_6 (i : Nat) : BufTy := match i % 128 with
  | 0 => ⟨S4x2, .i64⟩
  | 1 => ⟨S_, .i64⟩
  | 2 => ⟨S4x2, .i64⟩
  | 3 => ⟨S4x2, .i64⟩
  | 4 => ⟨S4x2, .i32⟩
  | 5 => ⟨S4x2, .i32⟩
  | 6 => ⟨S_, .i32⟩
  | 7 => ⟨S_, .i32⟩
  | 8 => ⟨S_, .i32⟩
  | 9 => ⟨S4x2, .i32⟩
  | 10 => ⟨S4x2, .i32⟩
  | 11 => ⟨S4x2, .i32⟩
  | 12 => ⟨S4x2, .i32⟩
  | 13 => ⟨S4x2, .i32⟩
  | 14 => ⟨S_, .i32⟩
  | 15 => ⟨S4x2, .i32⟩
  | 16 => ⟨S4x2, .i32⟩
  | 17 => ⟨S_, .i32⟩
  | 18 => ⟨S4x2, .i32⟩
  | 19 => ⟨S4x2, .i32⟩
  | 20 => ⟨S4x2, .i32⟩
  | 21 => ⟨S4x2, .i32⟩
  | 22 => ⟨S4x2, .i32⟩
  | 23 => ⟨S_, .i32⟩
  | 24 => ⟨S4x2, .i32⟩
  | 25 => ⟨S4x2, .i32⟩
  | 26 => ⟨S_, .i32⟩
  | 27 => ⟨S4x2, .i32⟩
  | 28 => ⟨S4x2, .i32⟩
  | 29 => ⟨S4x2, .i32⟩
  | 30 => ⟨S4x2, .i32⟩
  | 31 => ⟨S4x2, .i32⟩
  | 32 => ⟨S_, .i32⟩
  | 33 => ⟨S4x2, .i32⟩
  | 34 => ⟨S4x2, .i32⟩
  | 35 => ⟨S_, .i32⟩
  | 36 => ⟨S4x2, .i32⟩
  | 37 => ⟨S4x2, .i32⟩
  | 38 => ⟨S4x2, .i32⟩
  | 39 => ⟨S4x2, .i32⟩
  | 40 => ⟨S4x2, .i32⟩
  | 41 => ⟨S_, .i32⟩
  | 42 => ⟨S4x2, .i32⟩
  | 43 => ⟨S4x2, .i32⟩
  | 44 => ⟨S_, .i32⟩
  | 45 => ⟨S4x2, .i32⟩
  | 46 => ⟨S4x2, .i32⟩
  | 47 => ⟨S4x2, .i32⟩
  | 48 => ⟨S4x2, .i32⟩
  | 49 => ⟨S4x2, .i32⟩
  | 50 => ⟨S4x2, .i32⟩
  | 51 => ⟨S4x2, .i32⟩
  | 52 => ⟨S4x2, .i32⟩
  | 53 => ⟨S_, .i32⟩
  | 54 => ⟨S4x2, .i32⟩
  | 55 => ⟨S4x2, .i32⟩
  | 56 => ⟨S4x2, .i32⟩
  | 57 => ⟨S_, .i32⟩
  | 58 => ⟨S4x2, .i32⟩
  | 59 => ⟨S4x2, .i32⟩
  | 60 => ⟨S_, .i32⟩
  | 61 => ⟨S4x2, .i32⟩
  | 62 => ⟨S4x2, .i32⟩
  | 63 => ⟨S4x2, .i32⟩
  | 64 => ⟨S4x2, .i32⟩
  | 65 => ⟨S4x2, .i32⟩
  | 66 => ⟨S_, .i32⟩
  | 67 => ⟨S4x2, .i32⟩
  | 68 => ⟨S4x2, .i32⟩
  | 69 => ⟨S_, .i32⟩
  | 70 => ⟨S4x2, .i32⟩
  | 71 => ⟨S4x2, .i32⟩
  | 72 => ⟨S4x2, .i32⟩
  | 73 => ⟨S4x2, .i32⟩
  | 74 => ⟨S4x2, .i32⟩
  | 75 => ⟨S_, .i32⟩
  | 76 => ⟨S4x2, .i32⟩
  | 77 => ⟨S4x2, .i32⟩
  | 78 => ⟨S_, .i32⟩
  | 79 => ⟨S4x2, .i32⟩
  | 80 => ⟨S4x2, .i32⟩
  | 81 => ⟨S4x2, .i32⟩
  | 82 => ⟨S4x2, .i32⟩
  | 83 => ⟨S4x2, .i32⟩
  | 84 => ⟨S_, .i32⟩
  | 85 => ⟨S4x2, .i32⟩
  | 86 => ⟨S4x2, .i32⟩
  | 87 => ⟨S_, .i32⟩
  | 88 => ⟨S4x2, .i32⟩
  | 89 => ⟨S4x2, .i32⟩
  | 90 => ⟨S4x2, .i32⟩
  | 91 => ⟨S4x2, .i32⟩
  | 92 => ⟨S4x2, .i32⟩
  | 93 => ⟨S4x2, .i32⟩
  | 94 => ⟨S4x2, .i32⟩
  | 95 => ⟨S4x2, .i32⟩
  | 96 => ⟨S_, .i32⟩
  | 97 => ⟨S4x2, .i32⟩
  | 98 => ⟨S4x2, .i32⟩
  | 99 => ⟨S4x2, .i32⟩
  | 100 => ⟨S_, .i32⟩
  | 101 => ⟨S4x2, .i32⟩
  | 102 => ⟨S4x2, .i32⟩
  | 103 => ⟨S_, .i32⟩
  | 104 => ⟨S4x2, .i32⟩
  | 105 => ⟨S4x2, .i32⟩
  | 106 => ⟨S4x2, .i32⟩
  | 107 => ⟨S4x2, .i32⟩
  | 108 => ⟨S4x2, .i32⟩
  | 109 => ⟨S_, .i32⟩
  | 110 => ⟨S4x2, .i32⟩
  | 111 => ⟨S4x2, .i32⟩
  | 112 => ⟨S_, .i32⟩
  | 113 => ⟨S4x2, .i32⟩
  | 114 => ⟨S4x2, .i32⟩
  | 115 => ⟨S4x2, .i32⟩
  | 116 => ⟨S4x2, .i32⟩
  | 117 => ⟨S4x2, .i32⟩
  | 118 => ⟨S_, .i32⟩
  | 119 => ⟨S4x2, .i32⟩
  | 120 => ⟨S4x2, .i32⟩
  | 121 => ⟨S_, .i32⟩
  | 122 => ⟨S4x2, .i32⟩
  | 123 => ⟨S4x2, .i32⟩
  | 124 => ⟨S4x2, .i32⟩
  | 125 => ⟨S4x2, .i32⟩
  | 126 => ⟨S4x2, .i32⟩
  | 127 => ⟨S_, .i32⟩
  | _ => ⟨S4x8192x2048, .f32⟩

abbrev hbmTy0_7 (i : Nat) : BufTy := match i % 128 with
  | 0 => ⟨S4x2, .i32⟩
  | 1 => ⟨S4x2, .i32⟩
  | 2 => ⟨S_, .i32⟩
  | 3 => ⟨S4x2, .i32⟩
  | 4 => ⟨S4x2, .i32⟩
  | 5 => ⟨S4x2, .i32⟩
  | 6 => ⟨S4x2, .i32⟩
  | 7 => ⟨S4x2, .i32⟩
  | 8 => ⟨S4x2, .i32⟩
  | 9 => ⟨S4x2, .i32⟩
  | 10 => ⟨S4x2, .i32⟩
  | 11 => ⟨S_, .i32⟩
  | 12 => ⟨S4x2, .i32⟩
  | 13 => ⟨S4x2, .i32⟩
  | 14 => ⟨S4x2, .i32⟩
  | 15 => ⟨S_, .i32⟩
  | 16 => ⟨S4x2, .i32⟩
  | 17 => ⟨S4x2, .i32⟩
  | 18 => ⟨S_, .i32⟩
  | 19 => ⟨S4x2, .i32⟩
  | 20 => ⟨S4x2, .i32⟩
  | 21 => ⟨S4x2, .i32⟩
  | 22 => ⟨S4x2, .i32⟩
  | 23 => ⟨S4x2, .i32⟩
  | 24 => ⟨S_, .i32⟩
  | 25 => ⟨S4x2, .i32⟩
  | 26 => ⟨S4x2, .i32⟩
  | 27 => ⟨S_, .i32⟩
  | 28 => ⟨S4x2, .i32⟩
  | 29 => ⟨S4x2, .i32⟩
  | 30 => ⟨S4x2, .i32⟩
  | 31 => ⟨S4x2, .i32⟩
  | 32 => ⟨S4x2, .i32⟩
  | 33 => ⟨S_, .i32⟩
  | 34 => ⟨S4x2, .i32⟩
  | 35 => ⟨S4x2, .i32⟩
  | 36 => ⟨S_, .i32⟩
  | 37 => ⟨S4x2, .i32⟩
  | 38 => ⟨S4x2, .i32⟩
  | 39 => ⟨S4x2, .i32⟩
  | 40 => ⟨S4x2, .i32⟩
  | 41 => ⟨S4x2, .i32⟩
  | 42 => ⟨S_, .i32⟩
  | 43 => ⟨S4x2, .i32⟩
  | 44 => ⟨S4x2, .i32⟩
  | 45 => ⟨S_, .i32⟩
  | 46 => ⟨S4x2, .i32⟩
  | 47 => ⟨S4x2, .i32⟩
  | 48 => ⟨S4x2, .i32⟩
  | 49 => ⟨S4x2, .i32⟩
  | 50 => ⟨S4x2, .i32⟩
  | 51 => ⟨S4x2, .i32⟩
  | 52 => ⟨S4x2, .i32⟩
  | 53 => ⟨S4x2, .i32⟩
  | 54 => ⟨S_, .i32⟩
  | 55 => ⟨S4x2, .i32⟩
  | 56 => ⟨S4x2, .i32⟩
  | 57 => ⟨S4x2, .i32⟩
  | 58 => ⟨S_, .i32⟩
  | 59 => ⟨S4x2, .i32⟩
  | 60 => ⟨S4x2, .i32⟩
  | 61 => ⟨S_, .i32⟩
  | 62 => ⟨S4x2, .i32⟩
  | 63 => ⟨S4x2, .i32⟩
  | 64 => ⟨S4x2, .i32⟩
  | 65 => ⟨S4x2, .i32⟩
  | 66 => ⟨S4x2, .i32⟩
  | 67 => ⟨S_, .i32⟩
  | 68 => ⟨S4x2, .i32⟩
  | 69 => ⟨S4x2, .i32⟩
  | 70 => ⟨S_, .i32⟩
  | 71 => ⟨S4x2, .i32⟩
  | 72 => ⟨S4x2, .i32⟩
  | 73 => ⟨S4x2, .i32⟩
  | 74 => ⟨S4x2, .i32⟩
  | 75 => ⟨S4x2, .i32⟩
  | 76 => ⟨S_, .i32⟩
  | 77 => ⟨S4x2, .i32⟩
  | 78 => ⟨S4x2, .i32⟩
  | 79 => ⟨S_, .i32⟩
  | 80 => ⟨S4x2, .i32⟩
  | 81 => ⟨S4x2, .i32⟩
  | 82 => ⟨S4x2, .i32⟩
  | 83 => ⟨S4x2, .i32⟩
  | 84 => ⟨S4x2, .i32⟩
  | 85 => ⟨S_, .i32⟩
  | 86 => ⟨S4x2, .i32⟩
  | 87 => ⟨S4x2, .i32⟩
  | 88 => ⟨S_, .i32⟩
  | 89 => ⟨S4x2, .i32⟩
  | 90 => ⟨S4x2, .i32⟩
  | 91 => ⟨S4x2, .i32⟩
  | 92 => ⟨S4x2, .i32⟩
  | 93 => ⟨S4x2, .i32⟩
  | 94 => ⟨S4x2, .i32⟩
  | 95 => ⟨S4x2, .i32⟩
  | 96 => ⟨S4x2, .i32⟩
  | 97 => ⟨S_, .i32⟩
  | 98 => ⟨S4x2, .i32⟩
  | 99 => ⟨S4x2, .i32⟩
  | 100 => ⟨S4x2, .i32⟩
  | 101 => ⟨S1x1, .i32⟩
  | 102 => ⟨S1x1, .i32⟩
  | 103 => ⟨S1x1, .i1⟩
  | 104 => ⟨S_, .i32⟩
  | 105 => ⟨S1x1, .i32⟩
  | 106 => ⟨S1x1, .i32⟩
  | 107 => ⟨S1x1, .i1⟩
  | 108 => ⟨S1x1, .i1⟩
  | 109 => ⟨S1x1, .i1⟩
  | 110 => ⟨S_, .i32⟩
  | 111 => ⟨S1x1, .i32⟩
  | 112 => ⟨S1x1, .i32⟩
  | 113 => ⟨S1x1, .i32⟩
  | 114 => ⟨S_, .i32⟩
  | 115 => ⟨S1x1, .i32⟩
  | 116 => ⟨S1x1, .i32⟩
  | 117 => ⟨S1x1, .i32⟩
  | 118 => ⟨S1x1, .i32⟩
  | 119 => ⟨S4x2, .i32⟩
  | 120 => ⟨S4x2, .i32⟩
  | 121 => ⟨S4x2, .i32⟩
  | 122 => ⟨S4x2, .i32⟩
  | 123 => ⟨S4x2, .i32⟩
  | 124 => ⟨S4x2, .i32⟩
  | 125 => ⟨S4x2, .i32⟩
  | 126 => ⟨S4x2, .i32⟩
  | 127 => ⟨S4x2, .i32⟩
  | _ => ⟨S4x8192x2048, .f32⟩

abbrev hbmTy0_8 (i : Nat) : BufTy := match i % 128 with
  | 0 => ⟨S4x2, .i32⟩
  | 1 => ⟨S4x2, .i32⟩
  | 2 => ⟨S4x2, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S1x1, .i32⟩
  | 22 => ⟨S1x1, .i32⟩
  | 23 => ⟨S1, .i32⟩
  | 24 => ⟨S_, .i32⟩
  | 25 => ⟨S1, .i32⟩
  | 26 => ⟨S_, .i32⟩
  | 27 => ⟨S2, .i64⟩
  | 28 => ⟨S_, .i64⟩
  | 29 => ⟨S2, .i64⟩
  | 30 => ⟨S2, .i64⟩
  | 31 => ⟨S_, .i64⟩
  | 32 => ⟨S2, .i64⟩
  | 33 => ⟨S2, .i64⟩
  | 34 => ⟨S2, .i32⟩
  | 35 => ⟨S2, .i32⟩
  | 36 => ⟨S_, .i32⟩
  | 37 => ⟨S_, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S2, .i32⟩
  | 79 => ⟨S2, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S2, .i32⟩
  | 122 => ⟨S2, .i32⟩
  | 123 => ⟨S2, .i32⟩
  | 124 => ⟨S2, .i32⟩
  | 125 => ⟨S2, .i32⟩
  | 126 => ⟨S_, .i32⟩
  | 127 => ⟨S2, .i32⟩
  | _ => ⟨S4x8192x2048, .f32⟩

abbrev hbmTy0_9 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S_, .i32⟩
  | 6 => ⟨S2, .i32⟩
  | 7 => ⟨S2, .i32⟩
  | 8 => ⟨S2, .i32⟩
  | 9 => ⟨S2, .i32⟩
  | 10 => ⟨S2, .i32⟩
  | 11 => ⟨S_, .i32⟩
  | 12 => ⟨S2, .i32⟩
  | 13 => ⟨S2, .i32⟩
  | 14 => ⟨S_, .i32⟩
  | 15 => ⟨S2, .i32⟩
  | 16 => ⟨S2, .i32⟩
  | 17 => ⟨S2, .i32⟩
  | 18 => ⟨S2, .i32⟩
  | 19 => ⟨S2, .i32⟩
  | 20 => ⟨S_, .i32⟩
  | 21 => ⟨S2, .i32⟩
  | 22 => ⟨S2, .i32⟩
  | 23 => ⟨S_, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S_, .i32⟩
  | 33 => ⟨S2, .i32⟩
  | 34 => ⟨S2, .i32⟩
  | 35 => ⟨S2, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S_, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S_, .i32⟩
  | 101 => ⟨S2, .i32⟩
  | 102 => ⟨S2, .i32⟩
  | 103 => ⟨S2, .i32⟩
  | 104 => ⟨S2, .i32⟩
  | 105 => ⟨S2, .i32⟩
  | 106 => ⟨S_, .i32⟩
  | 107 => ⟨S2, .i32⟩
  | 108 => ⟨S2, .i32⟩
  | 109 => ⟨S_, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S_, .i32⟩
  | 119 => ⟨S2, .i32⟩
  | 120 => ⟨S2, .i32⟩
  | 121 => ⟨S2, .i32⟩
  | 122 => ⟨S2, .i32⟩
  | 123 => ⟨S2, .i32⟩
  | 124 => ⟨S2, .i32⟩
  | 125 => ⟨S2, .i32⟩
  | 126 => ⟨S2, .i32⟩
  | 127 => ⟨S_, .i32⟩
  | _ => ⟨S4x8192x2048, .f32⟩

abbrev hbmTy0_10 (i : Nat) : BufTy := match i % 128 with
  | 0 => ⟨S2, .i32⟩
  | 1 => ⟨S2, .i32⟩
  | 2 => ⟨S2x1, .i32⟩
  | 3 => ⟨S2x1, .i32⟩
  | 4 => ⟨S2x2, .i32⟩
  | 5 => ⟨S1x2, .i32⟩
  | 6 => ⟨S2, .i32⟩
  | 7 => ⟨S1x2, .i32⟩
  | 8 => ⟨S2, .i32⟩
  | 9 => ⟨S1, .i32⟩
  | 10 => ⟨S_, .i32⟩
  | 11 => ⟨S1, .i32⟩
  | 12 => ⟨S_, .i32⟩
  | 13 => ⟨S4x2, .i64⟩
  | 14 => ⟨S4x2, .i64⟩
  | 15 => ⟨S_, .i64⟩
  | 16 => ⟨S4x2, .i64⟩
  | 17 => ⟨S4x2, .i64⟩
  | 18 => ⟨S_, .i64⟩
  | 19 => ⟨S4x2, .i64⟩
  | 20 => ⟨S4x2, .i64⟩
  | 21 => ⟨S4x2, .i64⟩
  | 22 => ⟨S_, .i64⟩
  | 23 => ⟨S4x2, .i64⟩
  | 24 => ⟨S4x2, .i64⟩
  | 25 => ⟨S4x2, .i32⟩
  | 26 => ⟨S4x2, .i32⟩
  | 27 => ⟨S_, .i32⟩
  | 28 => ⟨S_, .i32⟩
  | 29 => ⟨S_, .i32⟩
  | 30 => ⟨S4x2, .i32⟩
  | 31 => ⟨S4x2, .i32⟩
  | 32 => ⟨S4x2, .i32⟩
  | 33 => ⟨S4x2, .i32⟩
  | 34 => ⟨S4x2, .i32⟩
  | 35 => ⟨S_, .i32⟩
  | 36 => ⟨S4x2, .i32⟩
  | 37 => ⟨S4x2, .i32⟩
  | 38 => ⟨S_, .i32⟩
  | 39 => ⟨S4x2, .i32⟩
  | 40 => ⟨S4x2, .i32⟩
  | 41 => ⟨S4x2, .i32⟩
  | 42 => ⟨S4x2, .i32⟩
  | 43 => ⟨S4x2, .i32⟩
  | 44 => ⟨S_, .i32⟩
  | 45 => ⟨S4x2, .i32⟩
  | 46 => ⟨S4x2, .i32⟩
  | 47 => ⟨S_, .i32⟩
  | 48 => ⟨S4x2, .i32⟩
  | 49 => ⟨S4x2, .i32⟩
  | 50 => ⟨S4x2, .i32⟩
  | 51 => ⟨S4x2, .i32⟩
  | 52 => ⟨S4x2, .i32⟩
  | 53 => ⟨S_, .i32⟩
  | 54 => ⟨S4x2, .i32⟩
  | 55 => ⟨S4x2, .i32⟩
  | 56 => ⟨S_, .i32⟩
  | 57 => ⟨S4x2, .i32⟩
  | 58 => ⟨S4x2, .i32⟩
  | 59 => ⟨S4x2, .i32⟩
  | 60 => ⟨S4x2, .i32⟩
  | 61 => ⟨S4x2, .i32⟩
  | 62 => ⟨S_, .i32⟩
  | 63 => ⟨S4x2, .i32⟩
  | 64 => ⟨S4x2, .i32⟩
  | 65 => ⟨S_, .i32⟩
  | 66 => ⟨S4x2, .i32⟩
  | 67 => ⟨S4x2, .i32⟩
  | 68 => ⟨S4x2, .i32⟩
  | 69 => ⟨S4x2, .i32⟩
  | 70 => ⟨S4x2, .i32⟩
  | 71 => ⟨S4x2, .i32⟩
  | 72 => ⟨S4x2, .i32⟩
  | 73 => ⟨S4x2, .i32⟩
  | 74 => ⟨S_, .i32⟩
  | 75 => ⟨S4x2, .i32⟩
  | 76 => ⟨S4x2, .i32⟩
  | 77 => ⟨S4x2, .i32⟩
  | 78 => ⟨S_, .i32⟩
  | 79 => ⟨S4x2, .i32⟩
  | 80 => ⟨S4x2, .i32⟩
  | 81 => ⟨S_, .i32⟩
  | 82 => ⟨S4x2, .i32⟩
  | 83 => ⟨S4x2, .i32⟩
  | 84 => ⟨S4x2, .i32⟩
  | 85 => ⟨S4x2, .i32⟩
  | 86 => ⟨S4x2, .i32⟩
  | 87 => ⟨S_, .i32⟩
  | 88 => ⟨S4x2, .i32⟩
  | 89 => ⟨S4x2, .i32⟩
  | 90 => ⟨S_, .i32⟩
  | 91 => ⟨S4x2, .i32⟩
  | 92 => ⟨S4x2, .i32⟩
  | 93 => ⟨S4x2, .i32⟩
  | 94 => ⟨S4x2, .i32⟩
  | 95 => ⟨S4x2, .i32⟩
  | 96 => ⟨S_, .i32⟩
  | 97 => ⟨S4x2, .i32⟩
  | 98 => ⟨S4x2, .i32⟩
  | 99 => ⟨S_, .i32⟩
  | 100 => ⟨S4x2, .i32⟩
  | 101 => ⟨S4x2, .i32⟩
  | 102 => ⟨S4x2, .i32⟩
  | 103 => ⟨S4x2, .i32⟩
  | 104 => ⟨S4x2, .i32⟩
  | 105 => ⟨S_, .i32⟩
  | 106 => ⟨S4x2, .i32⟩
  | 107 => ⟨S4x2, .i32⟩
  | 108 => ⟨S_, .i32⟩
  | 109 => ⟨S4x2, .i32⟩
  | 110 => ⟨S4x2, .i32⟩
  | 111 => ⟨S4x2, .i32⟩
  | 112 => ⟨S4x2, .i32⟩
  | 113 => ⟨S4x2, .i32⟩
  | 114 => ⟨S4x2, .i32⟩
  | 115 => ⟨S4x2, .i32⟩
  | 116 => ⟨S4x2, .i32⟩
  | 117 => ⟨S_, .i32⟩
  | 118 => ⟨S4x2, .i32⟩
  | 119 => ⟨S4x2, .i32⟩
  | 120 => ⟨S4x2, .i32⟩
  | 121 => ⟨S_, .i32⟩
  | 122 => ⟨S4x2, .i32⟩
  | 123 => ⟨S4x2, .i32⟩
  | 124 => ⟨S_, .i32⟩
  | 125 => ⟨S4x2, .i32⟩
  | 126 => ⟨S4x2, .i32⟩
  | 127 => ⟨S4x2, .i32⟩
  | _ => ⟨S4x8192x2048, .f32⟩

abbrev hbmTy0_11 (i : Nat) : BufTy := match i % 128 with
  | 0 => ⟨S4x2, .i32⟩
  | 1 => ⟨S4x2, .i32⟩
  | 2 => ⟨S_, .i32⟩
  | 3 => ⟨S4x2, .i32⟩
  | 4 => ⟨S4x2, .i32⟩
  | 5 => ⟨S_, .i32⟩
  | 6 => ⟨S4x2, .i32⟩
  | 7 => ⟨S4x2, .i32⟩
  | 8 => ⟨S4x2, .i32⟩
  | 9 => ⟨S4x2, .i32⟩
  | 10 => ⟨S4x2, .i32⟩
  | 11 => ⟨S_, .i32⟩
  | 12 => ⟨S4x2, .i32⟩
  | 13 => ⟨S4x2, .i32⟩
  | 14 => ⟨S_, .i32⟩
  | 15 => ⟨S4x2, .i32⟩
  | 16 => ⟨S4x2, .i32⟩
  | 17 => ⟨S4x2, .i32⟩
  | 18 => ⟨S4x2, .i32⟩
  | 19 => ⟨S4x2, .i32⟩
  | 20 => ⟨S_, .i32⟩
  | 21 => ⟨S4x2, .i32⟩
  | 22 => ⟨S4x2, .i32⟩
  | 23 => ⟨S_, .i32⟩
  | 24 => ⟨S4x2, .i32⟩
  | 25 => ⟨S4x2, .i32⟩
  | 26 => ⟨S4x2, .i32⟩
  | 27 => ⟨S4x2, .i32⟩
  | 28 => ⟨S4x2, .i32⟩
  | 29 => ⟨S4x2, .i32⟩
  | 30 => ⟨S4x2, .i32⟩
  | 31 => ⟨S4x2, .i32⟩
  | 32 => ⟨S_, .i32⟩
  | 33 => ⟨S4x2, .i32⟩
  | 34 => ⟨S4x2, .i32⟩
  | 35 => ⟨S4x2, .i32⟩
  | 36 => ⟨S_, .i32⟩
  | 37 => ⟨S4x2, .i32⟩
  | 38 => ⟨S4x2, .i32⟩
  | 39 => ⟨S_, .i32⟩
  | 40 => ⟨S4x2, .i32⟩
  | 41 => ⟨S4x2, .i32⟩
  | 42 => ⟨S4x2, .i32⟩
  | 43 => ⟨S4x2, .i32⟩
  | 44 => ⟨S4x2, .i32⟩
  | 45 => ⟨S_, .i32⟩
  | 46 => ⟨S4x2, .i32⟩
  | 47 => ⟨S4x2, .i32⟩
  | 48 => ⟨S_, .i32⟩
  | 49 => ⟨S4x2, .i32⟩
  | 50 => ⟨S4x2, .i32⟩
  | 51 => ⟨S4x2, .i32⟩
  | 52 => ⟨S4x2, .i32⟩
  | 53 => ⟨S4x2, .i32⟩
  | 54 => ⟨S_, .i32⟩
  | 55 => ⟨S4x2, .i32⟩
  | 56 => ⟨S4x2, .i32⟩
  | 57 => ⟨S_, .i32⟩
  | 58 => ⟨S4x2, .i32⟩
  | 59 => ⟨S4x2, .i32⟩
  | 60 => ⟨S4x2, .i32⟩
  | 61 => ⟨S4x2, .i32⟩
  | 62 => ⟨S4x2, .i32⟩
  | 63 => ⟨S_, .i32⟩
  | 64 => ⟨S4x2, .i32⟩
  | 65 => ⟨S4x2, .i32⟩
  | 66 => ⟨S_, .i32⟩
  | 67 => ⟨S4x2, .i32⟩
  | 68 => ⟨S4x2, .i32⟩
  | 69 => ⟨S4x2, .i32⟩
  | 70 => ⟨S4x2, .i32⟩
  | 71 => ⟨S4x2, .i32⟩
  | 72 => ⟨S4x2, .i32⟩
  | 73 => ⟨S4x2, .i32⟩
  | 74 => ⟨S4x2, .i32⟩
  | 75 => ⟨S_, .i32⟩
  | 76 => ⟨S4x2, .i32⟩
  | 77 => ⟨S4x2, .i32⟩
  | 78 => ⟨S4x2, .i32⟩
  | 79 => ⟨S_, .i32⟩
  | 80 => ⟨S4x2, .i32⟩
  | 81 => ⟨S4x2, .i32⟩
  | 82 => ⟨S_, .i32⟩
  | 83 => ⟨S4x2, .i32⟩
  | 84 => ⟨S4x2, .i32⟩
  | 85 => ⟨S4x2, .i32⟩
  | 86 => ⟨S4x2, .i32⟩
  | 87 => ⟨S4x2, .i32⟩
  | 88 => ⟨S_, .i32⟩
  | 89 => ⟨S4x2, .i32⟩
  | 90 => ⟨S4x2, .i32⟩
  | 91 => ⟨S_, .i32⟩
  | 92 => ⟨S4x2, .i32⟩
  | 93 => ⟨S4x2, .i32⟩
  | 94 => ⟨S4x2, .i32⟩
  | 95 => ⟨S4x2, .i32⟩
  | 96 => ⟨S4x2, .i32⟩
  | 97 => ⟨S_, .i32⟩
  | 98 => ⟨S4x2, .i32⟩
  | 99 => ⟨S4x2, .i32⟩
  | 100 => ⟨S_, .i32⟩
  | 101 => ⟨S4x2, .i32⟩
  | 102 => ⟨S4x2, .i32⟩
  | 103 => ⟨S4x2, .i32⟩
  | 104 => ⟨S4x2, .i32⟩
  | 105 => ⟨S4x2, .i32⟩
  | 106 => ⟨S_, .i32⟩
  | 107 => ⟨S4x2, .i32⟩
  | 108 => ⟨S4x2, .i32⟩
  | 109 => ⟨S_, .i32⟩
  | 110 => ⟨S4x2, .i32⟩
  | 111 => ⟨S4x2, .i32⟩
  | 112 => ⟨S4x2, .i32⟩
  | 113 => ⟨S4x2, .i32⟩
  | 114 => ⟨S4x2, .i32⟩
  | 115 => ⟨S4x2, .i32⟩
  | 116 => ⟨S4x2, .i32⟩
  | 117 => ⟨S4x2, .i32⟩
  | 118 => ⟨S_, .i32⟩
  | 119 => ⟨S4x2, .i32⟩
  | 120 => ⟨S4x2, .i32⟩
  | 121 => ⟨S4x2, .i32⟩
  | 122 => ⟨S1, .i32⟩
  | 123 => ⟨S_, .i32⟩
  | 124 => ⟨S1, .i32⟩
  | 125 => ⟨S_, .i32⟩
  | 126 => ⟨S4x2, .i64⟩
  | 127 => ⟨S4x2, .i64⟩
  | _ => ⟨S4x8192x2048, .f32⟩

abbrev hbmTy0_12 (i : Nat) : BufTy := match i % 128 with
  | 0 => ⟨S_, .i64⟩
  | 1 => ⟨S4x2, .i64⟩
  | 2 => ⟨S4x2, .i64⟩
  | 3 => ⟨S_, .i64⟩
  | 4 => ⟨S4x2, .i64⟩
  | 5 => ⟨S4x2, .i64⟩
  | 6 => ⟨S4x2, .i64⟩
  | 7 => ⟨S_, .i64⟩
  | 8 => ⟨S4x2, .i64⟩
  | 9 => ⟨S4x2, .i64⟩
  | 10 => ⟨S4x2, .i32⟩
  | 11 => ⟨S4x2, .i32⟩
  | 12 => ⟨S_, .i32⟩
  | 13 => ⟨S_, .i32⟩
  | 14 => ⟨S_, .i32⟩
  | 15 => ⟨S4x2, .i32⟩
  | 16 => ⟨S4x2, .i32⟩
  | 17 => ⟨S4x2, .i32⟩
  | 18 => ⟨S4x2, .i32⟩
  | 19 => ⟨S4x2, .i32⟩
  | 20 => ⟨S_, .i32⟩
  | 21 => ⟨S4x2, .i32⟩
  | 22 => ⟨S4x2, .i32⟩
  | 23 => ⟨S_, .i32⟩
  | 24 => ⟨S4x2, .i32⟩
  | 25 => ⟨S4x2, .i32⟩
  | 26 => ⟨S4x2, .i32⟩
  | 27 => ⟨S4x2, .i32⟩
  | 28 => ⟨S4x2, .i32⟩
  | 29 => ⟨S_, .i32⟩
  | 30 => ⟨S4x2, .i32⟩
  | 31 => ⟨S4x2, .i32⟩
  | 32 => ⟨S_, .i32⟩
  | 33 => ⟨S4x2, .i32⟩
  | 34 => ⟨S4x2, .i32⟩
  | 35 => ⟨S4x2, .i32⟩
  | 36 => ⟨S4x2, .i32⟩
  | 37 => ⟨S4x2, .i32⟩
  | 38 => ⟨S_, .i32⟩
  | 39 => ⟨S4x2, .i32⟩
  | 40 => ⟨S4x2, .i32⟩
  | 41 => ⟨S_, .i32⟩
  | 42 => ⟨S4x2, .i32⟩
  | 43 => ⟨S4x2, .i32⟩
  | 44 => ⟨S4x2, .i32⟩
  | 45 => ⟨S4x2, .i32⟩
  | 46 => ⟨S4x2, .i32⟩
  | 47 => ⟨S_, .i32⟩
  | 48 => ⟨S4x2, .i32⟩
  | 49 => ⟨S4x2, .i32⟩
  | 50 => ⟨S_, .i32⟩
  | 51 => ⟨S4x2, .i32⟩
  | 52 => ⟨S4x2, .i32⟩
  | 53 => ⟨S4x2, .i32⟩
  | 54 => ⟨S4x2, .i32⟩
  | 55 => ⟨S4x2, .i32⟩
  | 56 => ⟨S4x2, .i32⟩
  | 57 => ⟨S4x2, .i32⟩
  | 58 => ⟨S4x2, .i32⟩
  | 59 => ⟨S_, .i32⟩
  | 60 => ⟨S4x2, .i32⟩
  | 61 => ⟨S4x2, .i32⟩
  | 62 => ⟨S4x2, .i32⟩
  | 63 => ⟨S_, .i32⟩
  | 64 => ⟨S4x2, .i32⟩
  | 65 => ⟨S4x2, .i32⟩
  | 66 => ⟨S_, .i32⟩
  | 67 => ⟨S4x2, .i32⟩
  | 68 => ⟨S4x2, .i32⟩
  | 69 => ⟨S4x2, .i32⟩
  | 70 => ⟨S4x2, .i32⟩
  | 71 => ⟨S4x2, .i32⟩
  | 72 => ⟨S_, .i32⟩
  | 73 => ⟨S4x2, .i32⟩
  | 74 => ⟨S4x2, .i32⟩
  | 75 => ⟨S_, .i32⟩
  | 76 => ⟨S4x2, .i32⟩
  | 77 => ⟨S4x2, .i32⟩
  | 78 => ⟨S4x2, .i32⟩
  | 79 => ⟨S4x2, .i32⟩
  | 80 => ⟨S4x2, .i32⟩
  | 81 => ⟨S_, .i32⟩
  | 82 => ⟨S4x2, .i32⟩
  | 83 => ⟨S4x2, .i32⟩
  | 84 => ⟨S_, .i32⟩
  | 85 => ⟨S4x2, .i32⟩
  | 86 => ⟨S4x2, .i32⟩
  | 87 => ⟨S4x2, .i32⟩
  | 88 => ⟨S4x2, .i32⟩
  | 89 => ⟨S4x2, .i32⟩
  | 90 => ⟨S_, .i32⟩
  | 91 => ⟨S4x2, .i32⟩
  | 92 => ⟨S4x2, .i32⟩
  | 93 => ⟨S_, .i32⟩
  | 94 => ⟨S4x2, .i32⟩
  | 95 => ⟨S4x2, .i32⟩
  | 96 => ⟨S4x2, .i32⟩
  | 97 => ⟨S4x2, .i32⟩
  | 98 => ⟨S4x2, .i32⟩
  | 99 => ⟨S4x2, .i32⟩
  | 100 => ⟨S4x2, .i32⟩
  | 101 => ⟨S4x2, .i32⟩
  | 102 => ⟨S_, .i32⟩
  | 103 => ⟨S4x2, .i32⟩
  | 104 => ⟨S4x2, .i32⟩
  | 105 => ⟨S4x2, .i32⟩
  | 106 => ⟨S_, .i32⟩
  | 107 => ⟨S4x2, .i32⟩
  | 108 => ⟨S4x2, .i32⟩
  | 109 => ⟨S_, .i32⟩
  | 110 => ⟨S4x2, .i32⟩
  | 111 => ⟨S4x2, .i32⟩
  | 112 => ⟨S4x2, .i32⟩
  | 113 => ⟨S4x2, .i32⟩
  | 114 => ⟨S4x2, .i32⟩
  | 115 => ⟨S_, .i32⟩
  | 116 => ⟨S4x2, .i32⟩
  | 117 => ⟨S4x2, .i32⟩
  | 118 => ⟨S_, .i32⟩
  | 119 => ⟨S4x2, .i32⟩
  | 120 => ⟨S4x2, .i32⟩
  | 121 => ⟨S4x2, .i32⟩
  | 122 => ⟨S4x2, .i32⟩
  | 123 => ⟨S4x2, .i32⟩
  | 124 => ⟨S_, .i32⟩
  | 125 => ⟨S4x2, .i32⟩
  | 126 => ⟨S4x2, .i32⟩
  | 127 => ⟨S_, .i32⟩
  | _ => ⟨S4x8192x2048, .f32⟩

abbrev hbmTy0_13 (i : Nat) : BufTy := match i % 128 with
  | 0 => ⟨S4x2, .i32⟩
  | 1 => ⟨S4x2, .i32⟩
  | 2 => ⟨S4x2, .i32⟩
  | 3 => ⟨S4x2, .i32⟩
  | 4 => ⟨S4x2, .i32⟩
  | 5 => ⟨S_, .i32⟩
  | 6 => ⟨S4x2, .i32⟩
  | 7 => ⟨S4x2, .i32⟩
  | 8 => ⟨S_, .i32⟩
  | 9 => ⟨S4x2, .i32⟩
  | 10 => ⟨S4x2, .i32⟩
  | 11 => ⟨S4x2, .i32⟩
  | 12 => ⟨S4x2, .i32⟩
  | 13 => ⟨S4x2, .i32⟩
  | 14 => ⟨S4x2, .i32⟩
  | 15 => ⟨S4x2, .i32⟩
  | 16 => ⟨S4x2, .i32⟩
  | 17 => ⟨S_, .i32⟩
  | 18 => ⟨S4x2, .i32⟩
  | 19 => ⟨S4x2, .i32⟩
  | 20 => ⟨S4x2, .i32⟩
  | 21 => ⟨S_, .i32⟩
  | 22 => ⟨S4x2, .i32⟩
  | 23 => ⟨S4x2, .i32⟩
  | 24 => ⟨S_, .i32⟩
  | 25 => ⟨S4x2, .i32⟩
  | 26 => ⟨S4x2, .i32⟩
  | 27 => ⟨S4x2, .i32⟩
  | 28 => ⟨S4x2, .i32⟩
  | 29 => ⟨S4x2, .i32⟩
  | 30 => ⟨S_, .i32⟩
  | 31 => ⟨S4x2, .i32⟩
  | 32 => ⟨S4x2, .i32⟩
  | 33 => ⟨S_, .i32⟩
  | 34 => ⟨S4x2, .i32⟩
  | 35 => ⟨S4x2, .i32⟩
  | 36 => ⟨S4x2, .i32⟩
  | 37 => ⟨S4x2, .i32⟩
  | 38 => ⟨S4x2, .i32⟩
  | 39 => ⟨S_, .i32⟩
  | 40 => ⟨S4x2, .i32⟩
  | 41 => ⟨S4x2, .i32⟩
  | 42 => ⟨S_, .i32⟩
  | 43 => ⟨S4x2, .i32⟩
  | 44 => ⟨S4x2, .i32⟩
  | 45 => ⟨S4x2, .i32⟩
  | 46 => ⟨S4x2, .i32⟩
  | 47 => ⟨S4x2, .i32⟩
  | 48 => ⟨S_, .i32⟩
  | 49 => ⟨S4x2, .i32⟩
  | 50 => ⟨S4x2, .i32⟩
  | 51 => ⟨S_, .i32⟩
  | 52 => ⟨S4x2, .i32⟩
  | 53 => ⟨S4x2, .i32⟩
  | 54 => ⟨S4x2, .i32⟩
  | 55 => ⟨S4x2, .i32⟩
  | 56 => ⟨S4x2, .i32⟩
  | 57 => ⟨S4x2, .i32⟩
  | 58 => ⟨S4x2, .i32⟩
  | 59 => ⟨S4x2, .i32⟩
  | 60 => ⟨S_, .i32⟩
  | 61 => ⟨S4x2, .i32⟩
  | 62 => ⟨S4x2, .i32⟩
  | 63 => ⟨S4x2, .i32⟩
  | 64 => ⟨S_, .i32⟩
  | 65 => ⟨S4x2, .i32⟩
  | 66 => ⟨S4x2, .i32⟩
  | 67 => ⟨S_, .i32⟩
  | 68 => ⟨S4x2, .i32⟩
  | 69 => ⟨S4x2, .i32⟩
  | 70 => ⟨S4x2, .i32⟩
  | 71 => ⟨S4x2, .i32⟩
  | 72 => ⟨S4x2, .i32⟩
  | 73 => ⟨S_, .i32⟩
  | 74 => ⟨S4x2, .i32⟩
  | 75 => ⟨S4x2, .i32⟩
  | 76 => ⟨S_, .i32⟩
  | 77 => ⟨S4x2, .i32⟩
  | 78 => ⟨S4x2, .i32⟩
  | 79 => ⟨S4x2, .i32⟩
  | 80 => ⟨S4x2, .i32⟩
  | 81 => ⟨S4x2, .i32⟩
  | 82 => ⟨S_, .i32⟩
  | 83 => ⟨S4x2, .i32⟩
  | 84 => ⟨S4x2, .i32⟩
  | 85 => ⟨S_, .i32⟩
  | 86 => ⟨S4x2, .i32⟩
  | 87 => ⟨S4x2, .i32⟩
  | 88 => ⟨S4x2, .i32⟩
  | 89 => ⟨S4x2, .i32⟩
  | 90 => ⟨S4x2, .i32⟩
  | 91 => ⟨S_, .i32⟩
  | 92 => ⟨S4x2, .i32⟩
  | 93 => ⟨S4x2, .i32⟩
  | 94 => ⟨S_, .i32⟩
  | 95 => ⟨S4x2, .i32⟩
  | 96 => ⟨S4x2, .i32⟩
  | 97 => ⟨S4x2, .i32⟩
  | 98 => ⟨S4x2, .i32⟩
  | 99 => ⟨S4x2, .i32⟩
  | 100 => ⟨S4x2, .i32⟩
  | 101 => ⟨S4x2, .i32⟩
  | 102 => ⟨S4x2, .i32⟩
  | 103 => ⟨S_, .i32⟩
  | 104 => ⟨S4x2, .i32⟩
  | 105 => ⟨S4x2, .i32⟩
  | 106 => ⟨S4x2, .i32⟩
  | 107 => ⟨S1x1, .i32⟩
  | 108 => ⟨S1x1, .i32⟩
  | 109 => ⟨S1x1, .i1⟩
  | 110 => ⟨S_, .i32⟩
  | 111 => ⟨S1x1, .i32⟩
  | 112 => ⟨S1x1, .i32⟩
  | 113 => ⟨S1x1, .i1⟩
  | 114 => ⟨S1x1, .i1⟩
  | 115 => ⟨S1x1, .i1⟩
  | 116 => ⟨S_, .i32⟩
  | 117 => ⟨S1x1, .i32⟩
  | 118 => ⟨S1x1, .i32⟩
  | 119 => ⟨S1x1, .i32⟩
  | 120 => ⟨S_, .i32⟩
  | 121 => ⟨S1x1, .i32⟩
  | 122 => ⟨S1x1, .i32⟩
  | 123 => ⟨S1x1, .i32⟩
  | 124 => ⟨S1x1, .i32⟩
  | 125 => ⟨S4x2, .i32⟩
  | 126 => ⟨S4x2, .i32⟩
  | 127 => ⟨S4x2, .i32⟩
  | _ => ⟨S4x8192x2048, .f32⟩

abbrev hbmTy0_14 (i : Nat) : BufTy := match i % 128 with
  | 0 => ⟨S4x2, .i32⟩
  | 1 => ⟨S4x2, .i32⟩
  | 2 => ⟨S4x2, .i32⟩
  | 3 => ⟨S4x2, .i32⟩
  | 4 => ⟨S4x2, .i32⟩
  | 5 => ⟨S4x2, .i32⟩
  | 6 => ⟨S4x2, .i32⟩
  | 7 => ⟨S4x2, .i32⟩
  | 8 => ⟨S4x2, .i32⟩
  | 9 => ⟨S_, .i32⟩
  | 10 => ⟨S4x2, .i32⟩
  | 11 => ⟨S4x2, .i32⟩
  | 12 => ⟨S4x2, .i32⟩
  | 13 => ⟨S8192, .i32⟩
  | 14 => ⟨S1x1x8192, .i32⟩
  | 15 => ⟨S4x2x1, .i32⟩
  | 16 => ⟨S4x2x8192, .i32⟩
  | 17 => ⟨S4x2x8192, .i32⟩
  | 18 => ⟨S4x2x8192, .i1⟩
  | 19 => ⟨S1x1x8192, .i32⟩
  | 20 => ⟨S4x2, .i32⟩
  | 21 => ⟨S4x2x1, .i32⟩
  | 22 => ⟨S4x2x8192, .i32⟩
  | 23 => ⟨S4x2x8192, .i32⟩
  | 24 => ⟨S4x2x8192, .i1⟩
  | 25 => ⟨S4x2x8192, .i1⟩
  | 26 => ⟨S_, .i1⟩
  | 27 => ⟨S4x8192, .i1⟩
  | 28 => ⟨S4x8192x1, .i1⟩
  | 29 => ⟨S_, .f32⟩
  | 30 => ⟨S4x8192x2048, .i1⟩
  | 31 => ⟨S4x8192x2048, .f32⟩
  | 32 => ⟨S4x8192x2048, .f32⟩
  | _ => ⟨S4x8192x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | _ => ⟨S4x8192x2048, .f32⟩

abbrev bufTy : (tb : Table) → Fin (tcTables nBuf tb) → BufTy
  | .hbm, ⟨i, _⟩ => hbmTy i
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c : Ref sig .tc := ⟨.hbm, 16, rfl⟩
abbrev main_call0_v5 : Ref sig .tc := ⟨.hbm, 17, rfl⟩
abbrev main_call0_v6 : Ref sig .tc := ⟨.hbm, 18, rfl⟩
abbrev main_call0_c_0 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_call0_v0 : Ref sig .tc := ⟨.hbm, 24, rfl⟩
abbrev main_call0_call0_c : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_c_0 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_c_1 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_call0_v12 : Ref sig .tc := ⟨.hbm, 39, rfl⟩
abbrev main_call0_call0_v13 : Ref sig .tc := ⟨.hbm, 40, rfl⟩
abbrev main_call0_call0_c_2 : Ref sig .tc := ⟨.hbm, 41, rfl⟩
abbrev main_call0_call0_v14 : Ref sig .tc := ⟨.hbm, 42, rfl⟩
abbrev main_call0_call0_v15 : Ref sig .tc := ⟨.hbm, 43, rfl⟩
abbrev main_call0_call0_c_3 : Ref sig .tc := ⟨.hbm, 44, rfl⟩
abbrev main_call0_call0_v16 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_c_4 : Ref sig .tc := ⟨.hbm, 50, rfl⟩
abbrev main_call0_call0_v21 : Ref sig .tc := ⟨.hbm, 51, rfl⟩
abbrev main_call0_call0_v22 : Ref sig .tc := ⟨.hbm, 52, rfl⟩
abbrev main_call0_call0_c_5 : Ref sig .tc := ⟨.hbm, 53, rfl⟩
abbrev main_call0_call0_v23 : Ref sig .tc := ⟨.hbm, 54, rfl⟩
abbrev main_call0_call0_v24 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_v27 : Ref sig .tc := ⟨.hbm, 58, rfl⟩
abbrev main_call0_call0_c_6 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_c_7 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_v32 : Ref sig .tc := ⟨.hbm, 65, rfl⟩
abbrev main_call0_call0_v33 : Ref sig .tc := ⟨.hbm, 66, rfl⟩
abbrev main_call0_call0_v34 : Ref sig .tc := ⟨.hbm, 67, rfl⟩
abbrev main_call0_call0_v35 : Ref sig .tc := ⟨.hbm, 68, rfl⟩
abbrev main_call0_call0_v36 : Ref sig .tc := ⟨.hbm, 69, rfl⟩
abbrev main_call0_call0_v37 : Ref sig .tc := ⟨.hbm, 70, rfl⟩
abbrev main_call0_call0_c_8 : Ref sig .tc := ⟨.hbm, 71, rfl⟩
abbrev main_call0_call0_v38 : Ref sig .tc := ⟨.hbm, 72, rfl⟩
abbrev main_call0_call0_v39 : Ref sig .tc := ⟨.hbm, 73, rfl⟩
abbrev main_call0_call0_v40 : Ref sig .tc := ⟨.hbm, 74, rfl⟩
abbrev main_call0_call0_c_9 : Ref sig .tc := ⟨.hbm, 75, rfl⟩
abbrev main_call0_call0_v41 : Ref sig .tc := ⟨.hbm, 76, rfl⟩
abbrev main_call0_call0_v42 : Ref sig .tc := ⟨.hbm, 77, rfl⟩
abbrev main_call0_call0_c_10 : Ref sig .tc := ⟨.hbm, 78, rfl⟩
abbrev main_call0_call0_v43 : Ref sig .tc := ⟨.hbm, 79, rfl⟩
abbrev main_call0_call0_v44 : Ref sig .tc := ⟨.hbm, 80, rfl⟩
abbrev main_call0_call0_v45 : Ref sig .tc := ⟨.hbm, 81, rfl⟩
abbrev main_call0_call0_v46 : Ref sig .tc := ⟨.hbm, 82, rfl⟩
abbrev main_call0_call0_v47 : Ref sig .tc := ⟨.hbm, 83, rfl⟩
abbrev main_call0_call0_c_11 : Ref sig .tc := ⟨.hbm, 84, rfl⟩
abbrev main_call0_call0_v48 : Ref sig .tc := ⟨.hbm, 85, rfl⟩
abbrev main_call0_call0_v49 : Ref sig .tc := ⟨.hbm, 86, rfl⟩
abbrev main_call0_call0_c_12 : Ref sig .tc := ⟨.hbm, 87, rfl⟩
abbrev main_call0_call0_v50 : Ref sig .tc := ⟨.hbm, 88, rfl⟩
abbrev main_call0_call0_v51 : Ref sig .tc := ⟨.hbm, 89, rfl⟩
abbrev main_call0_call0_v52 : Ref sig .tc := ⟨.hbm, 90, rfl⟩
abbrev main_call0_call0_v53 : Ref sig .tc := ⟨.hbm, 91, rfl⟩
abbrev main_call0_call0_v54 : Ref sig .tc := ⟨.hbm, 92, rfl⟩
abbrev main_call0_call0_c_13 : Ref sig .tc := ⟨.hbm, 93, rfl⟩
abbrev main_call0_call0_v55 : Ref sig .tc := ⟨.hbm, 94, rfl⟩
abbrev main_call0_call0_v56 : Ref sig .tc := ⟨.hbm, 95, rfl⟩
abbrev main_call0_call0_c_14 : Ref sig .tc := ⟨.hbm, 96, rfl⟩
abbrev main_call0_call0_v57 : Ref sig .tc := ⟨.hbm, 97, rfl⟩
abbrev main_call0_call0_v58 : Ref sig .tc := ⟨.hbm, 98, rfl⟩
abbrev main_call0_call0_v59 : Ref sig .tc := ⟨.hbm, 99, rfl⟩
abbrev main_call0_call0_v60 : Ref sig .tc := ⟨.hbm, 100, rfl⟩
abbrev main_call0_call0_v61 : Ref sig .tc := ⟨.hbm, 101, rfl⟩
abbrev main_call0_call0_c_15 : Ref sig .tc := ⟨.hbm, 102, rfl⟩
abbrev main_call0_call0_v62 : Ref sig .tc := ⟨.hbm, 103, rfl⟩
abbrev main_call0_call0_v63 : Ref sig .tc := ⟨.hbm, 104, rfl⟩
abbrev main_call0_call0_c_16 : Ref sig .tc := ⟨.hbm, 105, rfl⟩
abbrev main_call0_call0_v64 : Ref sig .tc := ⟨.hbm, 106, rfl⟩
abbrev main_call0_call0_v65 : Ref sig .tc := ⟨.hbm, 107, rfl⟩
abbrev main_call0_call0_v66 : Ref sig .tc := ⟨.hbm, 108, rfl⟩
abbrev main_call0_call0_v67 : Ref sig .tc := ⟨.hbm, 109, rfl⟩
abbrev main_call0_call0_v68 : Ref sig .tc := ⟨.hbm, 110, rfl⟩
abbrev main_call0_call0_v69 : Ref sig .tc := ⟨.hbm, 111, rfl⟩
abbrev main_call0_call0_v70 : Ref sig .tc := ⟨.hbm, 112, rfl⟩
abbrev main_call0_call0_v71 : Ref sig .tc := ⟨.hbm, 113, rfl⟩
abbrev main_call0_call0_c_17 : Ref sig .tc := ⟨.hbm, 114, rfl⟩
abbrev main_call0_call0_v72 : Ref sig .tc := ⟨.hbm, 115, rfl⟩
abbrev main_call0_call0_v73 : Ref sig .tc := ⟨.hbm, 116, rfl⟩
abbrev main_call0_call0_v74 : Ref sig .tc := ⟨.hbm, 117, rfl⟩
abbrev main_call0_call0_c_18 : Ref sig .tc := ⟨.hbm, 118, rfl⟩
abbrev main_call0_call0_v75 : Ref sig .tc := ⟨.hbm, 119, rfl⟩
abbrev main_call0_call0_v76 : Ref sig .tc := ⟨.hbm, 120, rfl⟩
abbrev main_call0_call0_c_19 : Ref sig .tc := ⟨.hbm, 121, rfl⟩
abbrev main_call0_call0_v77 : Ref sig .tc := ⟨.hbm, 122, rfl⟩
abbrev main_call0_call0_v78 : Ref sig .tc := ⟨.hbm, 123, rfl⟩
abbrev main_call0_call0_v79 : Ref sig .tc := ⟨.hbm, 124, rfl⟩
abbrev main_call0_call0_v80 : Ref sig .tc := ⟨.hbm, 125, rfl⟩
abbrev main_call0_call0_v81 : Ref sig .tc := ⟨.hbm, 126, rfl⟩
abbrev main_call0_call0_c_20 : Ref sig .tc := ⟨.hbm, 127, rfl⟩
abbrev main_call0_call0_v82 : Ref sig .tc := ⟨.hbm, 128, rfl⟩
abbrev main_call0_call0_v83 : Ref sig .tc := ⟨.hbm, 129, rfl⟩
abbrev main_call0_call0_c_21 : Ref sig .tc := ⟨.hbm, 130, rfl⟩
abbrev main_call0_call0_v84 : Ref sig .tc := ⟨.hbm, 131, rfl⟩
abbrev main_call0_call0_v85 : Ref sig .tc := ⟨.hbm, 132, rfl⟩
abbrev main_call0_call0_v86 : Ref sig .tc := ⟨.hbm, 133, rfl⟩
abbrev main_call0_call0_v87 : Ref sig .tc := ⟨.hbm, 134, rfl⟩
abbrev main_call0_call0_v88 : Ref sig .tc := ⟨.hbm, 135, rfl⟩
abbrev main_call0_call0_c_22 : Ref sig .tc := ⟨.hbm, 136, rfl⟩
abbrev main_call0_call0_v89 : Ref sig .tc := ⟨.hbm, 137, rfl⟩
abbrev main_call0_call0_v90 : Ref sig .tc := ⟨.hbm, 138, rfl⟩
abbrev main_call0_call0_c_23 : Ref sig .tc := ⟨.hbm, 139, rfl⟩
abbrev main_call0_call0_v91 : Ref sig .tc := ⟨.hbm, 140, rfl⟩
abbrev main_call0_call0_v92 : Ref sig .tc := ⟨.hbm, 141, rfl⟩
abbrev main_call0_call0_v93 : Ref sig .tc := ⟨.hbm, 142, rfl⟩
abbrev main_call0_call0_v94 : Ref sig .tc := ⟨.hbm, 143, rfl⟩
abbrev main_call0_call0_v95 : Ref sig .tc := ⟨.hbm, 144, rfl⟩
abbrev main_call0_call0_c_24 : Ref sig .tc := ⟨.hbm, 145, rfl⟩
abbrev main_call0_call0_v96 : Ref sig .tc := ⟨.hbm, 146, rfl⟩
abbrev main_call0_call0_v97 : Ref sig .tc := ⟨.hbm, 147, rfl⟩
abbrev main_call0_call0_c_25 : Ref sig .tc := ⟨.hbm, 148, rfl⟩
abbrev main_call0_call0_v98 : Ref sig .tc := ⟨.hbm, 149, rfl⟩
abbrev main_call0_call0_v99 : Ref sig .tc := ⟨.hbm, 150, rfl⟩
abbrev main_call0_call0_v100 : Ref sig .tc := ⟨.hbm, 151, rfl⟩
abbrev main_call0_call0_v101 : Ref sig .tc := ⟨.hbm, 152, rfl⟩
abbrev main_call0_call0_v102 : Ref sig .tc := ⟨.hbm, 153, rfl⟩
abbrev main_call0_call0_v103 : Ref sig .tc := ⟨.hbm, 154, rfl⟩
abbrev main_call0_call0_v104 : Ref sig .tc := ⟨.hbm, 155, rfl⟩
abbrev main_call0_call0_v105 : Ref sig .tc := ⟨.hbm, 156, rfl⟩
abbrev main_call0_call0_c_26 : Ref sig .tc := ⟨.hbm, 157, rfl⟩
abbrev main_call0_call0_v106 : Ref sig .tc := ⟨.hbm, 158, rfl⟩
abbrev main_call0_call0_v107 : Ref sig .tc := ⟨.hbm, 159, rfl⟩
abbrev main_call0_call0_v108 : Ref sig .tc := ⟨.hbm, 160, rfl⟩
abbrev main_call0_call0_c_27 : Ref sig .tc := ⟨.hbm, 161, rfl⟩
abbrev main_call0_call0_v109 : Ref sig .tc := ⟨.hbm, 162, rfl⟩
abbrev main_call0_call0_v110 : Ref sig .tc := ⟨.hbm, 163, rfl⟩
abbrev main_call0_call0_c_28 : Ref sig .tc := ⟨.hbm, 164, rfl⟩
abbrev main_call0_call0_v111 : Ref sig .tc := ⟨.hbm, 165, rfl⟩
abbrev main_call0_call0_v112 : Ref sig .tc := ⟨.hbm, 166, rfl⟩
abbrev main_call0_call0_v113 : Ref sig .tc := ⟨.hbm, 167, rfl⟩
abbrev main_call0_call0_v114 : Ref sig .tc := ⟨.hbm, 168, rfl⟩
abbrev main_call0_call0_v115 : Ref sig .tc := ⟨.hbm, 169, rfl⟩
abbrev main_call0_call0_c_29 : Ref sig .tc := ⟨.hbm, 170, rfl⟩
abbrev main_call0_call0_v116 : Ref sig .tc := ⟨.hbm, 171, rfl⟩
abbrev main_call0_call0_v117 : Ref sig .tc := ⟨.hbm, 172, rfl⟩
abbrev main_call0_call0_c_30 : Ref sig .tc := ⟨.hbm, 173, rfl⟩
abbrev main_call0_call0_v118 : Ref sig .tc := ⟨.hbm, 174, rfl⟩
abbrev main_call0_call0_v119 : Ref sig .tc := ⟨.hbm, 175, rfl⟩
abbrev main_call0_call0_v120 : Ref sig .tc := ⟨.hbm, 176, rfl⟩
abbrev main_call0_call0_v121 : Ref sig .tc := ⟨.hbm, 177, rfl⟩
abbrev main_call0_call0_v122 : Ref sig .tc := ⟨.hbm, 178, rfl⟩
abbrev main_call0_call0_c_31 : Ref sig .tc := ⟨.hbm, 179, rfl⟩
abbrev main_call0_call0_v123 : Ref sig .tc := ⟨.hbm, 180, rfl⟩
abbrev main_call0_call0_v124 : Ref sig .tc := ⟨.hbm, 181, rfl⟩
abbrev main_call0_call0_c_32 : Ref sig .tc := ⟨.hbm, 182, rfl⟩
abbrev main_call0_call0_v125 : Ref sig .tc := ⟨.hbm, 183, rfl⟩
abbrev main_call0_call0_v126 : Ref sig .tc := ⟨.hbm, 184, rfl⟩
abbrev main_call0_call0_v127 : Ref sig .tc := ⟨.hbm, 185, rfl⟩
abbrev main_call0_call0_v128 : Ref sig .tc := ⟨.hbm, 186, rfl⟩
abbrev main_call0_call0_v129 : Ref sig .tc := ⟨.hbm, 187, rfl⟩
abbrev main_call0_call0_c_33 : Ref sig .tc := ⟨.hbm, 188, rfl⟩
abbrev main_call0_call0_v130 : Ref sig .tc := ⟨.hbm, 189, rfl⟩
abbrev main_call0_call0_v131 : Ref sig .tc := ⟨.hbm, 190, rfl⟩
abbrev main_call0_call0_c_34 : Ref sig .tc := ⟨.hbm, 191, rfl⟩
abbrev main_call0_call0_v132 : Ref sig .tc := ⟨.hbm, 192, rfl⟩
abbrev main_call0_call0_v133 : Ref sig .tc := ⟨.hbm, 193, rfl⟩
abbrev main_call0_call0_v134 : Ref sig .tc := ⟨.hbm, 194, rfl⟩
abbrev main_call0_call0_v135 : Ref sig .tc := ⟨.hbm, 195, rfl⟩
abbrev main_call0_call0_v136 : Ref sig .tc := ⟨.hbm, 196, rfl⟩
abbrev main_call0_call0_v137 : Ref sig .tc := ⟨.hbm, 197, rfl⟩
abbrev main_call0_call0_v138 : Ref sig .tc := ⟨.hbm, 198, rfl⟩
abbrev main_call0_call0_v139 : Ref sig .tc := ⟨.hbm, 199, rfl⟩
abbrev main_call0_call0_c_35 : Ref sig .tc := ⟨.hbm, 200, rfl⟩
abbrev main_call0_call0_v140 : Ref sig .tc := ⟨.hbm, 201, rfl⟩
abbrev main_call0_call0_v141 : Ref sig .tc := ⟨.hbm, 202, rfl⟩
abbrev main_call0_call0_v142 : Ref sig .tc := ⟨.hbm, 203, rfl⟩
abbrev main_call0_call0_c_36 : Ref sig .tc := ⟨.hbm, 204, rfl⟩
abbrev main_call0_call0_v143 : Ref sig .tc := ⟨.hbm, 205, rfl⟩
abbrev main_call0_call0_v144 : Ref sig .tc := ⟨.hbm, 206, rfl⟩
abbrev main_call0_call0_c_37 : Ref sig .tc := ⟨.hbm, 207, rfl⟩
abbrev main_call0_call0_v145 : Ref sig .tc := ⟨.hbm, 208, rfl⟩
abbrev main_call0_call0_v146 : Ref sig .tc := ⟨.hbm, 209, rfl⟩
abbrev main_call0_call0_v147 : Ref sig .tc := ⟨.hbm, 210, rfl⟩
abbrev main_call0_call0_v148 : Ref sig .tc := ⟨.hbm, 211, rfl⟩
abbrev main_call0_call0_v149 : Ref sig .tc := ⟨.hbm, 212, rfl⟩
abbrev main_call0_call0_c_38 : Ref sig .tc := ⟨.hbm, 213, rfl⟩
abbrev main_call0_call0_v150 : Ref sig .tc := ⟨.hbm, 214, rfl⟩
abbrev main_call0_call0_v151 : Ref sig .tc := ⟨.hbm, 215, rfl⟩
abbrev main_call0_call0_c_39 : Ref sig .tc := ⟨.hbm, 216, rfl⟩
abbrev main_call0_call0_v152 : Ref sig .tc := ⟨.hbm, 217, rfl⟩
abbrev main_call0_call0_v153 : Ref sig .tc := ⟨.hbm, 218, rfl⟩
abbrev main_call0_call0_v154 : Ref sig .tc := ⟨.hbm, 219, rfl⟩
abbrev main_call0_call0_v155 : Ref sig .tc := ⟨.hbm, 220, rfl⟩
abbrev main_call0_call0_v156 : Ref sig .tc := ⟨.hbm, 221, rfl⟩
abbrev main_call0_call0_c_40 : Ref sig .tc := ⟨.hbm, 222, rfl⟩
abbrev main_call0_call0_v157 : Ref sig .tc := ⟨.hbm, 223, rfl⟩
abbrev main_call0_call0_v158 : Ref sig .tc := ⟨.hbm, 224, rfl⟩
abbrev main_call0_call0_c_41 : Ref sig .tc := ⟨.hbm, 225, rfl⟩
abbrev main_call0_call0_v159 : Ref sig .tc := ⟨.hbm, 226, rfl⟩
abbrev main_call0_call0_v160 : Ref sig .tc := ⟨.hbm, 227, rfl⟩
abbrev main_call0_call0_v161 : Ref sig .tc := ⟨.hbm, 228, rfl⟩
abbrev main_call0_call0_v162 : Ref sig .tc := ⟨.hbm, 229, rfl⟩
abbrev main_call0_call0_v163 : Ref sig .tc := ⟨.hbm, 230, rfl⟩
abbrev main_call0_call0_c_42 : Ref sig .tc := ⟨.hbm, 231, rfl⟩
abbrev main_call0_call0_v164 : Ref sig .tc := ⟨.hbm, 232, rfl⟩
abbrev main_call0_call0_v165 : Ref sig .tc := ⟨.hbm, 233, rfl⟩
abbrev main_call0_call0_c_43 : Ref sig .tc := ⟨.hbm, 234, rfl⟩
abbrev main_call0_call0_v166 : Ref sig .tc := ⟨.hbm, 235, rfl⟩
abbrev main_call0_call0_v167 : Ref sig .tc := ⟨.hbm, 236, rfl⟩
abbrev main_call0_call0_v168 : Ref sig .tc := ⟨.hbm, 237, rfl⟩
abbrev main_call0_call0_v169 : Ref sig .tc := ⟨.hbm, 238, rfl⟩
abbrev main_call0_call0_v170 : Ref sig .tc := ⟨.hbm, 239, rfl⟩
abbrev main_call0_v11_0 : Ref sig .tc := ⟨.hbm, 240, rfl⟩
abbrev main_call0_call0_v172 : Ref sig .tc := ⟨.hbm, 241, rfl⟩
abbrev main_call0_call0_v173 : Ref sig .tc := ⟨.hbm, 242, rfl⟩
abbrev main_call0_call0_c_44 : Ref sig .tc := ⟨.hbm, 243, rfl⟩
abbrev main_call0_call0_v174 : Ref sig .tc := ⟨.hbm, 244, rfl⟩
abbrev main_call0_v11_1 : Ref sig .tc := ⟨.hbm, 245, rfl⟩
abbrev main_call0_v12 : Ref sig .tc := ⟨.hbm, 246, rfl⟩
abbrev main_call0_v13 : Ref sig .tc := ⟨.hbm, 247, rfl⟩
abbrev main_v7 : Ref sig .tc := ⟨.hbm, 248, rfl⟩
abbrev main_v8 : Ref sig .tc := ⟨.hbm, 249, rfl⟩
abbrev main_v9 : Ref sig .tc := ⟨.hbm, 250, rfl⟩
abbrev main_v10 : Ref sig .tc := ⟨.hbm, 251, rfl⟩
abbrev main_v11 : Ref sig .tc := ⟨.hbm, 252, rfl⟩
abbrev main_c_2 : Ref sig .tc := ⟨.hbm, 253, rfl⟩
abbrev main_c_3 : Ref sig .tc := ⟨.hbm, 254, rfl⟩
abbrev main_call1_c : Ref sig .tc := ⟨.hbm, 255, rfl⟩
abbrev main_call1_c_0 : Ref sig .tc := ⟨.hbm, 256, rfl⟩
abbrev main_call1_c_1 : Ref sig .tc := ⟨.hbm, 257, rfl⟩
abbrev main_call1_call0_v0 : Ref sig .tc := ⟨.hbm, 258, rfl⟩
abbrev main_call1_v0 : Ref sig .tc := ⟨.hbm, 259, rfl⟩
abbrev main_call1_v1 : Ref sig .tc := ⟨.hbm, 260, rfl⟩
abbrev main_call1_c_2 : Ref sig .tc := ⟨.hbm, 261, rfl⟩
abbrev main_call1_c_3 : Ref sig .tc := ⟨.hbm, 262, rfl⟩
abbrev main_call1_call1_v0 : Ref sig .tc := ⟨.hbm, 263, rfl⟩
abbrev main_call1_v2 : Ref sig .tc := ⟨.hbm, 264, rfl⟩
abbrev main_call1_v3 : Ref sig .tc := ⟨.hbm, 265, rfl⟩
abbrev main_call1_c_4 : Ref sig .tc := ⟨.hbm, 266, rfl⟩
abbrev main_call1_c_5 : Ref sig .tc := ⟨.hbm, 267, rfl⟩
abbrev main_call1_call2_v0 : Ref sig .tc := ⟨.hbm, 268, rfl⟩
abbrev main_call1_v4 : Ref sig .tc := ⟨.hbm, 269, rfl⟩
abbrev main_call1_v5 : Ref sig .tc := ⟨.hbm, 270, rfl⟩
abbrev main_call1_v6 : Ref sig .tc := ⟨.hbm, 271, rfl⟩
abbrev main_call1_v7 : Ref sig .tc := ⟨.hbm, 272, rfl⟩
abbrev main_call1_call3_v0 : Ref sig .tc := ⟨.hbm, 273, rfl⟩
abbrev main_call1_call3_v1 : Ref sig .tc := ⟨.hbm, 274, rfl⟩
abbrev main_call1_call3_v2 : Ref sig .tc := ⟨.hbm, 275, rfl⟩
abbrev main_call1_call3_v3 : Ref sig .tc := ⟨.hbm, 276, rfl⟩
abbrev main_call1_call3_v4 : Ref sig .tc := ⟨.hbm, 277, rfl⟩
abbrev main_call1_call3_c : Ref sig .tc := ⟨.hbm, 278, rfl⟩
abbrev main_call1_call3_v5 : Ref sig .tc := ⟨.hbm, 279, rfl⟩
abbrev main_call1_call3_v6 : Ref sig .tc := ⟨.hbm, 280, rfl⟩
abbrev main_call1_call3_c_0 : Ref sig .tc := ⟨.hbm, 281, rfl⟩
abbrev main_call1_call3_v7 : Ref sig .tc := ⟨.hbm, 282, rfl⟩
abbrev main_call1_call3_v8 : Ref sig .tc := ⟨.hbm, 283, rfl⟩
abbrev main_call1_call3_v9 : Ref sig .tc := ⟨.hbm, 284, rfl⟩
abbrev main_call1_call3_v10 : Ref sig .tc := ⟨.hbm, 285, rfl⟩
abbrev main_call1_call3_call0_v0 : Ref sig .tc := ⟨.hbm, 286, rfl⟩
abbrev main_call1_call3_call0_c : Ref sig .tc := ⟨.hbm, 287, rfl⟩
abbrev main_call1_call3_call0_v1 : Ref sig .tc := ⟨.hbm, 288, rfl⟩
abbrev main_call1_call3_call0_v2 : Ref sig .tc := ⟨.hbm, 289, rfl⟩
abbrev main_call1_call3_call0_v3 : Ref sig .tc := ⟨.hbm, 290, rfl⟩
abbrev main_call1_call3_call0_v4 : Ref sig .tc := ⟨.hbm, 291, rfl⟩
abbrev main_call1_call3_call0_v5 : Ref sig .tc := ⟨.hbm, 292, rfl⟩
abbrev main_call1_call3_call0_v6 : Ref sig .tc := ⟨.hbm, 293, rfl⟩
abbrev main_call1_call3_call0_c_0 : Ref sig .tc := ⟨.hbm, 294, rfl⟩
abbrev main_call1_call3_call0_v7 : Ref sig .tc := ⟨.hbm, 295, rfl⟩
abbrev main_call1_call3_call0_v8 : Ref sig .tc := ⟨.hbm, 296, rfl⟩
abbrev main_call1_call3_call0_c_1 : Ref sig .tc := ⟨.hbm, 297, rfl⟩
abbrev main_call1_call3_call0_v9 : Ref sig .tc := ⟨.hbm, 298, rfl⟩
abbrev main_call1_call3_call0_v10 : Ref sig .tc := ⟨.hbm, 299, rfl⟩
abbrev main_call1_call3_call0_v11 : Ref sig .tc := ⟨.hbm, 300, rfl⟩
abbrev main_call1_call3_call0_v12 : Ref sig .tc := ⟨.hbm, 301, rfl⟩
abbrev main_call1_call3_call0_v13 : Ref sig .tc := ⟨.hbm, 302, rfl⟩
abbrev main_call1_call3_call0_c_2 : Ref sig .tc := ⟨.hbm, 303, rfl⟩
abbrev main_call1_call3_call0_v14 : Ref sig .tc := ⟨.hbm, 304, rfl⟩
abbrev main_call1_call3_call0_v15 : Ref sig .tc := ⟨.hbm, 305, rfl⟩
abbrev main_call1_call3_call0_c_3 : Ref sig .tc := ⟨.hbm, 306, rfl⟩
abbrev main_call1_call3_call0_v16 : Ref sig .tc := ⟨.hbm, 307, rfl⟩
abbrev main_call1_call3_call0_v17 : Ref sig .tc := ⟨.hbm, 308, rfl⟩
abbrev main_call1_call3_call0_v18 : Ref sig .tc := ⟨.hbm, 309, rfl⟩
abbrev main_call1_call3_call0_v19 : Ref sig .tc := ⟨.hbm, 310, rfl⟩
abbrev main_call1_call3_call0_v20 : Ref sig .tc := ⟨.hbm, 311, rfl⟩
abbrev main_call1_call3_call0_c_4 : Ref sig .tc := ⟨.hbm, 312, rfl⟩
abbrev main_call1_call3_call0_v21 : Ref sig .tc := ⟨.hbm, 313, rfl⟩
abbrev main_call1_call3_call0_v22 : Ref sig .tc := ⟨.hbm, 314, rfl⟩
abbrev main_call1_call3_call0_c_5 : Ref sig .tc := ⟨.hbm, 315, rfl⟩
abbrev main_call1_call3_call0_v23 : Ref sig .tc := ⟨.hbm, 316, rfl⟩
abbrev main_call1_call3_call0_v24 : Ref sig .tc := ⟨.hbm, 317, rfl⟩
abbrev main_call1_call3_call0_v25 : Ref sig .tc := ⟨.hbm, 318, rfl⟩
abbrev main_call1_call3_call0_v26 : Ref sig .tc := ⟨.hbm, 319, rfl⟩
abbrev main_call1_call3_call0_v27 : Ref sig .tc := ⟨.hbm, 320, rfl⟩
abbrev main_call1_call3_call0_c_6 : Ref sig .tc := ⟨.hbm, 321, rfl⟩
abbrev main_call1_call3_call0_v28 : Ref sig .tc := ⟨.hbm, 322, rfl⟩
abbrev main_call1_call3_call0_v29 : Ref sig .tc := ⟨.hbm, 323, rfl⟩
abbrev main_call1_call3_call0_c_7 : Ref sig .tc := ⟨.hbm, 324, rfl⟩
abbrev main_call1_call3_call0_v30 : Ref sig .tc := ⟨.hbm, 325, rfl⟩
abbrev main_call1_call3_call0_v31 : Ref sig .tc := ⟨.hbm, 326, rfl⟩
abbrev main_call1_call3_call0_v32 : Ref sig .tc := ⟨.hbm, 327, rfl⟩
abbrev main_call1_call3_call0_v33 : Ref sig .tc := ⟨.hbm, 328, rfl⟩
abbrev main_call1_call3_call0_v34 : Ref sig .tc := ⟨.hbm, 329, rfl⟩
abbrev main_call1_call3_call0_v35 : Ref sig .tc := ⟨.hbm, 330, rfl⟩
abbrev main_call1_call3_call0_v36 : Ref sig .tc := ⟨.hbm, 331, rfl⟩
abbrev main_call1_call3_call0_v37 : Ref sig .tc := ⟨.hbm, 332, rfl⟩
abbrev main_call1_call3_call0_c_8 : Ref sig .tc := ⟨.hbm, 333, rfl⟩
abbrev main_call1_call3_call0_v38 : Ref sig .tc := ⟨.hbm, 334, rfl⟩
abbrev main_call1_call3_call0_v39 : Ref sig .tc := ⟨.hbm, 335, rfl⟩
abbrev main_call1_call3_call0_v40 : Ref sig .tc := ⟨.hbm, 336, rfl⟩
abbrev main_call1_call3_call0_c_9 : Ref sig .tc := ⟨.hbm, 337, rfl⟩
abbrev main_call1_call3_call0_v41 : Ref sig .tc := ⟨.hbm, 338, rfl⟩
abbrev main_call1_call3_call0_v42 : Ref sig .tc := ⟨.hbm, 339, rfl⟩
abbrev main_call1_call3_call0_c_10 : Ref sig .tc := ⟨.hbm, 340, rfl⟩
abbrev main_call1_call3_call0_v43 : Ref sig .tc := ⟨.hbm, 341, rfl⟩
abbrev main_call1_call3_call0_v44 : Ref sig .tc := ⟨.hbm, 342, rfl⟩
abbrev main_call1_call3_call0_v45 : Ref sig .tc := ⟨.hbm, 343, rfl⟩
abbrev main_call1_call3_call0_v46 : Ref sig .tc := ⟨.hbm, 344, rfl⟩
abbrev main_call1_call3_call0_v47 : Ref sig .tc := ⟨.hbm, 345, rfl⟩
abbrev main_call1_call3_call0_c_11 : Ref sig .tc := ⟨.hbm, 346, rfl⟩
abbrev main_call1_call3_call0_v48 : Ref sig .tc := ⟨.hbm, 347, rfl⟩
abbrev main_call1_call3_call0_v49 : Ref sig .tc := ⟨.hbm, 348, rfl⟩
abbrev main_call1_call3_call0_c_12 : Ref sig .tc := ⟨.hbm, 349, rfl⟩
abbrev main_call1_call3_call0_v50 : Ref sig .tc := ⟨.hbm, 350, rfl⟩
abbrev main_call1_call3_call0_v51 : Ref sig .tc := ⟨.hbm, 351, rfl⟩
abbrev main_call1_call3_call0_v52 : Ref sig .tc := ⟨.hbm, 352, rfl⟩
abbrev main_call1_call3_call0_v53 : Ref sig .tc := ⟨.hbm, 353, rfl⟩
abbrev main_call1_call3_call0_v54 : Ref sig .tc := ⟨.hbm, 354, rfl⟩
abbrev main_call1_call3_call0_c_13 : Ref sig .tc := ⟨.hbm, 355, rfl⟩
abbrev main_call1_call3_call0_v55 : Ref sig .tc := ⟨.hbm, 356, rfl⟩
abbrev main_call1_call3_call0_v56 : Ref sig .tc := ⟨.hbm, 357, rfl⟩
abbrev main_call1_call3_call0_c_14 : Ref sig .tc := ⟨.hbm, 358, rfl⟩
abbrev main_call1_call3_call0_v57 : Ref sig .tc := ⟨.hbm, 359, rfl⟩
abbrev main_call1_call3_call0_v58 : Ref sig .tc := ⟨.hbm, 360, rfl⟩
abbrev main_call1_call3_call0_v59 : Ref sig .tc := ⟨.hbm, 361, rfl⟩
abbrev main_call1_call3_call0_v60 : Ref sig .tc := ⟨.hbm, 362, rfl⟩
abbrev main_call1_call3_call0_v61 : Ref sig .tc := ⟨.hbm, 363, rfl⟩
abbrev main_call1_call3_call0_c_15 : Ref sig .tc := ⟨.hbm, 364, rfl⟩
abbrev main_call1_call3_call0_v62 : Ref sig .tc := ⟨.hbm, 365, rfl⟩
abbrev main_call1_call3_call0_v63 : Ref sig .tc := ⟨.hbm, 366, rfl⟩
abbrev main_call1_call3_call0_c_16 : Ref sig .tc := ⟨.hbm, 367, rfl⟩
abbrev main_call1_call3_call0_v64 : Ref sig .tc := ⟨.hbm, 368, rfl⟩
abbrev main_call1_call3_call0_v65 : Ref sig .tc := ⟨.hbm, 369, rfl⟩
abbrev main_call1_call3_call0_v66 : Ref sig .tc := ⟨.hbm, 370, rfl⟩
abbrev main_call1_call3_call0_v67 : Ref sig .tc := ⟨.hbm, 371, rfl⟩
abbrev main_call1_call3_call0_v68 : Ref sig .tc := ⟨.hbm, 372, rfl⟩
abbrev main_call1_call3_call0_v69 : Ref sig .tc := ⟨.hbm, 373, rfl⟩
abbrev main_call1_call3_call0_v70 : Ref sig .tc := ⟨.hbm, 374, rfl⟩
abbrev main_call1_call3_call0_v71 : Ref sig .tc := ⟨.hbm, 375, rfl⟩
abbrev main_call1_call3_call0_c_17 : Ref sig .tc := ⟨.hbm, 376, rfl⟩
abbrev main_call1_call3_call0_v72 : Ref sig .tc := ⟨.hbm, 377, rfl⟩
abbrev main_call1_call3_call0_v73 : Ref sig .tc := ⟨.hbm, 378, rfl⟩
abbrev main_call1_call3_call0_v74 : Ref sig .tc := ⟨.hbm, 379, rfl⟩
abbrev main_call1_call3_call0_c_18 : Ref sig .tc := ⟨.hbm, 380, rfl⟩
abbrev main_call1_call3_call0_v75 : Ref sig .tc := ⟨.hbm, 381, rfl⟩
abbrev main_call1_call3_call0_v76 : Ref sig .tc := ⟨.hbm, 382, rfl⟩
abbrev main_call1_call3_call0_c_19 : Ref sig .tc := ⟨.hbm, 383, rfl⟩
abbrev main_call1_call3_call0_v77 : Ref sig .tc := ⟨.hbm, 384, rfl⟩
abbrev main_call1_call3_call0_v78 : Ref sig .tc := ⟨.hbm, 385, rfl⟩
abbrev main_call1_call3_call0_v79 : Ref sig .tc := ⟨.hbm, 386, rfl⟩
abbrev main_call1_call3_call0_v80 : Ref sig .tc := ⟨.hbm, 387, rfl⟩
abbrev main_call1_call3_call0_v81 : Ref sig .tc := ⟨.hbm, 388, rfl⟩
abbrev main_call1_call3_call0_c_20 : Ref sig .tc := ⟨.hbm, 389, rfl⟩
abbrev main_call1_call3_call0_v82 : Ref sig .tc := ⟨.hbm, 390, rfl⟩
abbrev main_call1_call3_call0_v83 : Ref sig .tc := ⟨.hbm, 391, rfl⟩
abbrev main_call1_call3_call0_c_21 : Ref sig .tc := ⟨.hbm, 392, rfl⟩
abbrev main_call1_call3_call0_v84 : Ref sig .tc := ⟨.hbm, 393, rfl⟩
abbrev main_call1_call3_call0_v85 : Ref sig .tc := ⟨.hbm, 394, rfl⟩
abbrev main_call1_call3_call0_v86 : Ref sig .tc := ⟨.hbm, 395, rfl⟩
abbrev main_call1_call3_call0_v87 : Ref sig .tc := ⟨.hbm, 396, rfl⟩
abbrev main_call1_call3_call0_v88 : Ref sig .tc := ⟨.hbm, 397, rfl⟩
abbrev main_call1_call3_call0_c_22 : Ref sig .tc := ⟨.hbm, 398, rfl⟩
abbrev main_call1_call3_call0_v89 : Ref sig .tc := ⟨.hbm, 399, rfl⟩
abbrev main_call1_call3_call0_v90 : Ref sig .tc := ⟨.hbm, 400, rfl⟩
abbrev main_call1_call3_call0_c_23 : Ref sig .tc := ⟨.hbm, 401, rfl⟩
abbrev main_call1_call3_call0_v91 : Ref sig .tc := ⟨.hbm, 402, rfl⟩
abbrev main_call1_call3_call0_v92 : Ref sig .tc := ⟨.hbm, 403, rfl⟩
abbrev main_call1_call3_call0_v93 : Ref sig .tc := ⟨.hbm, 404, rfl⟩
abbrev main_call1_call3_call0_v94 : Ref sig .tc := ⟨.hbm, 405, rfl⟩
abbrev main_call1_call3_call0_v95 : Ref sig .tc := ⟨.hbm, 406, rfl⟩
abbrev main_call1_call3_call0_c_24 : Ref sig .tc := ⟨.hbm, 407, rfl⟩
abbrev main_call1_call3_call0_v96 : Ref sig .tc := ⟨.hbm, 408, rfl⟩
abbrev main_call1_call3_call0_v97 : Ref sig .tc := ⟨.hbm, 409, rfl⟩
abbrev main_call1_call3_call0_c_25 : Ref sig .tc := ⟨.hbm, 410, rfl⟩
abbrev main_call1_call3_call0_v98 : Ref sig .tc := ⟨.hbm, 411, rfl⟩
abbrev main_call1_call3_call0_v99 : Ref sig .tc := ⟨.hbm, 412, rfl⟩
abbrev main_call1_call3_call0_v100 : Ref sig .tc := ⟨.hbm, 413, rfl⟩
abbrev main_call1_call3_call0_v101 : Ref sig .tc := ⟨.hbm, 414, rfl⟩
abbrev main_call1_call3_call0_v102 : Ref sig .tc := ⟨.hbm, 415, rfl⟩
abbrev main_call1_call3_call0_v103 : Ref sig .tc := ⟨.hbm, 416, rfl⟩
abbrev main_call1_call3_call0_v104 : Ref sig .tc := ⟨.hbm, 417, rfl⟩
abbrev main_call1_call3_call0_v105 : Ref sig .tc := ⟨.hbm, 418, rfl⟩
abbrev main_call1_call3_call0_c_26 : Ref sig .tc := ⟨.hbm, 419, rfl⟩
abbrev main_call1_call3_call0_v106 : Ref sig .tc := ⟨.hbm, 420, rfl⟩
abbrev main_call1_call3_call0_v107 : Ref sig .tc := ⟨.hbm, 421, rfl⟩
abbrev main_call1_call3_call0_v108 : Ref sig .tc := ⟨.hbm, 422, rfl⟩
abbrev main_call1_call3_call0_c_27 : Ref sig .tc := ⟨.hbm, 423, rfl⟩
abbrev main_call1_call3_call0_v109 : Ref sig .tc := ⟨.hbm, 424, rfl⟩
abbrev main_call1_call3_call0_v110 : Ref sig .tc := ⟨.hbm, 425, rfl⟩
abbrev main_call1_call3_call0_c_28 : Ref sig .tc := ⟨.hbm, 426, rfl⟩
abbrev main_call1_call3_call0_v111 : Ref sig .tc := ⟨.hbm, 427, rfl⟩
abbrev main_call1_call3_call0_v112 : Ref sig .tc := ⟨.hbm, 428, rfl⟩
abbrev main_call1_call3_call0_v113 : Ref sig .tc := ⟨.hbm, 429, rfl⟩
abbrev main_call1_call3_call0_v114 : Ref sig .tc := ⟨.hbm, 430, rfl⟩
abbrev main_call1_call3_call0_v115 : Ref sig .tc := ⟨.hbm, 431, rfl⟩
abbrev main_call1_call3_call0_c_29 : Ref sig .tc := ⟨.hbm, 432, rfl⟩
abbrev main_call1_call3_call0_v116 : Ref sig .tc := ⟨.hbm, 433, rfl⟩
abbrev main_call1_call3_call0_v117 : Ref sig .tc := ⟨.hbm, 434, rfl⟩
abbrev main_call1_call3_call0_c_30 : Ref sig .tc := ⟨.hbm, 435, rfl⟩
abbrev main_call1_call3_call0_v118 : Ref sig .tc := ⟨.hbm, 436, rfl⟩
abbrev main_call1_call3_call0_v119 : Ref sig .tc := ⟨.hbm, 437, rfl⟩
abbrev main_call1_call3_call0_v120 : Ref sig .tc := ⟨.hbm, 438, rfl⟩
abbrev main_call1_call3_call0_v121 : Ref sig .tc := ⟨.hbm, 439, rfl⟩
abbrev main_call1_call3_call0_v122 : Ref sig .tc := ⟨.hbm, 440, rfl⟩
abbrev main_call1_call3_call0_c_31 : Ref sig .tc := ⟨.hbm, 441, rfl⟩
abbrev main_call1_call3_call0_v123 : Ref sig .tc := ⟨.hbm, 442, rfl⟩
abbrev main_call1_call3_call0_v124 : Ref sig .tc := ⟨.hbm, 443, rfl⟩
abbrev main_call1_call3_call0_c_32 : Ref sig .tc := ⟨.hbm, 444, rfl⟩
abbrev main_call1_call3_call0_v125 : Ref sig .tc := ⟨.hbm, 445, rfl⟩
abbrev main_call1_call3_call0_v126 : Ref sig .tc := ⟨.hbm, 446, rfl⟩
abbrev main_call1_call3_call0_v127 : Ref sig .tc := ⟨.hbm, 447, rfl⟩
abbrev main_call1_call3_call0_v128 : Ref sig .tc := ⟨.hbm, 448, rfl⟩
abbrev main_call1_call3_call0_v129 : Ref sig .tc := ⟨.hbm, 449, rfl⟩
abbrev main_call1_call3_call0_c_33 : Ref sig .tc := ⟨.hbm, 450, rfl⟩
abbrev main_call1_call3_call0_v130 : Ref sig .tc := ⟨.hbm, 451, rfl⟩
abbrev main_call1_call3_call0_v131 : Ref sig .tc := ⟨.hbm, 452, rfl⟩
abbrev main_call1_call3_call0_c_34 : Ref sig .tc := ⟨.hbm, 453, rfl⟩
abbrev main_call1_call3_call0_v132 : Ref sig .tc := ⟨.hbm, 454, rfl⟩
abbrev main_call1_call3_call0_v133 : Ref sig .tc := ⟨.hbm, 455, rfl⟩
abbrev main_call1_call3_call0_v134 : Ref sig .tc := ⟨.hbm, 456, rfl⟩
abbrev main_call1_call3_call0_v135 : Ref sig .tc := ⟨.hbm, 457, rfl⟩
abbrev main_call1_call3_call0_v136 : Ref sig .tc := ⟨.hbm, 458, rfl⟩
abbrev main_call1_call3_call0_v137 : Ref sig .tc := ⟨.hbm, 459, rfl⟩
abbrev main_call1_call3_call0_v138 : Ref sig .tc := ⟨.hbm, 460, rfl⟩
abbrev main_call1_call3_call0_v139 : Ref sig .tc := ⟨.hbm, 461, rfl⟩
abbrev main_call1_call3_call0_c_35 : Ref sig .tc := ⟨.hbm, 462, rfl⟩
abbrev main_call1_call3_call0_v140 : Ref sig .tc := ⟨.hbm, 463, rfl⟩
abbrev main_call1_call3_call0_v141 : Ref sig .tc := ⟨.hbm, 464, rfl⟩
abbrev main_call1_call3_call0_v142 : Ref sig .tc := ⟨.hbm, 465, rfl⟩
abbrev main_call1_call3_call0_c_36 : Ref sig .tc := ⟨.hbm, 466, rfl⟩
abbrev main_call1_call3_call0_v143 : Ref sig .tc := ⟨.hbm, 467, rfl⟩
abbrev main_call1_call3_call0_v144 : Ref sig .tc := ⟨.hbm, 468, rfl⟩
abbrev main_call1_call3_call0_c_37 : Ref sig .tc := ⟨.hbm, 469, rfl⟩
abbrev main_call1_call3_call0_v145 : Ref sig .tc := ⟨.hbm, 470, rfl⟩
abbrev main_call1_call3_call0_v146 : Ref sig .tc := ⟨.hbm, 471, rfl⟩
abbrev main_call1_call3_call0_v147 : Ref sig .tc := ⟨.hbm, 472, rfl⟩
abbrev main_call1_call3_call0_v148 : Ref sig .tc := ⟨.hbm, 473, rfl⟩
abbrev main_call1_call3_call0_v149 : Ref sig .tc := ⟨.hbm, 474, rfl⟩
abbrev main_call1_call3_call0_c_38 : Ref sig .tc := ⟨.hbm, 475, rfl⟩
abbrev main_call1_call3_call0_v150 : Ref sig .tc := ⟨.hbm, 476, rfl⟩
abbrev main_call1_call3_call0_v151 : Ref sig .tc := ⟨.hbm, 477, rfl⟩
abbrev main_call1_call3_call0_c_39 : Ref sig .tc := ⟨.hbm, 478, rfl⟩
abbrev main_call1_call3_call0_v152 : Ref sig .tc := ⟨.hbm, 479, rfl⟩
abbrev main_call1_call3_call0_v153 : Ref sig .tc := ⟨.hbm, 480, rfl⟩
abbrev main_call1_call3_call0_v154 : Ref sig .tc := ⟨.hbm, 481, rfl⟩
abbrev main_call1_call3_call0_v155 : Ref sig .tc := ⟨.hbm, 482, rfl⟩
abbrev main_call1_call3_call0_v156 : Ref sig .tc := ⟨.hbm, 483, rfl⟩
abbrev main_call1_call3_call0_c_40 : Ref sig .tc := ⟨.hbm, 484, rfl⟩
abbrev main_call1_call3_call0_v157 : Ref sig .tc := ⟨.hbm, 485, rfl⟩
abbrev main_call1_call3_call0_v158 : Ref sig .tc := ⟨.hbm, 486, rfl⟩
abbrev main_call1_call3_call0_c_41 : Ref sig .tc := ⟨.hbm, 487, rfl⟩
abbrev main_call1_call3_call0_v159 : Ref sig .tc := ⟨.hbm, 488, rfl⟩
abbrev main_call1_call3_call0_v160 : Ref sig .tc := ⟨.hbm, 489, rfl⟩
abbrev main_call1_call3_call0_v161 : Ref sig .tc := ⟨.hbm, 490, rfl⟩
abbrev main_call1_call3_call0_v162 : Ref sig .tc := ⟨.hbm, 491, rfl⟩
abbrev main_call1_call3_call0_v163 : Ref sig .tc := ⟨.hbm, 492, rfl⟩
abbrev main_call1_call3_call0_c_42 : Ref sig .tc := ⟨.hbm, 493, rfl⟩
abbrev main_call1_call3_call0_v164 : Ref sig .tc := ⟨.hbm, 494, rfl⟩
abbrev main_call1_call3_call0_v165 : Ref sig .tc := ⟨.hbm, 495, rfl⟩
abbrev main_call1_call3_call0_c_43 : Ref sig .tc := ⟨.hbm, 496, rfl⟩
abbrev main_call1_call3_call0_v166 : Ref sig .tc := ⟨.hbm, 497, rfl⟩
abbrev main_call1_call3_call0_v167 : Ref sig .tc := ⟨.hbm, 498, rfl⟩
abbrev main_call1_call3_call0_v168 : Ref sig .tc := ⟨.hbm, 499, rfl⟩
abbrev main_call1_call3_call0_v169 : Ref sig .tc := ⟨.hbm, 500, rfl⟩
abbrev main_call1_call3_call0_v170 : Ref sig .tc := ⟨.hbm, 501, rfl⟩
abbrev main_call1_call3_v11_0 : Ref sig .tc := ⟨.hbm, 502, rfl⟩
abbrev main_call1_call3_call0_v172 : Ref sig .tc := ⟨.hbm, 503, rfl⟩
abbrev main_call1_call3_call0_v173 : Ref sig .tc := ⟨.hbm, 504, rfl⟩
abbrev main_call1_call3_call0_c_44 : Ref sig .tc := ⟨.hbm, 505, rfl⟩
abbrev main_call1_call3_call0_v174 : Ref sig .tc := ⟨.hbm, 506, rfl⟩
abbrev main_call1_call3_v11_1 : Ref sig .tc := ⟨.hbm, 507, rfl⟩
abbrev main_call1_call3_v12 : Ref sig .tc := ⟨.hbm, 508, rfl⟩
abbrev main_call1_call3_v13 : Ref sig .tc := ⟨.hbm, 509, rfl⟩
abbrev main_call1_v8 : Ref sig .tc := ⟨.hbm, 510, rfl⟩
abbrev main_call1_v9 : Ref sig .tc := ⟨.hbm, 511, rfl⟩
abbrev main_call1_v10 : Ref sig .tc := ⟨.hbm, 512, rfl⟩
abbrev main_call1_v11 : Ref sig .tc := ⟨.hbm, 513, rfl⟩
abbrev main_call1_v12 : Ref sig .tc := ⟨.hbm, 514, rfl⟩
abbrev main_call1_v13 : Ref sig .tc := ⟨.hbm, 515, rfl⟩
abbrev main_call1_v14 : Ref sig .tc := ⟨.hbm, 516, rfl⟩
abbrev main_call1_v15 : Ref sig .tc := ⟨.hbm, 517, rfl⟩
abbrev main_call1_v16 : Ref sig .tc := ⟨.hbm, 518, rfl⟩
abbrev main_call1_v17 : Ref sig .tc := ⟨.hbm, 519, rfl⟩
abbrev main_call1_v18 : Ref sig .tc := ⟨.hbm, 520, rfl⟩
abbrev main_call1_c_6 : Ref sig .tc := ⟨.hbm, 521, rfl⟩
abbrev main_call1_v19 : Ref sig .tc := ⟨.hbm, 522, rfl⟩
abbrev main_call1_v20 : Ref sig .tc := ⟨.hbm, 523, rfl⟩
abbrev main_call1_c_7 : Ref sig .tc := ⟨.hbm, 524, rfl⟩
abbrev main_call1_v21 : Ref sig .tc := ⟨.hbm, 525, rfl⟩
abbrev main_call1_v22 : Ref sig .tc := ⟨.hbm, 526, rfl⟩
abbrev main_call1_v23 : Ref sig .tc := ⟨.hbm, 527, rfl⟩
abbrev main_call1_c_8 : Ref sig .tc := ⟨.hbm, 528, rfl⟩
abbrev main_call1_v24 : Ref sig .tc := ⟨.hbm, 529, rfl⟩
abbrev main_call1_v25 : Ref sig .tc := ⟨.hbm, 530, rfl⟩
abbrev main_call1_v26 : Ref sig .tc := ⟨.hbm, 531, rfl⟩
abbrev main_call1_v27 : Ref sig .tc := ⟨.hbm, 532, rfl⟩
abbrev main_call1_call4_v0 : Ref sig .tc := ⟨.hbm, 533, rfl⟩
abbrev main_call1_call4_c : Ref sig .tc := ⟨.hbm, 534, rfl⟩
abbrev main_call1_call4_v1 : Ref sig .tc := ⟨.hbm, 535, rfl⟩
abbrev main_call1_call4_v2 : Ref sig .tc := ⟨.hbm, 536, rfl⟩
abbrev main_call1_call4_v3 : Ref sig .tc := ⟨.hbm, 537, rfl⟩
abbrev main_call1_call4_v4 : Ref sig .tc := ⟨.hbm, 538, rfl⟩
abbrev main_call1_call4_v5 : Ref sig .tc := ⟨.hbm, 539, rfl⟩
abbrev main_call1_call4_v6 : Ref sig .tc := ⟨.hbm, 540, rfl⟩
abbrev main_call1_call4_c_0 : Ref sig .tc := ⟨.hbm, 541, rfl⟩
abbrev main_call1_call4_v7 : Ref sig .tc := ⟨.hbm, 542, rfl⟩
abbrev main_call1_call4_v8 : Ref sig .tc := ⟨.hbm, 543, rfl⟩
abbrev main_call1_call4_c_1 : Ref sig .tc := ⟨.hbm, 544, rfl⟩
abbrev main_call1_call4_v9 : Ref sig .tc := ⟨.hbm, 545, rfl⟩
abbrev main_call1_call4_v10 : Ref sig .tc := ⟨.hbm, 546, rfl⟩
abbrev main_call1_call4_v11 : Ref sig .tc := ⟨.hbm, 547, rfl⟩
abbrev main_call1_call4_v12 : Ref sig .tc := ⟨.hbm, 548, rfl⟩
abbrev main_call1_call4_v13 : Ref sig .tc := ⟨.hbm, 549, rfl⟩
abbrev main_call1_call4_c_2 : Ref sig .tc := ⟨.hbm, 550, rfl⟩
abbrev main_call1_call4_v14 : Ref sig .tc := ⟨.hbm, 551, rfl⟩
abbrev main_call1_call4_v15 : Ref sig .tc := ⟨.hbm, 552, rfl⟩
abbrev main_call1_call4_c_3 : Ref sig .tc := ⟨.hbm, 553, rfl⟩
abbrev main_call1_call4_v16 : Ref sig .tc := ⟨.hbm, 554, rfl⟩
abbrev main_call1_call4_v17 : Ref sig .tc := ⟨.hbm, 555, rfl⟩
abbrev main_call1_call4_v18 : Ref sig .tc := ⟨.hbm, 556, rfl⟩
abbrev main_call1_call4_v19 : Ref sig .tc := ⟨.hbm, 557, rfl⟩
abbrev main_call1_call4_v20 : Ref sig .tc := ⟨.hbm, 558, rfl⟩
abbrev main_call1_call4_c_4 : Ref sig .tc := ⟨.hbm, 559, rfl⟩
abbrev main_call1_call4_v21 : Ref sig .tc := ⟨.hbm, 560, rfl⟩
abbrev main_call1_call4_v22 : Ref sig .tc := ⟨.hbm, 561, rfl⟩
abbrev main_call1_call4_c_5 : Ref sig .tc := ⟨.hbm, 562, rfl⟩
abbrev main_call1_call4_v23 : Ref sig .tc := ⟨.hbm, 563, rfl⟩
abbrev main_call1_call4_v24 : Ref sig .tc := ⟨.hbm, 564, rfl⟩
abbrev main_call1_call4_v25 : Ref sig .tc := ⟨.hbm, 565, rfl⟩
abbrev main_call1_call4_v26 : Ref sig .tc := ⟨.hbm, 566, rfl⟩
abbrev main_call1_call4_v27 : Ref sig .tc := ⟨.hbm, 567, rfl⟩
abbrev main_call1_call4_c_6 : Ref sig .tc := ⟨.hbm, 568, rfl⟩
abbrev main_call1_call4_v28 : Ref sig .tc := ⟨.hbm, 569, rfl⟩
abbrev main_call1_call4_v29 : Ref sig .tc := ⟨.hbm, 570, rfl⟩
abbrev main_call1_call4_c_7 : Ref sig .tc := ⟨.hbm, 571, rfl⟩
abbrev main_call1_call4_v30 : Ref sig .tc := ⟨.hbm, 572, rfl⟩
abbrev main_call1_call4_v31 : Ref sig .tc := ⟨.hbm, 573, rfl⟩
abbrev main_call1_call4_v32 : Ref sig .tc := ⟨.hbm, 574, rfl⟩
abbrev main_call1_call4_v33 : Ref sig .tc := ⟨.hbm, 575, rfl⟩
abbrev main_call1_call4_v34 : Ref sig .tc := ⟨.hbm, 576, rfl⟩
abbrev main_call1_call4_v35 : Ref sig .tc := ⟨.hbm, 577, rfl⟩
abbrev main_call1_call4_v36 : Ref sig .tc := ⟨.hbm, 578, rfl⟩
abbrev main_call1_call4_v37 : Ref sig .tc := ⟨.hbm, 579, rfl⟩
abbrev main_call1_call4_c_8 : Ref sig .tc := ⟨.hbm, 580, rfl⟩
abbrev main_call1_call4_v38 : Ref sig .tc := ⟨.hbm, 581, rfl⟩
abbrev main_call1_call4_v39 : Ref sig .tc := ⟨.hbm, 582, rfl⟩
abbrev main_call1_call4_v40 : Ref sig .tc := ⟨.hbm, 583, rfl⟩
abbrev main_call1_call4_c_9 : Ref sig .tc := ⟨.hbm, 584, rfl⟩
abbrev main_call1_call4_v41 : Ref sig .tc := ⟨.hbm, 585, rfl⟩
abbrev main_call1_call4_v42 : Ref sig .tc := ⟨.hbm, 586, rfl⟩
abbrev main_call1_call4_c_10 : Ref sig .tc := ⟨.hbm, 587, rfl⟩
abbrev main_call1_call4_v43 : Ref sig .tc := ⟨.hbm, 588, rfl⟩
abbrev main_call1_call4_v44 : Ref sig .tc := ⟨.hbm, 589, rfl⟩
abbrev main_call1_call4_v45 : Ref sig .tc := ⟨.hbm, 590, rfl⟩
abbrev main_call1_call4_v46 : Ref sig .tc := ⟨.hbm, 591, rfl⟩
abbrev main_call1_call4_v47 : Ref sig .tc := ⟨.hbm, 592, rfl⟩
abbrev main_call1_call4_c_11 : Ref sig .tc := ⟨.hbm, 593, rfl⟩
abbrev main_call1_call4_v48 : Ref sig .tc := ⟨.hbm, 594, rfl⟩
abbrev main_call1_call4_v49 : Ref sig .tc := ⟨.hbm, 595, rfl⟩
abbrev main_call1_call4_c_12 : Ref sig .tc := ⟨.hbm, 596, rfl⟩
abbrev main_call1_call4_v50 : Ref sig .tc := ⟨.hbm, 597, rfl⟩
abbrev main_call1_call4_v51 : Ref sig .tc := ⟨.hbm, 598, rfl⟩
abbrev main_call1_call4_v52 : Ref sig .tc := ⟨.hbm, 599, rfl⟩
abbrev main_call1_call4_v53 : Ref sig .tc := ⟨.hbm, 600, rfl⟩
abbrev main_call1_call4_v54 : Ref sig .tc := ⟨.hbm, 601, rfl⟩
abbrev main_call1_call4_c_13 : Ref sig .tc := ⟨.hbm, 602, rfl⟩
abbrev main_call1_call4_v55 : Ref sig .tc := ⟨.hbm, 603, rfl⟩
abbrev main_call1_call4_v56 : Ref sig .tc := ⟨.hbm, 604, rfl⟩
abbrev main_call1_call4_c_14 : Ref sig .tc := ⟨.hbm, 605, rfl⟩
abbrev main_call1_call4_v57 : Ref sig .tc := ⟨.hbm, 606, rfl⟩
abbrev main_call1_call4_v58 : Ref sig .tc := ⟨.hbm, 607, rfl⟩
abbrev main_call1_call4_v59 : Ref sig .tc := ⟨.hbm, 608, rfl⟩
abbrev main_call1_call4_v60 : Ref sig .tc := ⟨.hbm, 609, rfl⟩
abbrev main_call1_call4_v61 : Ref sig .tc := ⟨.hbm, 610, rfl⟩
abbrev main_call1_call4_c_15 : Ref sig .tc := ⟨.hbm, 611, rfl⟩
abbrev main_call1_call4_v62 : Ref sig .tc := ⟨.hbm, 612, rfl⟩
abbrev main_call1_call4_v63 : Ref sig .tc := ⟨.hbm, 613, rfl⟩
abbrev main_call1_call4_c_16 : Ref sig .tc := ⟨.hbm, 614, rfl⟩
abbrev main_call1_call4_v64 : Ref sig .tc := ⟨.hbm, 615, rfl⟩
abbrev main_call1_call4_v65 : Ref sig .tc := ⟨.hbm, 616, rfl⟩
abbrev main_call1_call4_v66 : Ref sig .tc := ⟨.hbm, 617, rfl⟩
abbrev main_call1_call4_v67 : Ref sig .tc := ⟨.hbm, 618, rfl⟩
abbrev main_call1_call4_v68 : Ref sig .tc := ⟨.hbm, 619, rfl⟩
abbrev main_call1_call4_v69 : Ref sig .tc := ⟨.hbm, 620, rfl⟩
abbrev main_call1_call4_v70 : Ref sig .tc := ⟨.hbm, 621, rfl⟩
abbrev main_call1_call4_v71 : Ref sig .tc := ⟨.hbm, 622, rfl⟩
abbrev main_call1_call4_c_17 : Ref sig .tc := ⟨.hbm, 623, rfl⟩
abbrev main_call1_call4_v72 : Ref sig .tc := ⟨.hbm, 624, rfl⟩
abbrev main_call1_call4_v73 : Ref sig .tc := ⟨.hbm, 625, rfl⟩
abbrev main_call1_call4_v74 : Ref sig .tc := ⟨.hbm, 626, rfl⟩
abbrev main_call1_call4_c_18 : Ref sig .tc := ⟨.hbm, 627, rfl⟩
abbrev main_call1_call4_v75 : Ref sig .tc := ⟨.hbm, 628, rfl⟩
abbrev main_call1_call4_v76 : Ref sig .tc := ⟨.hbm, 629, rfl⟩
abbrev main_call1_call4_c_19 : Ref sig .tc := ⟨.hbm, 630, rfl⟩
abbrev main_call1_call4_v77 : Ref sig .tc := ⟨.hbm, 631, rfl⟩
abbrev main_call1_call4_v78 : Ref sig .tc := ⟨.hbm, 632, rfl⟩
abbrev main_call1_call4_v79 : Ref sig .tc := ⟨.hbm, 633, rfl⟩
abbrev main_call1_call4_v80 : Ref sig .tc := ⟨.hbm, 634, rfl⟩
abbrev main_call1_call4_v81 : Ref sig .tc := ⟨.hbm, 635, rfl⟩
abbrev main_call1_call4_c_20 : Ref sig .tc := ⟨.hbm, 636, rfl⟩
abbrev main_call1_call4_v82 : Ref sig .tc := ⟨.hbm, 637, rfl⟩
abbrev main_call1_call4_v83 : Ref sig .tc := ⟨.hbm, 638, rfl⟩
abbrev main_call1_call4_c_21 : Ref sig .tc := ⟨.hbm, 639, rfl⟩
abbrev main_call1_call4_v84 : Ref sig .tc := ⟨.hbm, 640, rfl⟩
abbrev main_call1_call4_v85 : Ref sig .tc := ⟨.hbm, 641, rfl⟩
abbrev main_call1_call4_v86 : Ref sig .tc := ⟨.hbm, 642, rfl⟩
abbrev main_call1_call4_v87 : Ref sig .tc := ⟨.hbm, 643, rfl⟩
abbrev main_call1_call4_v88 : Ref sig .tc := ⟨.hbm, 644, rfl⟩
abbrev main_call1_call4_c_22 : Ref sig .tc := ⟨.hbm, 645, rfl⟩
abbrev main_call1_call4_v89 : Ref sig .tc := ⟨.hbm, 646, rfl⟩
abbrev main_call1_call4_v90 : Ref sig .tc := ⟨.hbm, 647, rfl⟩
abbrev main_call1_call4_c_23 : Ref sig .tc := ⟨.hbm, 648, rfl⟩
abbrev main_call1_call4_v91 : Ref sig .tc := ⟨.hbm, 649, rfl⟩
abbrev main_call1_call4_v92 : Ref sig .tc := ⟨.hbm, 650, rfl⟩
abbrev main_call1_call4_v93 : Ref sig .tc := ⟨.hbm, 651, rfl⟩
abbrev main_call1_call4_v94 : Ref sig .tc := ⟨.hbm, 652, rfl⟩
abbrev main_call1_call4_v95 : Ref sig .tc := ⟨.hbm, 653, rfl⟩
abbrev main_call1_call4_c_24 : Ref sig .tc := ⟨.hbm, 654, rfl⟩
abbrev main_call1_call4_v96 : Ref sig .tc := ⟨.hbm, 655, rfl⟩
abbrev main_call1_call4_v97 : Ref sig .tc := ⟨.hbm, 656, rfl⟩
abbrev main_call1_call4_c_25 : Ref sig .tc := ⟨.hbm, 657, rfl⟩
abbrev main_call1_call4_v98 : Ref sig .tc := ⟨.hbm, 658, rfl⟩
abbrev main_call1_call4_v99 : Ref sig .tc := ⟨.hbm, 659, rfl⟩
abbrev main_call1_call4_v100 : Ref sig .tc := ⟨.hbm, 660, rfl⟩
abbrev main_call1_call4_v101 : Ref sig .tc := ⟨.hbm, 661, rfl⟩
abbrev main_call1_call4_v102 : Ref sig .tc := ⟨.hbm, 662, rfl⟩
abbrev main_call1_call4_v103 : Ref sig .tc := ⟨.hbm, 663, rfl⟩
abbrev main_call1_call4_v104 : Ref sig .tc := ⟨.hbm, 664, rfl⟩
abbrev main_call1_call4_v105 : Ref sig .tc := ⟨.hbm, 665, rfl⟩
abbrev main_call1_call4_c_26 : Ref sig .tc := ⟨.hbm, 666, rfl⟩
abbrev main_call1_call4_v106 : Ref sig .tc := ⟨.hbm, 667, rfl⟩
abbrev main_call1_call4_v107 : Ref sig .tc := ⟨.hbm, 668, rfl⟩
abbrev main_call1_call4_v108 : Ref sig .tc := ⟨.hbm, 669, rfl⟩
abbrev main_call1_call4_c_27 : Ref sig .tc := ⟨.hbm, 670, rfl⟩
abbrev main_call1_call4_v109 : Ref sig .tc := ⟨.hbm, 671, rfl⟩
abbrev main_call1_call4_v110 : Ref sig .tc := ⟨.hbm, 672, rfl⟩
abbrev main_call1_call4_c_28 : Ref sig .tc := ⟨.hbm, 673, rfl⟩
abbrev main_call1_call4_v111 : Ref sig .tc := ⟨.hbm, 674, rfl⟩
abbrev main_call1_call4_v112 : Ref sig .tc := ⟨.hbm, 675, rfl⟩
abbrev main_call1_call4_v113 : Ref sig .tc := ⟨.hbm, 676, rfl⟩
abbrev main_call1_call4_v114 : Ref sig .tc := ⟨.hbm, 677, rfl⟩
abbrev main_call1_call4_v115 : Ref sig .tc := ⟨.hbm, 678, rfl⟩
abbrev main_call1_call4_c_29 : Ref sig .tc := ⟨.hbm, 679, rfl⟩
abbrev main_call1_call4_v116 : Ref sig .tc := ⟨.hbm, 680, rfl⟩
abbrev main_call1_call4_v117 : Ref sig .tc := ⟨.hbm, 681, rfl⟩
abbrev main_call1_call4_c_30 : Ref sig .tc := ⟨.hbm, 682, rfl⟩
abbrev main_call1_call4_v118 : Ref sig .tc := ⟨.hbm, 683, rfl⟩
abbrev main_call1_call4_v119 : Ref sig .tc := ⟨.hbm, 684, rfl⟩
abbrev main_call1_call4_v120 : Ref sig .tc := ⟨.hbm, 685, rfl⟩
abbrev main_call1_call4_v121 : Ref sig .tc := ⟨.hbm, 686, rfl⟩
abbrev main_call1_call4_v122 : Ref sig .tc := ⟨.hbm, 687, rfl⟩
abbrev main_call1_call4_c_31 : Ref sig .tc := ⟨.hbm, 688, rfl⟩
abbrev main_call1_call4_v123 : Ref sig .tc := ⟨.hbm, 689, rfl⟩
abbrev main_call1_call4_v124 : Ref sig .tc := ⟨.hbm, 690, rfl⟩
abbrev main_call1_call4_c_32 : Ref sig .tc := ⟨.hbm, 691, rfl⟩
abbrev main_call1_call4_v125 : Ref sig .tc := ⟨.hbm, 692, rfl⟩
abbrev main_call1_call4_v126 : Ref sig .tc := ⟨.hbm, 693, rfl⟩
abbrev main_call1_call4_v127 : Ref sig .tc := ⟨.hbm, 694, rfl⟩
abbrev main_call1_call4_v128 : Ref sig .tc := ⟨.hbm, 695, rfl⟩
abbrev main_call1_call4_v129 : Ref sig .tc := ⟨.hbm, 696, rfl⟩
abbrev main_call1_call4_c_33 : Ref sig .tc := ⟨.hbm, 697, rfl⟩
abbrev main_call1_call4_v130 : Ref sig .tc := ⟨.hbm, 698, rfl⟩
abbrev main_call1_call4_v131 : Ref sig .tc := ⟨.hbm, 699, rfl⟩
abbrev main_call1_call4_c_34 : Ref sig .tc := ⟨.hbm, 700, rfl⟩
abbrev main_call1_call4_v132 : Ref sig .tc := ⟨.hbm, 701, rfl⟩
abbrev main_call1_call4_v133 : Ref sig .tc := ⟨.hbm, 702, rfl⟩
abbrev main_call1_call4_v134 : Ref sig .tc := ⟨.hbm, 703, rfl⟩
abbrev main_call1_call4_v135 : Ref sig .tc := ⟨.hbm, 704, rfl⟩
abbrev main_call1_call4_v136 : Ref sig .tc := ⟨.hbm, 705, rfl⟩
abbrev main_call1_call4_v137 : Ref sig .tc := ⟨.hbm, 706, rfl⟩
abbrev main_call1_call4_v138 : Ref sig .tc := ⟨.hbm, 707, rfl⟩
abbrev main_call1_call4_v139 : Ref sig .tc := ⟨.hbm, 708, rfl⟩
abbrev main_call1_call4_c_35 : Ref sig .tc := ⟨.hbm, 709, rfl⟩
abbrev main_call1_call4_v140 : Ref sig .tc := ⟨.hbm, 710, rfl⟩
abbrev main_call1_call4_v141 : Ref sig .tc := ⟨.hbm, 711, rfl⟩
abbrev main_call1_call4_v142 : Ref sig .tc := ⟨.hbm, 712, rfl⟩
abbrev main_call1_call4_c_36 : Ref sig .tc := ⟨.hbm, 713, rfl⟩
abbrev main_call1_call4_v143 : Ref sig .tc := ⟨.hbm, 714, rfl⟩
abbrev main_call1_call4_v144 : Ref sig .tc := ⟨.hbm, 715, rfl⟩
abbrev main_call1_call4_c_37 : Ref sig .tc := ⟨.hbm, 716, rfl⟩
abbrev main_call1_call4_v145 : Ref sig .tc := ⟨.hbm, 717, rfl⟩
abbrev main_call1_call4_v146 : Ref sig .tc := ⟨.hbm, 718, rfl⟩
abbrev main_call1_call4_v147 : Ref sig .tc := ⟨.hbm, 719, rfl⟩
abbrev main_call1_call4_v148 : Ref sig .tc := ⟨.hbm, 720, rfl⟩
abbrev main_call1_call4_v149 : Ref sig .tc := ⟨.hbm, 721, rfl⟩
abbrev main_call1_call4_c_38 : Ref sig .tc := ⟨.hbm, 722, rfl⟩
abbrev main_call1_call4_v150 : Ref sig .tc := ⟨.hbm, 723, rfl⟩
abbrev main_call1_call4_v151 : Ref sig .tc := ⟨.hbm, 724, rfl⟩
abbrev main_call1_call4_c_39 : Ref sig .tc := ⟨.hbm, 725, rfl⟩
abbrev main_call1_call4_v152 : Ref sig .tc := ⟨.hbm, 726, rfl⟩
abbrev main_call1_call4_v153 : Ref sig .tc := ⟨.hbm, 727, rfl⟩
abbrev main_call1_call4_v154 : Ref sig .tc := ⟨.hbm, 728, rfl⟩
abbrev main_call1_call4_v155 : Ref sig .tc := ⟨.hbm, 729, rfl⟩
abbrev main_call1_call4_v156 : Ref sig .tc := ⟨.hbm, 730, rfl⟩
abbrev main_call1_call4_c_40 : Ref sig .tc := ⟨.hbm, 731, rfl⟩
abbrev main_call1_call4_v157 : Ref sig .tc := ⟨.hbm, 732, rfl⟩
abbrev main_call1_call4_v158 : Ref sig .tc := ⟨.hbm, 733, rfl⟩
abbrev main_call1_call4_c_41 : Ref sig .tc := ⟨.hbm, 734, rfl⟩
abbrev main_call1_call4_v159 : Ref sig .tc := ⟨.hbm, 735, rfl⟩
abbrev main_call1_call4_v160 : Ref sig .tc := ⟨.hbm, 736, rfl⟩
abbrev main_call1_call4_v161 : Ref sig .tc := ⟨.hbm, 737, rfl⟩
abbrev main_call1_call4_v162 : Ref sig .tc := ⟨.hbm, 738, rfl⟩
abbrev main_call1_call4_v163 : Ref sig .tc := ⟨.hbm, 739, rfl⟩
abbrev main_call1_call4_c_42 : Ref sig .tc := ⟨.hbm, 740, rfl⟩
abbrev main_call1_call4_v164 : Ref sig .tc := ⟨.hbm, 741, rfl⟩
abbrev main_call1_call4_v165 : Ref sig .tc := ⟨.hbm, 742, rfl⟩
abbrev main_call1_call4_c_43 : Ref sig .tc := ⟨.hbm, 743, rfl⟩
abbrev main_call1_call4_v166 : Ref sig .tc := ⟨.hbm, 744, rfl⟩
abbrev main_call1_call4_v167 : Ref sig .tc := ⟨.hbm, 745, rfl⟩
abbrev main_call1_call4_v168 : Ref sig .tc := ⟨.hbm, 746, rfl⟩
abbrev main_call1_call4_v169 : Ref sig .tc := ⟨.hbm, 747, rfl⟩
abbrev main_call1_call4_v170 : Ref sig .tc := ⟨.hbm, 748, rfl⟩
abbrev main_call1_v28_0 : Ref sig .tc := ⟨.hbm, 749, rfl⟩
abbrev main_call1_call4_v172 : Ref sig .tc := ⟨.hbm, 750, rfl⟩
abbrev main_call1_call4_v173 : Ref sig .tc := ⟨.hbm, 751, rfl⟩
abbrev main_call1_call4_c_44 : Ref sig .tc := ⟨.hbm, 752, rfl⟩
abbrev main_call1_call4_v174 : Ref sig .tc := ⟨.hbm, 753, rfl⟩
abbrev main_call1_v28_1 : Ref sig .tc := ⟨.hbm, 754, rfl⟩
abbrev main_call1_v29 : Ref sig .tc := ⟨.hbm, 755, rfl⟩
abbrev main_call1_v30 : Ref sig .tc := ⟨.hbm, 756, rfl⟩
abbrev main_call1_v31 : Ref sig .tc := ⟨.hbm, 757, rfl⟩
abbrev main_call1_v32 : Ref sig .tc := ⟨.hbm, 758, rfl⟩
abbrev main_call1_v33 : Ref sig .tc := ⟨.hbm, 759, rfl⟩
abbrev main_call1_v34 : Ref sig .tc := ⟨.hbm, 760, rfl⟩
abbrev main_call1_v35 : Ref sig .tc := ⟨.hbm, 761, rfl⟩
abbrev main_call1_c_9 : Ref sig .tc := ⟨.hbm, 762, rfl⟩
abbrev main_call1_v36 : Ref sig .tc := ⟨.hbm, 763, rfl⟩
abbrev main_call1_v37 : Ref sig .tc := ⟨.hbm, 764, rfl⟩
abbrev main_call1_c_10 : Ref sig .tc := ⟨.hbm, 765, rfl⟩
abbrev main_call1_v38 : Ref sig .tc := ⟨.hbm, 766, rfl⟩
abbrev main_call1_v39 : Ref sig .tc := ⟨.hbm, 767, rfl⟩
abbrev main_call1_v40 : Ref sig .tc := ⟨.hbm, 768, rfl⟩
abbrev main_call1_c_11 : Ref sig .tc := ⟨.hbm, 769, rfl⟩
abbrev main_call1_v41 : Ref sig .tc := ⟨.hbm, 770, rfl⟩
abbrev main_call1_v42 : Ref sig .tc := ⟨.hbm, 771, rfl⟩
abbrev main_call1_v43 : Ref sig .tc := ⟨.hbm, 772, rfl⟩
abbrev main_call1_v44 : Ref sig .tc := ⟨.hbm, 773, rfl⟩
abbrev main_call1_call5_v0 : Ref sig .tc := ⟨.hbm, 774, rfl⟩
abbrev main_call1_call5_c : Ref sig .tc := ⟨.hbm, 775, rfl⟩
abbrev main_call1_call5_v1 : Ref sig .tc := ⟨.hbm, 776, rfl⟩
abbrev main_call1_call5_v2 : Ref sig .tc := ⟨.hbm, 777, rfl⟩
abbrev main_call1_call5_v3 : Ref sig .tc := ⟨.hbm, 778, rfl⟩
abbrev main_call1_call5_v4 : Ref sig .tc := ⟨.hbm, 779, rfl⟩
abbrev main_call1_call5_v5 : Ref sig .tc := ⟨.hbm, 780, rfl⟩
abbrev main_call1_call5_v6 : Ref sig .tc := ⟨.hbm, 781, rfl⟩
abbrev main_call1_call5_c_0 : Ref sig .tc := ⟨.hbm, 782, rfl⟩
abbrev main_call1_call5_v7 : Ref sig .tc := ⟨.hbm, 783, rfl⟩
abbrev main_call1_call5_v8 : Ref sig .tc := ⟨.hbm, 784, rfl⟩
abbrev main_call1_call5_c_1 : Ref sig .tc := ⟨.hbm, 785, rfl⟩
abbrev main_call1_call5_v9 : Ref sig .tc := ⟨.hbm, 786, rfl⟩
abbrev main_call1_call5_v10 : Ref sig .tc := ⟨.hbm, 787, rfl⟩
abbrev main_call1_call5_v11 : Ref sig .tc := ⟨.hbm, 788, rfl⟩
abbrev main_call1_call5_v12 : Ref sig .tc := ⟨.hbm, 789, rfl⟩
abbrev main_call1_call5_v13 : Ref sig .tc := ⟨.hbm, 790, rfl⟩
abbrev main_call1_call5_c_2 : Ref sig .tc := ⟨.hbm, 791, rfl⟩
abbrev main_call1_call5_v14 : Ref sig .tc := ⟨.hbm, 792, rfl⟩
abbrev main_call1_call5_v15 : Ref sig .tc := ⟨.hbm, 793, rfl⟩
abbrev main_call1_call5_c_3 : Ref sig .tc := ⟨.hbm, 794, rfl⟩
abbrev main_call1_call5_v16 : Ref sig .tc := ⟨.hbm, 795, rfl⟩
abbrev main_call1_call5_v17 : Ref sig .tc := ⟨.hbm, 796, rfl⟩
abbrev main_call1_call5_v18 : Ref sig .tc := ⟨.hbm, 797, rfl⟩
abbrev main_call1_call5_v19 : Ref sig .tc := ⟨.hbm, 798, rfl⟩
abbrev main_call1_call5_v20 : Ref sig .tc := ⟨.hbm, 799, rfl⟩
abbrev main_call1_call5_c_4 : Ref sig .tc := ⟨.hbm, 800, rfl⟩
abbrev main_call1_call5_v21 : Ref sig .tc := ⟨.hbm, 801, rfl⟩
abbrev main_call1_call5_v22 : Ref sig .tc := ⟨.hbm, 802, rfl⟩
abbrev main_call1_call5_c_5 : Ref sig .tc := ⟨.hbm, 803, rfl⟩
abbrev main_call1_call5_v23 : Ref sig .tc := ⟨.hbm, 804, rfl⟩
abbrev main_call1_call5_v24 : Ref sig .tc := ⟨.hbm, 805, rfl⟩
abbrev main_call1_call5_v25 : Ref sig .tc := ⟨.hbm, 806, rfl⟩
abbrev main_call1_call5_v26 : Ref sig .tc := ⟨.hbm, 807, rfl⟩
abbrev main_call1_call5_v27 : Ref sig .tc := ⟨.hbm, 808, rfl⟩
abbrev main_call1_call5_c_6 : Ref sig .tc := ⟨.hbm, 809, rfl⟩
abbrev main_call1_call5_v28 : Ref sig .tc := ⟨.hbm, 810, rfl⟩
abbrev main_call1_call5_v29 : Ref sig .tc := ⟨.hbm, 811, rfl⟩
abbrev main_call1_call5_c_7 : Ref sig .tc := ⟨.hbm, 812, rfl⟩
abbrev main_call1_call5_v30 : Ref sig .tc := ⟨.hbm, 813, rfl⟩
abbrev main_call1_call5_v31 : Ref sig .tc := ⟨.hbm, 814, rfl⟩
abbrev main_call1_call5_v32 : Ref sig .tc := ⟨.hbm, 815, rfl⟩
abbrev main_call1_call5_v33 : Ref sig .tc := ⟨.hbm, 816, rfl⟩
abbrev main_call1_call5_v34 : Ref sig .tc := ⟨.hbm, 817, rfl⟩
abbrev main_call1_call5_v35 : Ref sig .tc := ⟨.hbm, 818, rfl⟩
abbrev main_call1_call5_v36 : Ref sig .tc := ⟨.hbm, 819, rfl⟩
abbrev main_call1_call5_v37 : Ref sig .tc := ⟨.hbm, 820, rfl⟩
abbrev main_call1_call5_c_8 : Ref sig .tc := ⟨.hbm, 821, rfl⟩
abbrev main_call1_call5_v38 : Ref sig .tc := ⟨.hbm, 822, rfl⟩
abbrev main_call1_call5_v39 : Ref sig .tc := ⟨.hbm, 823, rfl⟩
abbrev main_call1_call5_v40 : Ref sig .tc := ⟨.hbm, 824, rfl⟩
abbrev main_call1_call5_c_9 : Ref sig .tc := ⟨.hbm, 825, rfl⟩
abbrev main_call1_call5_v41 : Ref sig .tc := ⟨.hbm, 826, rfl⟩
abbrev main_call1_call5_v42 : Ref sig .tc := ⟨.hbm, 827, rfl⟩
abbrev main_call1_call5_c_10 : Ref sig .tc := ⟨.hbm, 828, rfl⟩
abbrev main_call1_call5_v43 : Ref sig .tc := ⟨.hbm, 829, rfl⟩
abbrev main_call1_call5_v44 : Ref sig .tc := ⟨.hbm, 830, rfl⟩
abbrev main_call1_call5_v45 : Ref sig .tc := ⟨.hbm, 831, rfl⟩
abbrev main_call1_call5_v46 : Ref sig .tc := ⟨.hbm, 832, rfl⟩
abbrev main_call1_call5_v47 : Ref sig .tc := ⟨.hbm, 833, rfl⟩
abbrev main_call1_call5_c_11 : Ref sig .tc := ⟨.hbm, 834, rfl⟩
abbrev main_call1_call5_v48 : Ref sig .tc := ⟨.hbm, 835, rfl⟩
abbrev main_call1_call5_v49 : Ref sig .tc := ⟨.hbm, 836, rfl⟩
abbrev main_call1_call5_c_12 : Ref sig .tc := ⟨.hbm, 837, rfl⟩
abbrev main_call1_call5_v50 : Ref sig .tc := ⟨.hbm, 838, rfl⟩
abbrev main_call1_call5_v51 : Ref sig .tc := ⟨.hbm, 839, rfl⟩
abbrev main_call1_call5_v52 : Ref sig .tc := ⟨.hbm, 840, rfl⟩
abbrev main_call1_call5_v53 : Ref sig .tc := ⟨.hbm, 841, rfl⟩
abbrev main_call1_call5_v54 : Ref sig .tc := ⟨.hbm, 842, rfl⟩
abbrev main_call1_call5_c_13 : Ref sig .tc := ⟨.hbm, 843, rfl⟩
abbrev main_call1_call5_v55 : Ref sig .tc := ⟨.hbm, 844, rfl⟩
abbrev main_call1_call5_v56 : Ref sig .tc := ⟨.hbm, 845, rfl⟩
abbrev main_call1_call5_c_14 : Ref sig .tc := ⟨.hbm, 846, rfl⟩
abbrev main_call1_call5_v57 : Ref sig .tc := ⟨.hbm, 847, rfl⟩
abbrev main_call1_call5_v58 : Ref sig .tc := ⟨.hbm, 848, rfl⟩
abbrev main_call1_call5_v59 : Ref sig .tc := ⟨.hbm, 849, rfl⟩
abbrev main_call1_call5_v60 : Ref sig .tc := ⟨.hbm, 850, rfl⟩
abbrev main_call1_call5_v61 : Ref sig .tc := ⟨.hbm, 851, rfl⟩
abbrev main_call1_call5_c_15 : Ref sig .tc := ⟨.hbm, 852, rfl⟩
abbrev main_call1_call5_v62 : Ref sig .tc := ⟨.hbm, 853, rfl⟩
abbrev main_call1_call5_v63 : Ref sig .tc := ⟨.hbm, 854, rfl⟩
abbrev main_call1_call5_c_16 : Ref sig .tc := ⟨.hbm, 855, rfl⟩
abbrev main_call1_call5_v64 : Ref sig .tc := ⟨.hbm, 856, rfl⟩
abbrev main_call1_call5_v65 : Ref sig .tc := ⟨.hbm, 857, rfl⟩
abbrev main_call1_call5_v66 : Ref sig .tc := ⟨.hbm, 858, rfl⟩
abbrev main_call1_call5_v67 : Ref sig .tc := ⟨.hbm, 859, rfl⟩
abbrev main_call1_call5_v68 : Ref sig .tc := ⟨.hbm, 860, rfl⟩
abbrev main_call1_call5_v69 : Ref sig .tc := ⟨.hbm, 861, rfl⟩
abbrev main_call1_call5_v70 : Ref sig .tc := ⟨.hbm, 862, rfl⟩
abbrev main_call1_call5_v71 : Ref sig .tc := ⟨.hbm, 863, rfl⟩
abbrev main_call1_call5_c_17 : Ref sig .tc := ⟨.hbm, 864, rfl⟩
abbrev main_call1_call5_v72 : Ref sig .tc := ⟨.hbm, 865, rfl⟩
abbrev main_call1_call5_v73 : Ref sig .tc := ⟨.hbm, 866, rfl⟩
abbrev main_call1_call5_v74 : Ref sig .tc := ⟨.hbm, 867, rfl⟩
abbrev main_call1_call5_c_18 : Ref sig .tc := ⟨.hbm, 868, rfl⟩
abbrev main_call1_call5_v75 : Ref sig .tc := ⟨.hbm, 869, rfl⟩
abbrev main_call1_call5_v76 : Ref sig .tc := ⟨.hbm, 870, rfl⟩
abbrev main_call1_call5_c_19 : Ref sig .tc := ⟨.hbm, 871, rfl⟩
abbrev main_call1_call5_v77 : Ref sig .tc := ⟨.hbm, 872, rfl⟩
abbrev main_call1_call5_v78 : Ref sig .tc := ⟨.hbm, 873, rfl⟩
abbrev main_call1_call5_v79 : Ref sig .tc := ⟨.hbm, 874, rfl⟩
abbrev main_call1_call5_v80 : Ref sig .tc := ⟨.hbm, 875, rfl⟩
abbrev main_call1_call5_v81 : Ref sig .tc := ⟨.hbm, 876, rfl⟩
abbrev main_call1_call5_c_20 : Ref sig .tc := ⟨.hbm, 877, rfl⟩
abbrev main_call1_call5_v82 : Ref sig .tc := ⟨.hbm, 878, rfl⟩
abbrev main_call1_call5_v83 : Ref sig .tc := ⟨.hbm, 879, rfl⟩
abbrev main_call1_call5_c_21 : Ref sig .tc := ⟨.hbm, 880, rfl⟩
abbrev main_call1_call5_v84 : Ref sig .tc := ⟨.hbm, 881, rfl⟩
abbrev main_call1_call5_v85 : Ref sig .tc := ⟨.hbm, 882, rfl⟩
abbrev main_call1_call5_v86 : Ref sig .tc := ⟨.hbm, 883, rfl⟩
abbrev main_call1_call5_v87 : Ref sig .tc := ⟨.hbm, 884, rfl⟩
abbrev main_call1_call5_v88 : Ref sig .tc := ⟨.hbm, 885, rfl⟩
abbrev main_call1_call5_c_22 : Ref sig .tc := ⟨.hbm, 886, rfl⟩
abbrev main_call1_call5_v89 : Ref sig .tc := ⟨.hbm, 887, rfl⟩
abbrev main_call1_call5_v90 : Ref sig .tc := ⟨.hbm, 888, rfl⟩
abbrev main_call1_call5_c_23 : Ref sig .tc := ⟨.hbm, 889, rfl⟩
abbrev main_call1_call5_v91 : Ref sig .tc := ⟨.hbm, 890, rfl⟩
abbrev main_call1_call5_v92 : Ref sig .tc := ⟨.hbm, 891, rfl⟩
abbrev main_call1_call5_v93 : Ref sig .tc := ⟨.hbm, 892, rfl⟩
abbrev main_call1_call5_v94 : Ref sig .tc := ⟨.hbm, 893, rfl⟩
abbrev main_call1_call5_v95 : Ref sig .tc := ⟨.hbm, 894, rfl⟩
abbrev main_call1_call5_c_24 : Ref sig .tc := ⟨.hbm, 895, rfl⟩
abbrev main_call1_call5_v96 : Ref sig .tc := ⟨.hbm, 896, rfl⟩
abbrev main_call1_call5_v97 : Ref sig .tc := ⟨.hbm, 897, rfl⟩
abbrev main_call1_call5_c_25 : Ref sig .tc := ⟨.hbm, 898, rfl⟩
abbrev main_call1_call5_v98 : Ref sig .tc := ⟨.hbm, 899, rfl⟩
abbrev main_call1_call5_v99 : Ref sig .tc := ⟨.hbm, 900, rfl⟩
abbrev main_call1_call5_v100 : Ref sig .tc := ⟨.hbm, 901, rfl⟩
abbrev main_call1_call5_v101 : Ref sig .tc := ⟨.hbm, 902, rfl⟩
abbrev main_call1_call5_v102 : Ref sig .tc := ⟨.hbm, 903, rfl⟩
abbrev main_call1_call5_v103 : Ref sig .tc := ⟨.hbm, 904, rfl⟩
abbrev main_call1_call5_v104 : Ref sig .tc := ⟨.hbm, 905, rfl⟩
abbrev main_call1_call5_v105 : Ref sig .tc := ⟨.hbm, 906, rfl⟩
abbrev main_call1_call5_c_26 : Ref sig .tc := ⟨.hbm, 907, rfl⟩
abbrev main_call1_call5_v106 : Ref sig .tc := ⟨.hbm, 908, rfl⟩
abbrev main_call1_call5_v107 : Ref sig .tc := ⟨.hbm, 909, rfl⟩
abbrev main_call1_call5_v108 : Ref sig .tc := ⟨.hbm, 910, rfl⟩
abbrev main_call1_call5_c_27 : Ref sig .tc := ⟨.hbm, 911, rfl⟩
abbrev main_call1_call5_v109 : Ref sig .tc := ⟨.hbm, 912, rfl⟩
abbrev main_call1_call5_v110 : Ref sig .tc := ⟨.hbm, 913, rfl⟩
abbrev main_call1_call5_c_28 : Ref sig .tc := ⟨.hbm, 914, rfl⟩
abbrev main_call1_call5_v111 : Ref sig .tc := ⟨.hbm, 915, rfl⟩
abbrev main_call1_call5_v112 : Ref sig .tc := ⟨.hbm, 916, rfl⟩
abbrev main_call1_call5_v113 : Ref sig .tc := ⟨.hbm, 917, rfl⟩
abbrev main_call1_call5_v114 : Ref sig .tc := ⟨.hbm, 918, rfl⟩
abbrev main_call1_call5_v115 : Ref sig .tc := ⟨.hbm, 919, rfl⟩
abbrev main_call1_call5_c_29 : Ref sig .tc := ⟨.hbm, 920, rfl⟩
abbrev main_call1_call5_v116 : Ref sig .tc := ⟨.hbm, 921, rfl⟩
abbrev main_call1_call5_v117 : Ref sig .tc := ⟨.hbm, 922, rfl⟩
abbrev main_call1_call5_c_30 : Ref sig .tc := ⟨.hbm, 923, rfl⟩
abbrev main_call1_call5_v118 : Ref sig .tc := ⟨.hbm, 924, rfl⟩
abbrev main_call1_call5_v119 : Ref sig .tc := ⟨.hbm, 925, rfl⟩
abbrev main_call1_call5_v120 : Ref sig .tc := ⟨.hbm, 926, rfl⟩
abbrev main_call1_call5_v121 : Ref sig .tc := ⟨.hbm, 927, rfl⟩
abbrev main_call1_call5_v122 : Ref sig .tc := ⟨.hbm, 928, rfl⟩
abbrev main_call1_call5_c_31 : Ref sig .tc := ⟨.hbm, 929, rfl⟩
abbrev main_call1_call5_v123 : Ref sig .tc := ⟨.hbm, 930, rfl⟩
abbrev main_call1_call5_v124 : Ref sig .tc := ⟨.hbm, 931, rfl⟩
abbrev main_call1_call5_c_32 : Ref sig .tc := ⟨.hbm, 932, rfl⟩
abbrev main_call1_call5_v125 : Ref sig .tc := ⟨.hbm, 933, rfl⟩
abbrev main_call1_call5_v126 : Ref sig .tc := ⟨.hbm, 934, rfl⟩
abbrev main_call1_call5_v127 : Ref sig .tc := ⟨.hbm, 935, rfl⟩
abbrev main_call1_call5_v128 : Ref sig .tc := ⟨.hbm, 936, rfl⟩
abbrev main_call1_call5_v129 : Ref sig .tc := ⟨.hbm, 937, rfl⟩
abbrev main_call1_call5_c_33 : Ref sig .tc := ⟨.hbm, 938, rfl⟩
abbrev main_call1_call5_v130 : Ref sig .tc := ⟨.hbm, 939, rfl⟩
abbrev main_call1_call5_v131 : Ref sig .tc := ⟨.hbm, 940, rfl⟩
abbrev main_call1_call5_c_34 : Ref sig .tc := ⟨.hbm, 941, rfl⟩
abbrev main_call1_call5_v132 : Ref sig .tc := ⟨.hbm, 942, rfl⟩
abbrev main_call1_call5_v133 : Ref sig .tc := ⟨.hbm, 943, rfl⟩
abbrev main_call1_call5_v134 : Ref sig .tc := ⟨.hbm, 944, rfl⟩
abbrev main_call1_call5_v135 : Ref sig .tc := ⟨.hbm, 945, rfl⟩
abbrev main_call1_call5_v136 : Ref sig .tc := ⟨.hbm, 946, rfl⟩
abbrev main_call1_call5_v137 : Ref sig .tc := ⟨.hbm, 947, rfl⟩
abbrev main_call1_call5_v138 : Ref sig .tc := ⟨.hbm, 948, rfl⟩
abbrev main_call1_call5_v139 : Ref sig .tc := ⟨.hbm, 949, rfl⟩
abbrev main_call1_call5_c_35 : Ref sig .tc := ⟨.hbm, 950, rfl⟩
abbrev main_call1_call5_v140 : Ref sig .tc := ⟨.hbm, 951, rfl⟩
abbrev main_call1_call5_v141 : Ref sig .tc := ⟨.hbm, 952, rfl⟩
abbrev main_call1_call5_v142 : Ref sig .tc := ⟨.hbm, 953, rfl⟩
abbrev main_call1_call5_c_36 : Ref sig .tc := ⟨.hbm, 954, rfl⟩
abbrev main_call1_call5_v143 : Ref sig .tc := ⟨.hbm, 955, rfl⟩
abbrev main_call1_call5_v144 : Ref sig .tc := ⟨.hbm, 956, rfl⟩
abbrev main_call1_call5_c_37 : Ref sig .tc := ⟨.hbm, 957, rfl⟩
abbrev main_call1_call5_v145 : Ref sig .tc := ⟨.hbm, 958, rfl⟩
abbrev main_call1_call5_v146 : Ref sig .tc := ⟨.hbm, 959, rfl⟩
abbrev main_call1_call5_v147 : Ref sig .tc := ⟨.hbm, 960, rfl⟩
abbrev main_call1_call5_v148 : Ref sig .tc := ⟨.hbm, 961, rfl⟩
abbrev main_call1_call5_v149 : Ref sig .tc := ⟨.hbm, 962, rfl⟩
abbrev main_call1_call5_c_38 : Ref sig .tc := ⟨.hbm, 963, rfl⟩
abbrev main_call1_call5_v150 : Ref sig .tc := ⟨.hbm, 964, rfl⟩
abbrev main_call1_call5_v151 : Ref sig .tc := ⟨.hbm, 965, rfl⟩
abbrev main_call1_call5_c_39 : Ref sig .tc := ⟨.hbm, 966, rfl⟩
abbrev main_call1_call5_v152 : Ref sig .tc := ⟨.hbm, 967, rfl⟩
abbrev main_call1_call5_v153 : Ref sig .tc := ⟨.hbm, 968, rfl⟩
abbrev main_call1_call5_v154 : Ref sig .tc := ⟨.hbm, 969, rfl⟩
abbrev main_call1_call5_v155 : Ref sig .tc := ⟨.hbm, 970, rfl⟩
abbrev main_call1_call5_v156 : Ref sig .tc := ⟨.hbm, 971, rfl⟩
abbrev main_call1_call5_c_40 : Ref sig .tc := ⟨.hbm, 972, rfl⟩
abbrev main_call1_call5_v157 : Ref sig .tc := ⟨.hbm, 973, rfl⟩
abbrev main_call1_call5_v158 : Ref sig .tc := ⟨.hbm, 974, rfl⟩
abbrev main_call1_call5_c_41 : Ref sig .tc := ⟨.hbm, 975, rfl⟩
abbrev main_call1_call5_v159 : Ref sig .tc := ⟨.hbm, 976, rfl⟩
abbrev main_call1_call5_v160 : Ref sig .tc := ⟨.hbm, 977, rfl⟩
abbrev main_call1_call5_v161 : Ref sig .tc := ⟨.hbm, 978, rfl⟩
abbrev main_call1_call5_v162 : Ref sig .tc := ⟨.hbm, 979, rfl⟩
abbrev main_call1_call5_v163 : Ref sig .tc := ⟨.hbm, 980, rfl⟩
abbrev main_call1_call5_c_42 : Ref sig .tc := ⟨.hbm, 981, rfl⟩
abbrev main_call1_call5_v164 : Ref sig .tc := ⟨.hbm, 982, rfl⟩
abbrev main_call1_call5_v165 : Ref sig .tc := ⟨.hbm, 983, rfl⟩
abbrev main_call1_call5_c_43 : Ref sig .tc := ⟨.hbm, 984, rfl⟩
abbrev main_call1_call5_v166 : Ref sig .tc := ⟨.hbm, 985, rfl⟩
abbrev main_call1_call5_v167 : Ref sig .tc := ⟨.hbm, 986, rfl⟩
abbrev main_call1_call5_v168 : Ref sig .tc := ⟨.hbm, 987, rfl⟩
abbrev main_call1_call5_v169 : Ref sig .tc := ⟨.hbm, 988, rfl⟩
abbrev main_call1_call5_v170 : Ref sig .tc := ⟨.hbm, 989, rfl⟩
abbrev main_call1_v45_0 : Ref sig .tc := ⟨.hbm, 990, rfl⟩
abbrev main_call1_call5_v172 : Ref sig .tc := ⟨.hbm, 991, rfl⟩
abbrev main_call1_call5_v173 : Ref sig .tc := ⟨.hbm, 992, rfl⟩
abbrev main_call1_call5_c_44 : Ref sig .tc := ⟨.hbm, 993, rfl⟩
abbrev main_call1_call5_v174 : Ref sig .tc := ⟨.hbm, 994, rfl⟩
abbrev main_call1_v45_1 : Ref sig .tc := ⟨.hbm, 995, rfl⟩
abbrev main_call1_v46 : Ref sig .tc := ⟨.hbm, 996, rfl⟩
abbrev main_call1_v47 : Ref sig .tc := ⟨.hbm, 997, rfl⟩
abbrev main_call1_v48 : Ref sig .tc := ⟨.hbm, 998, rfl⟩
abbrev main_call1_v49 : Ref sig .tc := ⟨.hbm, 999, rfl⟩
abbrev main_call1_c_12 : Ref sig .tc := ⟨.hbm, 1000, rfl⟩
abbrev main_call1_v50 : Ref sig .tc := ⟨.hbm, 1001, rfl⟩
abbrev main_call1_v51 : Ref sig .tc := ⟨.hbm, 1002, rfl⟩
abbrev main_call1_v52 : Ref sig .tc := ⟨.hbm, 1003, rfl⟩
abbrev main_call1_v53 : Ref sig .tc := ⟨.hbm, 1004, rfl⟩
abbrev main_call1_v54 : Ref sig .tc := ⟨.hbm, 1005, rfl⟩
abbrev main_call1_c_13 : Ref sig .tc := ⟨.hbm, 1006, rfl⟩
abbrev main_call1_v55 : Ref sig .tc := ⟨.hbm, 1007, rfl⟩
abbrev main_call1_v56 : Ref sig .tc := ⟨.hbm, 1008, rfl⟩
abbrev main_call1_v57 : Ref sig .tc := ⟨.hbm, 1009, rfl⟩
abbrev main_call1_c_14 : Ref sig .tc := ⟨.hbm, 1010, rfl⟩
abbrev main_call1_v58 : Ref sig .tc := ⟨.hbm, 1011, rfl⟩
abbrev main_call1_v59 : Ref sig .tc := ⟨.hbm, 1012, rfl⟩
abbrev main_call1_v60 : Ref sig .tc := ⟨.hbm, 1013, rfl⟩
abbrev main_call1_v61 : Ref sig .tc := ⟨.hbm, 1014, rfl⟩
abbrev main_call1_v62 : Ref sig .tc := ⟨.hbm, 1015, rfl⟩
abbrev main_call1_v63 : Ref sig .tc := ⟨.hbm, 1016, rfl⟩
abbrev main_call1_v64 : Ref sig .tc := ⟨.hbm, 1017, rfl⟩
abbrev main_call1_v65 : Ref sig .tc := ⟨.hbm, 1018, rfl⟩
abbrev main_call1_v66 : Ref sig .tc := ⟨.hbm, 1019, rfl⟩
abbrev main_call1_v67 : Ref sig .tc := ⟨.hbm, 1020, rfl⟩
abbrev main_call1_v68 : Ref sig .tc := ⟨.hbm, 1021, rfl⟩
abbrev main_call1_v69 : Ref sig .tc := ⟨.hbm, 1022, rfl⟩
abbrev main_call1_v70 : Ref sig .tc := ⟨.hbm, 1023, rfl⟩
abbrev main_call1_v71 : Ref sig .tc := ⟨.hbm, 1024, rfl⟩
abbrev main_call1_v72 : Ref sig .tc := ⟨.hbm, 1025, rfl⟩
abbrev main_v12 : Ref sig .tc := ⟨.hbm, 1026, rfl⟩
abbrev main_c_4 : Ref sig .tc := ⟨.hbm, 1027, rfl⟩
abbrev main_c_5 : Ref sig .tc := ⟨.hbm, 1028, rfl⟩
abbrev main_call2_c : Ref sig .tc := ⟨.hbm, 1029, rfl⟩
abbrev main_call2_c_0 : Ref sig .tc := ⟨.hbm, 1030, rfl⟩
abbrev main_call2_c_1 : Ref sig .tc := ⟨.hbm, 1031, rfl⟩
abbrev main_call2_call0_v0 : Ref sig .tc := ⟨.hbm, 1032, rfl⟩
abbrev main_call2_v0 : Ref sig .tc := ⟨.hbm, 1033, rfl⟩
abbrev main_call2_v1 : Ref sig .tc := ⟨.hbm, 1034, rfl⟩
abbrev main_call2_c_2 : Ref sig .tc := ⟨.hbm, 1035, rfl⟩
abbrev main_call2_c_3 : Ref sig .tc := ⟨.hbm, 1036, rfl⟩
abbrev main_call2_call1_v0 : Ref sig .tc := ⟨.hbm, 1037, rfl⟩
abbrev main_call2_v2 : Ref sig .tc := ⟨.hbm, 1038, rfl⟩
abbrev main_call2_v3 : Ref sig .tc := ⟨.hbm, 1039, rfl⟩
abbrev main_call2_c_4 : Ref sig .tc := ⟨.hbm, 1040, rfl⟩
abbrev main_call2_c_5 : Ref sig .tc := ⟨.hbm, 1041, rfl⟩
abbrev main_call2_call2_v0 : Ref sig .tc := ⟨.hbm, 1042, rfl⟩
abbrev main_call2_v4 : Ref sig .tc := ⟨.hbm, 1043, rfl⟩
abbrev main_call2_v5 : Ref sig .tc := ⟨.hbm, 1044, rfl⟩
abbrev main_call2_v6 : Ref sig .tc := ⟨.hbm, 1045, rfl⟩
abbrev main_call2_v7 : Ref sig .tc := ⟨.hbm, 1046, rfl⟩
abbrev main_call2_call3_v0 : Ref sig .tc := ⟨.hbm, 1047, rfl⟩
abbrev main_call2_call3_v1 : Ref sig .tc := ⟨.hbm, 1048, rfl⟩
abbrev main_call2_call3_v2 : Ref sig .tc := ⟨.hbm, 1049, rfl⟩
abbrev main_call2_call3_v3 : Ref sig .tc := ⟨.hbm, 1050, rfl⟩
abbrev main_call2_call3_v4 : Ref sig .tc := ⟨.hbm, 1051, rfl⟩
abbrev main_call2_call3_c : Ref sig .tc := ⟨.hbm, 1052, rfl⟩
abbrev main_call2_call3_v5 : Ref sig .tc := ⟨.hbm, 1053, rfl⟩
abbrev main_call2_call3_v6 : Ref sig .tc := ⟨.hbm, 1054, rfl⟩
abbrev main_call2_call3_c_0 : Ref sig .tc := ⟨.hbm, 1055, rfl⟩
abbrev main_call2_call3_v7 : Ref sig .tc := ⟨.hbm, 1056, rfl⟩
abbrev main_call2_call3_v8 : Ref sig .tc := ⟨.hbm, 1057, rfl⟩
abbrev main_call2_call3_v9 : Ref sig .tc := ⟨.hbm, 1058, rfl⟩
abbrev main_call2_call3_v10 : Ref sig .tc := ⟨.hbm, 1059, rfl⟩
abbrev main_call2_call3_call0_v0 : Ref sig .tc := ⟨.hbm, 1060, rfl⟩
abbrev main_call2_call3_call0_c : Ref sig .tc := ⟨.hbm, 1061, rfl⟩
abbrev main_call2_call3_call0_v1 : Ref sig .tc := ⟨.hbm, 1062, rfl⟩
abbrev main_call2_call3_call0_v2 : Ref sig .tc := ⟨.hbm, 1063, rfl⟩
abbrev main_call2_call3_call0_v3 : Ref sig .tc := ⟨.hbm, 1064, rfl⟩
abbrev main_call2_call3_call0_v4 : Ref sig .tc := ⟨.hbm, 1065, rfl⟩
abbrev main_call2_call3_call0_v5 : Ref sig .tc := ⟨.hbm, 1066, rfl⟩
abbrev main_call2_call3_call0_v6 : Ref sig .tc := ⟨.hbm, 1067, rfl⟩
abbrev main_call2_call3_call0_c_0 : Ref sig .tc := ⟨.hbm, 1068, rfl⟩
abbrev main_call2_call3_call0_v7 : Ref sig .tc := ⟨.hbm, 1069, rfl⟩
abbrev main_call2_call3_call0_v8 : Ref sig .tc := ⟨.hbm, 1070, rfl⟩
abbrev main_call2_call3_call0_c_1 : Ref sig .tc := ⟨.hbm, 1071, rfl⟩
abbrev main_call2_call3_call0_v9 : Ref sig .tc := ⟨.hbm, 1072, rfl⟩
abbrev main_call2_call3_call0_v10 : Ref sig .tc := ⟨.hbm, 1073, rfl⟩
abbrev main_call2_call3_call0_v11 : Ref sig .tc := ⟨.hbm, 1074, rfl⟩
abbrev main_call2_call3_call0_v12 : Ref sig .tc := ⟨.hbm, 1075, rfl⟩
abbrev main_call2_call3_call0_v13 : Ref sig .tc := ⟨.hbm, 1076, rfl⟩
abbrev main_call2_call3_call0_c_2 : Ref sig .tc := ⟨.hbm, 1077, rfl⟩
abbrev main_call2_call3_call0_v14 : Ref sig .tc := ⟨.hbm, 1078, rfl⟩
abbrev main_call2_call3_call0_v15 : Ref sig .tc := ⟨.hbm, 1079, rfl⟩
abbrev main_call2_call3_call0_c_3 : Ref sig .tc := ⟨.hbm, 1080, rfl⟩
abbrev main_call2_call3_call0_v16 : Ref sig .tc := ⟨.hbm, 1081, rfl⟩
abbrev main_call2_call3_call0_v17 : Ref sig .tc := ⟨.hbm, 1082, rfl⟩
abbrev main_call2_call3_call0_v18 : Ref sig .tc := ⟨.hbm, 1083, rfl⟩
abbrev main_call2_call3_call0_v19 : Ref sig .tc := ⟨.hbm, 1084, rfl⟩
abbrev main_call2_call3_call0_v20 : Ref sig .tc := ⟨.hbm, 1085, rfl⟩
abbrev main_call2_call3_call0_c_4 : Ref sig .tc := ⟨.hbm, 1086, rfl⟩
abbrev main_call2_call3_call0_v21 : Ref sig .tc := ⟨.hbm, 1087, rfl⟩
abbrev main_call2_call3_call0_v22 : Ref sig .tc := ⟨.hbm, 1088, rfl⟩
abbrev main_call2_call3_call0_c_5 : Ref sig .tc := ⟨.hbm, 1089, rfl⟩
abbrev main_call2_call3_call0_v23 : Ref sig .tc := ⟨.hbm, 1090, rfl⟩
abbrev main_call2_call3_call0_v24 : Ref sig .tc := ⟨.hbm, 1091, rfl⟩
abbrev main_call2_call3_call0_v25 : Ref sig .tc := ⟨.hbm, 1092, rfl⟩
abbrev main_call2_call3_call0_v26 : Ref sig .tc := ⟨.hbm, 1093, rfl⟩
abbrev main_call2_call3_call0_v27 : Ref sig .tc := ⟨.hbm, 1094, rfl⟩
abbrev main_call2_call3_call0_c_6 : Ref sig .tc := ⟨.hbm, 1095, rfl⟩
abbrev main_call2_call3_call0_v28 : Ref sig .tc := ⟨.hbm, 1096, rfl⟩
abbrev main_call2_call3_call0_v29 : Ref sig .tc := ⟨.hbm, 1097, rfl⟩
abbrev main_call2_call3_call0_c_7 : Ref sig .tc := ⟨.hbm, 1098, rfl⟩
abbrev main_call2_call3_call0_v30 : Ref sig .tc := ⟨.hbm, 1099, rfl⟩
abbrev main_call2_call3_call0_v31 : Ref sig .tc := ⟨.hbm, 1100, rfl⟩
abbrev main_call2_call3_call0_v32 : Ref sig .tc := ⟨.hbm, 1101, rfl⟩
abbrev main_call2_call3_call0_v33 : Ref sig .tc := ⟨.hbm, 1102, rfl⟩
abbrev main_call2_call3_call0_v34 : Ref sig .tc := ⟨.hbm, 1103, rfl⟩
abbrev main_call2_call3_call0_v35 : Ref sig .tc := ⟨.hbm, 1104, rfl⟩
abbrev main_call2_call3_call0_v36 : Ref sig .tc := ⟨.hbm, 1105, rfl⟩
abbrev main_call2_call3_call0_v37 : Ref sig .tc := ⟨.hbm, 1106, rfl⟩
abbrev main_call2_call3_call0_c_8 : Ref sig .tc := ⟨.hbm, 1107, rfl⟩
abbrev main_call2_call3_call0_v38 : Ref sig .tc := ⟨.hbm, 1108, rfl⟩
abbrev main_call2_call3_call0_v39 : Ref sig .tc := ⟨.hbm, 1109, rfl⟩
abbrev main_call2_call3_call0_v40 : Ref sig .tc := ⟨.hbm, 1110, rfl⟩
abbrev main_call2_call3_call0_c_9 : Ref sig .tc := ⟨.hbm, 1111, rfl⟩
abbrev main_call2_call3_call0_v41 : Ref sig .tc := ⟨.hbm, 1112, rfl⟩
abbrev main_call2_call3_call0_v42 : Ref sig .tc := ⟨.hbm, 1113, rfl⟩
abbrev main_call2_call3_call0_c_10 : Ref sig .tc := ⟨.hbm, 1114, rfl⟩
abbrev main_call2_call3_call0_v43 : Ref sig .tc := ⟨.hbm, 1115, rfl⟩
abbrev main_call2_call3_call0_v44 : Ref sig .tc := ⟨.hbm, 1116, rfl⟩
abbrev main_call2_call3_call0_v45 : Ref sig .tc := ⟨.hbm, 1117, rfl⟩
abbrev main_call2_call3_call0_v46 : Ref sig .tc := ⟨.hbm, 1118, rfl⟩
abbrev main_call2_call3_call0_v47 : Ref sig .tc := ⟨.hbm, 1119, rfl⟩
abbrev main_call2_call3_call0_c_11 : Ref sig .tc := ⟨.hbm, 1120, rfl⟩
abbrev main_call2_call3_call0_v48 : Ref sig .tc := ⟨.hbm, 1121, rfl⟩
abbrev main_call2_call3_call0_v49 : Ref sig .tc := ⟨.hbm, 1122, rfl⟩
abbrev main_call2_call3_call0_c_12 : Ref sig .tc := ⟨.hbm, 1123, rfl⟩
abbrev main_call2_call3_call0_v50 : Ref sig .tc := ⟨.hbm, 1124, rfl⟩
abbrev main_call2_call3_call0_v51 : Ref sig .tc := ⟨.hbm, 1125, rfl⟩
abbrev main_call2_call3_call0_v52 : Ref sig .tc := ⟨.hbm, 1126, rfl⟩
abbrev main_call2_call3_call0_v53 : Ref sig .tc := ⟨.hbm, 1127, rfl⟩
abbrev main_call2_call3_call0_v54 : Ref sig .tc := ⟨.hbm, 1128, rfl⟩
abbrev main_call2_call3_call0_c_13 : Ref sig .tc := ⟨.hbm, 1129, rfl⟩
abbrev main_call2_call3_call0_v55 : Ref sig .tc := ⟨.hbm, 1130, rfl⟩
abbrev main_call2_call3_call0_v56 : Ref sig .tc := ⟨.hbm, 1131, rfl⟩
abbrev main_call2_call3_call0_c_14 : Ref sig .tc := ⟨.hbm, 1132, rfl⟩
abbrev main_call2_call3_call0_v57 : Ref sig .tc := ⟨.hbm, 1133, rfl⟩
abbrev main_call2_call3_call0_v58 : Ref sig .tc := ⟨.hbm, 1134, rfl⟩
abbrev main_call2_call3_call0_v59 : Ref sig .tc := ⟨.hbm, 1135, rfl⟩
abbrev main_call2_call3_call0_v60 : Ref sig .tc := ⟨.hbm, 1136, rfl⟩
abbrev main_call2_call3_call0_v61 : Ref sig .tc := ⟨.hbm, 1137, rfl⟩
abbrev main_call2_call3_call0_c_15 : Ref sig .tc := ⟨.hbm, 1138, rfl⟩
abbrev main_call2_call3_call0_v62 : Ref sig .tc := ⟨.hbm, 1139, rfl⟩
abbrev main_call2_call3_call0_v63 : Ref sig .tc := ⟨.hbm, 1140, rfl⟩
abbrev main_call2_call3_call0_c_16 : Ref sig .tc := ⟨.hbm, 1141, rfl⟩
abbrev main_call2_call3_call0_v64 : Ref sig .tc := ⟨.hbm, 1142, rfl⟩
abbrev main_call2_call3_call0_v65 : Ref sig .tc := ⟨.hbm, 1143, rfl⟩
abbrev main_call2_call3_call0_v66 : Ref sig .tc := ⟨.hbm, 1144, rfl⟩
abbrev main_call2_call3_call0_v67 : Ref sig .tc := ⟨.hbm, 1145, rfl⟩
abbrev main_call2_call3_call0_v68 : Ref sig .tc := ⟨.hbm, 1146, rfl⟩
abbrev main_call2_call3_call0_v69 : Ref sig .tc := ⟨.hbm, 1147, rfl⟩
abbrev main_call2_call3_call0_v70 : Ref sig .tc := ⟨.hbm, 1148, rfl⟩
abbrev main_call2_call3_call0_v71 : Ref sig .tc := ⟨.hbm, 1149, rfl⟩
abbrev main_call2_call3_call0_c_17 : Ref sig .tc := ⟨.hbm, 1150, rfl⟩
abbrev main_call2_call3_call0_v72 : Ref sig .tc := ⟨.hbm, 1151, rfl⟩
abbrev main_call2_call3_call0_v73 : Ref sig .tc := ⟨.hbm, 1152, rfl⟩
abbrev main_call2_call3_call0_v74 : Ref sig .tc := ⟨.hbm, 1153, rfl⟩
abbrev main_call2_call3_call0_c_18 : Ref sig .tc := ⟨.hbm, 1154, rfl⟩
abbrev main_call2_call3_call0_v75 : Ref sig .tc := ⟨.hbm, 1155, rfl⟩
abbrev main_call2_call3_call0_v76 : Ref sig .tc := ⟨.hbm, 1156, rfl⟩
abbrev main_call2_call3_call0_c_19 : Ref sig .tc := ⟨.hbm, 1157, rfl⟩
abbrev main_call2_call3_call0_v77 : Ref sig .tc := ⟨.hbm, 1158, rfl⟩
abbrev main_call2_call3_call0_v78 : Ref sig .tc := ⟨.hbm, 1159, rfl⟩
abbrev main_call2_call3_call0_v79 : Ref sig .tc := ⟨.hbm, 1160, rfl⟩
abbrev main_call2_call3_call0_v80 : Ref sig .tc := ⟨.hbm, 1161, rfl⟩
abbrev main_call2_call3_call0_v81 : Ref sig .tc := ⟨.hbm, 1162, rfl⟩
abbrev main_call2_call3_call0_c_20 : Ref sig .tc := ⟨.hbm, 1163, rfl⟩
abbrev main_call2_call3_call0_v82 : Ref sig .tc := ⟨.hbm, 1164, rfl⟩
abbrev main_call2_call3_call0_v83 : Ref sig .tc := ⟨.hbm, 1165, rfl⟩
abbrev main_call2_call3_call0_c_21 : Ref sig .tc := ⟨.hbm, 1166, rfl⟩
abbrev main_call2_call3_call0_v84 : Ref sig .tc := ⟨.hbm, 1167, rfl⟩
abbrev main_call2_call3_call0_v85 : Ref sig .tc := ⟨.hbm, 1168, rfl⟩
abbrev main_call2_call3_call0_v86 : Ref sig .tc := ⟨.hbm, 1169, rfl⟩
abbrev main_call2_call3_call0_v87 : Ref sig .tc := ⟨.hbm, 1170, rfl⟩
abbrev main_call2_call3_call0_v88 : Ref sig .tc := ⟨.hbm, 1171, rfl⟩
abbrev main_call2_call3_call0_c_22 : Ref sig .tc := ⟨.hbm, 1172, rfl⟩
abbrev main_call2_call3_call0_v89 : Ref sig .tc := ⟨.hbm, 1173, rfl⟩
abbrev main_call2_call3_call0_v90 : Ref sig .tc := ⟨.hbm, 1174, rfl⟩
abbrev main_call2_call3_call0_c_23 : Ref sig .tc := ⟨.hbm, 1175, rfl⟩
abbrev main_call2_call3_call0_v91 : Ref sig .tc := ⟨.hbm, 1176, rfl⟩
abbrev main_call2_call3_call0_v92 : Ref sig .tc := ⟨.hbm, 1177, rfl⟩
abbrev main_call2_call3_call0_v93 : Ref sig .tc := ⟨.hbm, 1178, rfl⟩
abbrev main_call2_call3_call0_v94 : Ref sig .tc := ⟨.hbm, 1179, rfl⟩
abbrev main_call2_call3_call0_v95 : Ref sig .tc := ⟨.hbm, 1180, rfl⟩
abbrev main_call2_call3_call0_c_24 : Ref sig .tc := ⟨.hbm, 1181, rfl⟩
abbrev main_call2_call3_call0_v96 : Ref sig .tc := ⟨.hbm, 1182, rfl⟩
abbrev main_call2_call3_call0_v97 : Ref sig .tc := ⟨.hbm, 1183, rfl⟩
abbrev main_call2_call3_call0_c_25 : Ref sig .tc := ⟨.hbm, 1184, rfl⟩
abbrev main_call2_call3_call0_v98 : Ref sig .tc := ⟨.hbm, 1185, rfl⟩
abbrev main_call2_call3_call0_v99 : Ref sig .tc := ⟨.hbm, 1186, rfl⟩
abbrev main_call2_call3_call0_v100 : Ref sig .tc := ⟨.hbm, 1187, rfl⟩
abbrev main_call2_call3_call0_v101 : Ref sig .tc := ⟨.hbm, 1188, rfl⟩
abbrev main_call2_call3_call0_v102 : Ref sig .tc := ⟨.hbm, 1189, rfl⟩
abbrev main_call2_call3_call0_v103 : Ref sig .tc := ⟨.hbm, 1190, rfl⟩
abbrev main_call2_call3_call0_v104 : Ref sig .tc := ⟨.hbm, 1191, rfl⟩
abbrev main_call2_call3_call0_v105 : Ref sig .tc := ⟨.hbm, 1192, rfl⟩
abbrev main_call2_call3_call0_c_26 : Ref sig .tc := ⟨.hbm, 1193, rfl⟩
abbrev main_call2_call3_call0_v106 : Ref sig .tc := ⟨.hbm, 1194, rfl⟩
abbrev main_call2_call3_call0_v107 : Ref sig .tc := ⟨.hbm, 1195, rfl⟩
abbrev main_call2_call3_call0_v108 : Ref sig .tc := ⟨.hbm, 1196, rfl⟩
abbrev main_call2_call3_call0_c_27 : Ref sig .tc := ⟨.hbm, 1197, rfl⟩
abbrev main_call2_call3_call0_v109 : Ref sig .tc := ⟨.hbm, 1198, rfl⟩
abbrev main_call2_call3_call0_v110 : Ref sig .tc := ⟨.hbm, 1199, rfl⟩
abbrev main_call2_call3_call0_c_28 : Ref sig .tc := ⟨.hbm, 1200, rfl⟩
abbrev main_call2_call3_call0_v111 : Ref sig .tc := ⟨.hbm, 1201, rfl⟩
abbrev main_call2_call3_call0_v112 : Ref sig .tc := ⟨.hbm, 1202, rfl⟩
abbrev main_call2_call3_call0_v113 : Ref sig .tc := ⟨.hbm, 1203, rfl⟩
abbrev main_call2_call3_call0_v114 : Ref sig .tc := ⟨.hbm, 1204, rfl⟩
abbrev main_call2_call3_call0_v115 : Ref sig .tc := ⟨.hbm, 1205, rfl⟩
abbrev main_call2_call3_call0_c_29 : Ref sig .tc := ⟨.hbm, 1206, rfl⟩
abbrev main_call2_call3_call0_v116 : Ref sig .tc := ⟨.hbm, 1207, rfl⟩
abbrev main_call2_call3_call0_v117 : Ref sig .tc := ⟨.hbm, 1208, rfl⟩
abbrev main_call2_call3_call0_c_30 : Ref sig .tc := ⟨.hbm, 1209, rfl⟩
abbrev main_call2_call3_call0_v118 : Ref sig .tc := ⟨.hbm, 1210, rfl⟩
abbrev main_call2_call3_call0_v119 : Ref sig .tc := ⟨.hbm, 1211, rfl⟩
abbrev main_call2_call3_call0_v120 : Ref sig .tc := ⟨.hbm, 1212, rfl⟩
abbrev main_call2_call3_call0_v121 : Ref sig .tc := ⟨.hbm, 1213, rfl⟩
abbrev main_call2_call3_call0_v122 : Ref sig .tc := ⟨.hbm, 1214, rfl⟩
abbrev main_call2_call3_call0_c_31 : Ref sig .tc := ⟨.hbm, 1215, rfl⟩
abbrev main_call2_call3_call0_v123 : Ref sig .tc := ⟨.hbm, 1216, rfl⟩
abbrev main_call2_call3_call0_v124 : Ref sig .tc := ⟨.hbm, 1217, rfl⟩
abbrev main_call2_call3_call0_c_32 : Ref sig .tc := ⟨.hbm, 1218, rfl⟩
abbrev main_call2_call3_call0_v125 : Ref sig .tc := ⟨.hbm, 1219, rfl⟩
abbrev main_call2_call3_call0_v126 : Ref sig .tc := ⟨.hbm, 1220, rfl⟩
abbrev main_call2_call3_call0_v127 : Ref sig .tc := ⟨.hbm, 1221, rfl⟩
abbrev main_call2_call3_call0_v128 : Ref sig .tc := ⟨.hbm, 1222, rfl⟩
abbrev main_call2_call3_call0_v129 : Ref sig .tc := ⟨.hbm, 1223, rfl⟩
abbrev main_call2_call3_call0_c_33 : Ref sig .tc := ⟨.hbm, 1224, rfl⟩
abbrev main_call2_call3_call0_v130 : Ref sig .tc := ⟨.hbm, 1225, rfl⟩
abbrev main_call2_call3_call0_v131 : Ref sig .tc := ⟨.hbm, 1226, rfl⟩
abbrev main_call2_call3_call0_c_34 : Ref sig .tc := ⟨.hbm, 1227, rfl⟩
abbrev main_call2_call3_call0_v132 : Ref sig .tc := ⟨.hbm, 1228, rfl⟩
abbrev main_call2_call3_call0_v133 : Ref sig .tc := ⟨.hbm, 1229, rfl⟩
abbrev main_call2_call3_call0_v134 : Ref sig .tc := ⟨.hbm, 1230, rfl⟩
abbrev main_call2_call3_call0_v135 : Ref sig .tc := ⟨.hbm, 1231, rfl⟩
abbrev main_call2_call3_call0_v136 : Ref sig .tc := ⟨.hbm, 1232, rfl⟩
abbrev main_call2_call3_call0_v137 : Ref sig .tc := ⟨.hbm, 1233, rfl⟩
abbrev main_call2_call3_call0_v138 : Ref sig .tc := ⟨.hbm, 1234, rfl⟩
abbrev main_call2_call3_call0_v139 : Ref sig .tc := ⟨.hbm, 1235, rfl⟩
abbrev main_call2_call3_call0_c_35 : Ref sig .tc := ⟨.hbm, 1236, rfl⟩
abbrev main_call2_call3_call0_v140 : Ref sig .tc := ⟨.hbm, 1237, rfl⟩
abbrev main_call2_call3_call0_v141 : Ref sig .tc := ⟨.hbm, 1238, rfl⟩
abbrev main_call2_call3_call0_v142 : Ref sig .tc := ⟨.hbm, 1239, rfl⟩
abbrev main_call2_call3_call0_c_36 : Ref sig .tc := ⟨.hbm, 1240, rfl⟩
abbrev main_call2_call3_call0_v143 : Ref sig .tc := ⟨.hbm, 1241, rfl⟩
abbrev main_call2_call3_call0_v144 : Ref sig .tc := ⟨.hbm, 1242, rfl⟩
abbrev main_call2_call3_call0_c_37 : Ref sig .tc := ⟨.hbm, 1243, rfl⟩
abbrev main_call2_call3_call0_v145 : Ref sig .tc := ⟨.hbm, 1244, rfl⟩
abbrev main_call2_call3_call0_v146 : Ref sig .tc := ⟨.hbm, 1245, rfl⟩
abbrev main_call2_call3_call0_v147 : Ref sig .tc := ⟨.hbm, 1246, rfl⟩
abbrev main_call2_call3_call0_v148 : Ref sig .tc := ⟨.hbm, 1247, rfl⟩
abbrev main_call2_call3_call0_v149 : Ref sig .tc := ⟨.hbm, 1248, rfl⟩
abbrev main_call2_call3_call0_c_38 : Ref sig .tc := ⟨.hbm, 1249, rfl⟩
abbrev main_call2_call3_call0_v150 : Ref sig .tc := ⟨.hbm, 1250, rfl⟩
abbrev main_call2_call3_call0_v151 : Ref sig .tc := ⟨.hbm, 1251, rfl⟩
abbrev main_call2_call3_call0_c_39 : Ref sig .tc := ⟨.hbm, 1252, rfl⟩
abbrev main_call2_call3_call0_v152 : Ref sig .tc := ⟨.hbm, 1253, rfl⟩
abbrev main_call2_call3_call0_v153 : Ref sig .tc := ⟨.hbm, 1254, rfl⟩
abbrev main_call2_call3_call0_v154 : Ref sig .tc := ⟨.hbm, 1255, rfl⟩
abbrev main_call2_call3_call0_v155 : Ref sig .tc := ⟨.hbm, 1256, rfl⟩
abbrev main_call2_call3_call0_v156 : Ref sig .tc := ⟨.hbm, 1257, rfl⟩
abbrev main_call2_call3_call0_c_40 : Ref sig .tc := ⟨.hbm, 1258, rfl⟩
abbrev main_call2_call3_call0_v157 : Ref sig .tc := ⟨.hbm, 1259, rfl⟩
abbrev main_call2_call3_call0_v158 : Ref sig .tc := ⟨.hbm, 1260, rfl⟩
abbrev main_call2_call3_call0_c_41 : Ref sig .tc := ⟨.hbm, 1261, rfl⟩
abbrev main_call2_call3_call0_v159 : Ref sig .tc := ⟨.hbm, 1262, rfl⟩
abbrev main_call2_call3_call0_v160 : Ref sig .tc := ⟨.hbm, 1263, rfl⟩
abbrev main_call2_call3_call0_v161 : Ref sig .tc := ⟨.hbm, 1264, rfl⟩
abbrev main_call2_call3_call0_v162 : Ref sig .tc := ⟨.hbm, 1265, rfl⟩
abbrev main_call2_call3_call0_v163 : Ref sig .tc := ⟨.hbm, 1266, rfl⟩
abbrev main_call2_call3_call0_c_42 : Ref sig .tc := ⟨.hbm, 1267, rfl⟩
abbrev main_call2_call3_call0_v164 : Ref sig .tc := ⟨.hbm, 1268, rfl⟩
abbrev main_call2_call3_call0_v165 : Ref sig .tc := ⟨.hbm, 1269, rfl⟩
abbrev main_call2_call3_call0_c_43 : Ref sig .tc := ⟨.hbm, 1270, rfl⟩
abbrev main_call2_call3_call0_v166 : Ref sig .tc := ⟨.hbm, 1271, rfl⟩
abbrev main_call2_call3_call0_v167 : Ref sig .tc := ⟨.hbm, 1272, rfl⟩
abbrev main_call2_call3_call0_v168 : Ref sig .tc := ⟨.hbm, 1273, rfl⟩
abbrev main_call2_call3_call0_v169 : Ref sig .tc := ⟨.hbm, 1274, rfl⟩
abbrev main_call2_call3_call0_v170 : Ref sig .tc := ⟨.hbm, 1275, rfl⟩
abbrev main_call2_call3_v11_0 : Ref sig .tc := ⟨.hbm, 1276, rfl⟩
abbrev main_call2_call3_call0_v172 : Ref sig .tc := ⟨.hbm, 1277, rfl⟩
abbrev main_call2_call3_call0_v173 : Ref sig .tc := ⟨.hbm, 1278, rfl⟩
abbrev main_call2_call3_call0_c_44 : Ref sig .tc := ⟨.hbm, 1279, rfl⟩
abbrev main_call2_call3_call0_v174 : Ref sig .tc := ⟨.hbm, 1280, rfl⟩
abbrev main_call2_call3_v11_1 : Ref sig .tc := ⟨.hbm, 1281, rfl⟩
abbrev main_call2_call3_v12 : Ref sig .tc := ⟨.hbm, 1282, rfl⟩
abbrev main_call2_call3_v13 : Ref sig .tc := ⟨.hbm, 1283, rfl⟩
abbrev main_call2_v8 : Ref sig .tc := ⟨.hbm, 1284, rfl⟩
abbrev main_call2_v9 : Ref sig .tc := ⟨.hbm, 1285, rfl⟩
abbrev main_call2_v10 : Ref sig .tc := ⟨.hbm, 1286, rfl⟩
abbrev main_call2_v11 : Ref sig .tc := ⟨.hbm, 1287, rfl⟩
abbrev main_call2_v12 : Ref sig .tc := ⟨.hbm, 1288, rfl⟩
abbrev main_call2_v13 : Ref sig .tc := ⟨.hbm, 1289, rfl⟩
abbrev main_call2_v14 : Ref sig .tc := ⟨.hbm, 1290, rfl⟩
abbrev main_call2_v15 : Ref sig .tc := ⟨.hbm, 1291, rfl⟩
abbrev main_call2_v16 : Ref sig .tc := ⟨.hbm, 1292, rfl⟩
abbrev main_call2_v17 : Ref sig .tc := ⟨.hbm, 1293, rfl⟩
abbrev main_call2_v18 : Ref sig .tc := ⟨.hbm, 1294, rfl⟩
abbrev main_call2_c_6 : Ref sig .tc := ⟨.hbm, 1295, rfl⟩
abbrev main_call2_v19 : Ref sig .tc := ⟨.hbm, 1296, rfl⟩
abbrev main_call2_v20 : Ref sig .tc := ⟨.hbm, 1297, rfl⟩
abbrev main_call2_c_7 : Ref sig .tc := ⟨.hbm, 1298, rfl⟩
abbrev main_call2_v21 : Ref sig .tc := ⟨.hbm, 1299, rfl⟩
abbrev main_call2_v22 : Ref sig .tc := ⟨.hbm, 1300, rfl⟩
abbrev main_call2_v23 : Ref sig .tc := ⟨.hbm, 1301, rfl⟩
abbrev main_call2_c_8 : Ref sig .tc := ⟨.hbm, 1302, rfl⟩
abbrev main_call2_v24 : Ref sig .tc := ⟨.hbm, 1303, rfl⟩
abbrev main_call2_v25 : Ref sig .tc := ⟨.hbm, 1304, rfl⟩
abbrev main_call2_v26 : Ref sig .tc := ⟨.hbm, 1305, rfl⟩
abbrev main_call2_v27 : Ref sig .tc := ⟨.hbm, 1306, rfl⟩
abbrev main_call2_call4_v0 : Ref sig .tc := ⟨.hbm, 1307, rfl⟩
abbrev main_call2_call4_c : Ref sig .tc := ⟨.hbm, 1308, rfl⟩
abbrev main_call2_call4_v1 : Ref sig .tc := ⟨.hbm, 1309, rfl⟩
abbrev main_call2_call4_v2 : Ref sig .tc := ⟨.hbm, 1310, rfl⟩
abbrev main_call2_call4_v3 : Ref sig .tc := ⟨.hbm, 1311, rfl⟩
abbrev main_call2_call4_v4 : Ref sig .tc := ⟨.hbm, 1312, rfl⟩
abbrev main_call2_call4_v5 : Ref sig .tc := ⟨.hbm, 1313, rfl⟩
abbrev main_call2_call4_v6 : Ref sig .tc := ⟨.hbm, 1314, rfl⟩
abbrev main_call2_call4_c_0 : Ref sig .tc := ⟨.hbm, 1315, rfl⟩
abbrev main_call2_call4_v7 : Ref sig .tc := ⟨.hbm, 1316, rfl⟩
abbrev main_call2_call4_v8 : Ref sig .tc := ⟨.hbm, 1317, rfl⟩
abbrev main_call2_call4_c_1 : Ref sig .tc := ⟨.hbm, 1318, rfl⟩
abbrev main_call2_call4_v9 : Ref sig .tc := ⟨.hbm, 1319, rfl⟩
abbrev main_call2_call4_v10 : Ref sig .tc := ⟨.hbm, 1320, rfl⟩
abbrev main_call2_call4_v11 : Ref sig .tc := ⟨.hbm, 1321, rfl⟩
abbrev main_call2_call4_v12 : Ref sig .tc := ⟨.hbm, 1322, rfl⟩
abbrev main_call2_call4_v13 : Ref sig .tc := ⟨.hbm, 1323, rfl⟩
abbrev main_call2_call4_c_2 : Ref sig .tc := ⟨.hbm, 1324, rfl⟩
abbrev main_call2_call4_v14 : Ref sig .tc := ⟨.hbm, 1325, rfl⟩
abbrev main_call2_call4_v15 : Ref sig .tc := ⟨.hbm, 1326, rfl⟩
abbrev main_call2_call4_c_3 : Ref sig .tc := ⟨.hbm, 1327, rfl⟩
abbrev main_call2_call4_v16 : Ref sig .tc := ⟨.hbm, 1328, rfl⟩
abbrev main_call2_call4_v17 : Ref sig .tc := ⟨.hbm, 1329, rfl⟩
abbrev main_call2_call4_v18 : Ref sig .tc := ⟨.hbm, 1330, rfl⟩
abbrev main_call2_call4_v19 : Ref sig .tc := ⟨.hbm, 1331, rfl⟩
abbrev main_call2_call4_v20 : Ref sig .tc := ⟨.hbm, 1332, rfl⟩
abbrev main_call2_call4_c_4 : Ref sig .tc := ⟨.hbm, 1333, rfl⟩
abbrev main_call2_call4_v21 : Ref sig .tc := ⟨.hbm, 1334, rfl⟩
abbrev main_call2_call4_v22 : Ref sig .tc := ⟨.hbm, 1335, rfl⟩
abbrev main_call2_call4_c_5 : Ref sig .tc := ⟨.hbm, 1336, rfl⟩
abbrev main_call2_call4_v23 : Ref sig .tc := ⟨.hbm, 1337, rfl⟩
abbrev main_call2_call4_v24 : Ref sig .tc := ⟨.hbm, 1338, rfl⟩
abbrev main_call2_call4_v25 : Ref sig .tc := ⟨.hbm, 1339, rfl⟩
abbrev main_call2_call4_v26 : Ref sig .tc := ⟨.hbm, 1340, rfl⟩
abbrev main_call2_call4_v27 : Ref sig .tc := ⟨.hbm, 1341, rfl⟩
abbrev main_call2_call4_c_6 : Ref sig .tc := ⟨.hbm, 1342, rfl⟩
abbrev main_call2_call4_v28 : Ref sig .tc := ⟨.hbm, 1343, rfl⟩
abbrev main_call2_call4_v29 : Ref sig .tc := ⟨.hbm, 1344, rfl⟩
abbrev main_call2_call4_c_7 : Ref sig .tc := ⟨.hbm, 1345, rfl⟩
abbrev main_call2_call4_v30 : Ref sig .tc := ⟨.hbm, 1346, rfl⟩
abbrev main_call2_call4_v31 : Ref sig .tc := ⟨.hbm, 1347, rfl⟩
abbrev main_call2_call4_v32 : Ref sig .tc := ⟨.hbm, 1348, rfl⟩
abbrev main_call2_call4_v33 : Ref sig .tc := ⟨.hbm, 1349, rfl⟩
abbrev main_call2_call4_v34 : Ref sig .tc := ⟨.hbm, 1350, rfl⟩
abbrev main_call2_call4_v35 : Ref sig .tc := ⟨.hbm, 1351, rfl⟩
abbrev main_call2_call4_v36 : Ref sig .tc := ⟨.hbm, 1352, rfl⟩
abbrev main_call2_call4_v37 : Ref sig .tc := ⟨.hbm, 1353, rfl⟩
abbrev main_call2_call4_c_8 : Ref sig .tc := ⟨.hbm, 1354, rfl⟩
abbrev main_call2_call4_v38 : Ref sig .tc := ⟨.hbm, 1355, rfl⟩
abbrev main_call2_call4_v39 : Ref sig .tc := ⟨.hbm, 1356, rfl⟩
abbrev main_call2_call4_v40 : Ref sig .tc := ⟨.hbm, 1357, rfl⟩
abbrev main_call2_call4_c_9 : Ref sig .tc := ⟨.hbm, 1358, rfl⟩
abbrev main_call2_call4_v41 : Ref sig .tc := ⟨.hbm, 1359, rfl⟩
abbrev main_call2_call4_v42 : Ref sig .tc := ⟨.hbm, 1360, rfl⟩
abbrev main_call2_call4_c_10 : Ref sig .tc := ⟨.hbm, 1361, rfl⟩
abbrev main_call2_call4_v43 : Ref sig .tc := ⟨.hbm, 1362, rfl⟩
abbrev main_call2_call4_v44 : Ref sig .tc := ⟨.hbm, 1363, rfl⟩
abbrev main_call2_call4_v45 : Ref sig .tc := ⟨.hbm, 1364, rfl⟩
abbrev main_call2_call4_v46 : Ref sig .tc := ⟨.hbm, 1365, rfl⟩
abbrev main_call2_call4_v47 : Ref sig .tc := ⟨.hbm, 1366, rfl⟩
abbrev main_call2_call4_c_11 : Ref sig .tc := ⟨.hbm, 1367, rfl⟩
abbrev main_call2_call4_v48 : Ref sig .tc := ⟨.hbm, 1368, rfl⟩
abbrev main_call2_call4_v49 : Ref sig .tc := ⟨.hbm, 1369, rfl⟩
abbrev main_call2_call4_c_12 : Ref sig .tc := ⟨.hbm, 1370, rfl⟩
abbrev main_call2_call4_v50 : Ref sig .tc := ⟨.hbm, 1371, rfl⟩
abbrev main_call2_call4_v51 : Ref sig .tc := ⟨.hbm, 1372, rfl⟩
abbrev main_call2_call4_v52 : Ref sig .tc := ⟨.hbm, 1373, rfl⟩
abbrev main_call2_call4_v53 : Ref sig .tc := ⟨.hbm, 1374, rfl⟩
abbrev main_call2_call4_v54 : Ref sig .tc := ⟨.hbm, 1375, rfl⟩
abbrev main_call2_call4_c_13 : Ref sig .tc := ⟨.hbm, 1376, rfl⟩
abbrev main_call2_call4_v55 : Ref sig .tc := ⟨.hbm, 1377, rfl⟩
abbrev main_call2_call4_v56 : Ref sig .tc := ⟨.hbm, 1378, rfl⟩
abbrev main_call2_call4_c_14 : Ref sig .tc := ⟨.hbm, 1379, rfl⟩
abbrev main_call2_call4_v57 : Ref sig .tc := ⟨.hbm, 1380, rfl⟩
abbrev main_call2_call4_v58 : Ref sig .tc := ⟨.hbm, 1381, rfl⟩
abbrev main_call2_call4_v59 : Ref sig .tc := ⟨.hbm, 1382, rfl⟩
abbrev main_call2_call4_v60 : Ref sig .tc := ⟨.hbm, 1383, rfl⟩
abbrev main_call2_call4_v61 : Ref sig .tc := ⟨.hbm, 1384, rfl⟩
abbrev main_call2_call4_c_15 : Ref sig .tc := ⟨.hbm, 1385, rfl⟩
abbrev main_call2_call4_v62 : Ref sig .tc := ⟨.hbm, 1386, rfl⟩
abbrev main_call2_call4_v63 : Ref sig .tc := ⟨.hbm, 1387, rfl⟩
abbrev main_call2_call4_c_16 : Ref sig .tc := ⟨.hbm, 1388, rfl⟩
abbrev main_call2_call4_v64 : Ref sig .tc := ⟨.hbm, 1389, rfl⟩
abbrev main_call2_call4_v65 : Ref sig .tc := ⟨.hbm, 1390, rfl⟩
abbrev main_call2_call4_v66 : Ref sig .tc := ⟨.hbm, 1391, rfl⟩
abbrev main_call2_call4_v67 : Ref sig .tc := ⟨.hbm, 1392, rfl⟩
abbrev main_call2_call4_v68 : Ref sig .tc := ⟨.hbm, 1393, rfl⟩
abbrev main_call2_call4_v69 : Ref sig .tc := ⟨.hbm, 1394, rfl⟩
abbrev main_call2_call4_v70 : Ref sig .tc := ⟨.hbm, 1395, rfl⟩
abbrev main_call2_call4_v71 : Ref sig .tc := ⟨.hbm, 1396, rfl⟩
abbrev main_call2_call4_c_17 : Ref sig .tc := ⟨.hbm, 1397, rfl⟩
abbrev main_call2_call4_v72 : Ref sig .tc := ⟨.hbm, 1398, rfl⟩
abbrev main_call2_call4_v73 : Ref sig .tc := ⟨.hbm, 1399, rfl⟩
abbrev main_call2_call4_v74 : Ref sig .tc := ⟨.hbm, 1400, rfl⟩
abbrev main_call2_call4_c_18 : Ref sig .tc := ⟨.hbm, 1401, rfl⟩
abbrev main_call2_call4_v75 : Ref sig .tc := ⟨.hbm, 1402, rfl⟩
abbrev main_call2_call4_v76 : Ref sig .tc := ⟨.hbm, 1403, rfl⟩
abbrev main_call2_call4_c_19 : Ref sig .tc := ⟨.hbm, 1404, rfl⟩
abbrev main_call2_call4_v77 : Ref sig .tc := ⟨.hbm, 1405, rfl⟩
abbrev main_call2_call4_v78 : Ref sig .tc := ⟨.hbm, 1406, rfl⟩
abbrev main_call2_call4_v79 : Ref sig .tc := ⟨.hbm, 1407, rfl⟩
abbrev main_call2_call4_v80 : Ref sig .tc := ⟨.hbm, 1408, rfl⟩
abbrev main_call2_call4_v81 : Ref sig .tc := ⟨.hbm, 1409, rfl⟩
abbrev main_call2_call4_c_20 : Ref sig .tc := ⟨.hbm, 1410, rfl⟩
abbrev main_call2_call4_v82 : Ref sig .tc := ⟨.hbm, 1411, rfl⟩
abbrev main_call2_call4_v83 : Ref sig .tc := ⟨.hbm, 1412, rfl⟩
abbrev main_call2_call4_c_21 : Ref sig .tc := ⟨.hbm, 1413, rfl⟩
abbrev main_call2_call4_v84 : Ref sig .tc := ⟨.hbm, 1414, rfl⟩
abbrev main_call2_call4_v85 : Ref sig .tc := ⟨.hbm, 1415, rfl⟩
abbrev main_call2_call4_v86 : Ref sig .tc := ⟨.hbm, 1416, rfl⟩
abbrev main_call2_call4_v87 : Ref sig .tc := ⟨.hbm, 1417, rfl⟩
abbrev main_call2_call4_v88 : Ref sig .tc := ⟨.hbm, 1418, rfl⟩
abbrev main_call2_call4_c_22 : Ref sig .tc := ⟨.hbm, 1419, rfl⟩
abbrev main_call2_call4_v89 : Ref sig .tc := ⟨.hbm, 1420, rfl⟩
abbrev main_call2_call4_v90 : Ref sig .tc := ⟨.hbm, 1421, rfl⟩
abbrev main_call2_call4_c_23 : Ref sig .tc := ⟨.hbm, 1422, rfl⟩
abbrev main_call2_call4_v91 : Ref sig .tc := ⟨.hbm, 1423, rfl⟩
abbrev main_call2_call4_v92 : Ref sig .tc := ⟨.hbm, 1424, rfl⟩
abbrev main_call2_call4_v93 : Ref sig .tc := ⟨.hbm, 1425, rfl⟩
abbrev main_call2_call4_v94 : Ref sig .tc := ⟨.hbm, 1426, rfl⟩
abbrev main_call2_call4_v95 : Ref sig .tc := ⟨.hbm, 1427, rfl⟩
abbrev main_call2_call4_c_24 : Ref sig .tc := ⟨.hbm, 1428, rfl⟩
abbrev main_call2_call4_v96 : Ref sig .tc := ⟨.hbm, 1429, rfl⟩
abbrev main_call2_call4_v97 : Ref sig .tc := ⟨.hbm, 1430, rfl⟩
abbrev main_call2_call4_c_25 : Ref sig .tc := ⟨.hbm, 1431, rfl⟩
abbrev main_call2_call4_v98 : Ref sig .tc := ⟨.hbm, 1432, rfl⟩
abbrev main_call2_call4_v99 : Ref sig .tc := ⟨.hbm, 1433, rfl⟩
abbrev main_call2_call4_v100 : Ref sig .tc := ⟨.hbm, 1434, rfl⟩
abbrev main_call2_call4_v101 : Ref sig .tc := ⟨.hbm, 1435, rfl⟩
abbrev main_call2_call4_v102 : Ref sig .tc := ⟨.hbm, 1436, rfl⟩
abbrev main_call2_call4_v103 : Ref sig .tc := ⟨.hbm, 1437, rfl⟩
abbrev main_call2_call4_v104 : Ref sig .tc := ⟨.hbm, 1438, rfl⟩
abbrev main_call2_call4_v105 : Ref sig .tc := ⟨.hbm, 1439, rfl⟩
abbrev main_call2_call4_c_26 : Ref sig .tc := ⟨.hbm, 1440, rfl⟩
abbrev main_call2_call4_v106 : Ref sig .tc := ⟨.hbm, 1441, rfl⟩
abbrev main_call2_call4_v107 : Ref sig .tc := ⟨.hbm, 1442, rfl⟩
abbrev main_call2_call4_v108 : Ref sig .tc := ⟨.hbm, 1443, rfl⟩
abbrev main_call2_call4_c_27 : Ref sig .tc := ⟨.hbm, 1444, rfl⟩
abbrev main_call2_call4_v109 : Ref sig .tc := ⟨.hbm, 1445, rfl⟩
abbrev main_call2_call4_v110 : Ref sig .tc := ⟨.hbm, 1446, rfl⟩
abbrev main_call2_call4_c_28 : Ref sig .tc := ⟨.hbm, 1447, rfl⟩
abbrev main_call2_call4_v111 : Ref sig .tc := ⟨.hbm, 1448, rfl⟩
abbrev main_call2_call4_v112 : Ref sig .tc := ⟨.hbm, 1449, rfl⟩
abbrev main_call2_call4_v113 : Ref sig .tc := ⟨.hbm, 1450, rfl⟩
abbrev main_call2_call4_v114 : Ref sig .tc := ⟨.hbm, 1451, rfl⟩
abbrev main_call2_call4_v115 : Ref sig .tc := ⟨.hbm, 1452, rfl⟩
abbrev main_call2_call4_c_29 : Ref sig .tc := ⟨.hbm, 1453, rfl⟩
abbrev main_call2_call4_v116 : Ref sig .tc := ⟨.hbm, 1454, rfl⟩
abbrev main_call2_call4_v117 : Ref sig .tc := ⟨.hbm, 1455, rfl⟩
abbrev main_call2_call4_c_30 : Ref sig .tc := ⟨.hbm, 1456, rfl⟩
abbrev main_call2_call4_v118 : Ref sig .tc := ⟨.hbm, 1457, rfl⟩
abbrev main_call2_call4_v119 : Ref sig .tc := ⟨.hbm, 1458, rfl⟩
abbrev main_call2_call4_v120 : Ref sig .tc := ⟨.hbm, 1459, rfl⟩
abbrev main_call2_call4_v121 : Ref sig .tc := ⟨.hbm, 1460, rfl⟩
abbrev main_call2_call4_v122 : Ref sig .tc := ⟨.hbm, 1461, rfl⟩
abbrev main_call2_call4_c_31 : Ref sig .tc := ⟨.hbm, 1462, rfl⟩
abbrev main_call2_call4_v123 : Ref sig .tc := ⟨.hbm, 1463, rfl⟩
abbrev main_call2_call4_v124 : Ref sig .tc := ⟨.hbm, 1464, rfl⟩
abbrev main_call2_call4_c_32 : Ref sig .tc := ⟨.hbm, 1465, rfl⟩
abbrev main_call2_call4_v125 : Ref sig .tc := ⟨.hbm, 1466, rfl⟩
abbrev main_call2_call4_v126 : Ref sig .tc := ⟨.hbm, 1467, rfl⟩
abbrev main_call2_call4_v127 : Ref sig .tc := ⟨.hbm, 1468, rfl⟩
abbrev main_call2_call4_v128 : Ref sig .tc := ⟨.hbm, 1469, rfl⟩
abbrev main_call2_call4_v129 : Ref sig .tc := ⟨.hbm, 1470, rfl⟩
abbrev main_call2_call4_c_33 : Ref sig .tc := ⟨.hbm, 1471, rfl⟩
abbrev main_call2_call4_v130 : Ref sig .tc := ⟨.hbm, 1472, rfl⟩
abbrev main_call2_call4_v131 : Ref sig .tc := ⟨.hbm, 1473, rfl⟩
abbrev main_call2_call4_c_34 : Ref sig .tc := ⟨.hbm, 1474, rfl⟩
abbrev main_call2_call4_v132 : Ref sig .tc := ⟨.hbm, 1475, rfl⟩
abbrev main_call2_call4_v133 : Ref sig .tc := ⟨.hbm, 1476, rfl⟩
abbrev main_call2_call4_v134 : Ref sig .tc := ⟨.hbm, 1477, rfl⟩
abbrev main_call2_call4_v135 : Ref sig .tc := ⟨.hbm, 1478, rfl⟩
abbrev main_call2_call4_v136 : Ref sig .tc := ⟨.hbm, 1479, rfl⟩
abbrev main_call2_call4_v137 : Ref sig .tc := ⟨.hbm, 1480, rfl⟩
abbrev main_call2_call4_v138 : Ref sig .tc := ⟨.hbm, 1481, rfl⟩
abbrev main_call2_call4_v139 : Ref sig .tc := ⟨.hbm, 1482, rfl⟩
abbrev main_call2_call4_c_35 : Ref sig .tc := ⟨.hbm, 1483, rfl⟩
abbrev main_call2_call4_v140 : Ref sig .tc := ⟨.hbm, 1484, rfl⟩
abbrev main_call2_call4_v141 : Ref sig .tc := ⟨.hbm, 1485, rfl⟩
abbrev main_call2_call4_v142 : Ref sig .tc := ⟨.hbm, 1486, rfl⟩
abbrev main_call2_call4_c_36 : Ref sig .tc := ⟨.hbm, 1487, rfl⟩
abbrev main_call2_call4_v143 : Ref sig .tc := ⟨.hbm, 1488, rfl⟩
abbrev main_call2_call4_v144 : Ref sig .tc := ⟨.hbm, 1489, rfl⟩
abbrev main_call2_call4_c_37 : Ref sig .tc := ⟨.hbm, 1490, rfl⟩
abbrev main_call2_call4_v145 : Ref sig .tc := ⟨.hbm, 1491, rfl⟩
abbrev main_call2_call4_v146 : Ref sig .tc := ⟨.hbm, 1492, rfl⟩
abbrev main_call2_call4_v147 : Ref sig .tc := ⟨.hbm, 1493, rfl⟩
abbrev main_call2_call4_v148 : Ref sig .tc := ⟨.hbm, 1494, rfl⟩
abbrev main_call2_call4_v149 : Ref sig .tc := ⟨.hbm, 1495, rfl⟩
abbrev main_call2_call4_c_38 : Ref sig .tc := ⟨.hbm, 1496, rfl⟩
abbrev main_call2_call4_v150 : Ref sig .tc := ⟨.hbm, 1497, rfl⟩
abbrev main_call2_call4_v151 : Ref sig .tc := ⟨.hbm, 1498, rfl⟩
abbrev main_call2_call4_c_39 : Ref sig .tc := ⟨.hbm, 1499, rfl⟩
abbrev main_call2_call4_v152 : Ref sig .tc := ⟨.hbm, 1500, rfl⟩
abbrev main_call2_call4_v153 : Ref sig .tc := ⟨.hbm, 1501, rfl⟩
abbrev main_call2_call4_v154 : Ref sig .tc := ⟨.hbm, 1502, rfl⟩
abbrev main_call2_call4_v155 : Ref sig .tc := ⟨.hbm, 1503, rfl⟩
abbrev main_call2_call4_v156 : Ref sig .tc := ⟨.hbm, 1504, rfl⟩
abbrev main_call2_call4_c_40 : Ref sig .tc := ⟨.hbm, 1505, rfl⟩
abbrev main_call2_call4_v157 : Ref sig .tc := ⟨.hbm, 1506, rfl⟩
abbrev main_call2_call4_v158 : Ref sig .tc := ⟨.hbm, 1507, rfl⟩
abbrev main_call2_call4_c_41 : Ref sig .tc := ⟨.hbm, 1508, rfl⟩
abbrev main_call2_call4_v159 : Ref sig .tc := ⟨.hbm, 1509, rfl⟩
abbrev main_call2_call4_v160 : Ref sig .tc := ⟨.hbm, 1510, rfl⟩
abbrev main_call2_call4_v161 : Ref sig .tc := ⟨.hbm, 1511, rfl⟩
abbrev main_call2_call4_v162 : Ref sig .tc := ⟨.hbm, 1512, rfl⟩
abbrev main_call2_call4_v163 : Ref sig .tc := ⟨.hbm, 1513, rfl⟩
abbrev main_call2_call4_c_42 : Ref sig .tc := ⟨.hbm, 1514, rfl⟩
abbrev main_call2_call4_v164 : Ref sig .tc := ⟨.hbm, 1515, rfl⟩
abbrev main_call2_call4_v165 : Ref sig .tc := ⟨.hbm, 1516, rfl⟩
abbrev main_call2_call4_c_43 : Ref sig .tc := ⟨.hbm, 1517, rfl⟩
abbrev main_call2_call4_v166 : Ref sig .tc := ⟨.hbm, 1518, rfl⟩
abbrev main_call2_call4_v167 : Ref sig .tc := ⟨.hbm, 1519, rfl⟩
abbrev main_call2_call4_v168 : Ref sig .tc := ⟨.hbm, 1520, rfl⟩
abbrev main_call2_call4_v169 : Ref sig .tc := ⟨.hbm, 1521, rfl⟩
abbrev main_call2_call4_v170 : Ref sig .tc := ⟨.hbm, 1522, rfl⟩
abbrev main_call2_v28_0 : Ref sig .tc := ⟨.hbm, 1523, rfl⟩
abbrev main_call2_call4_v172 : Ref sig .tc := ⟨.hbm, 1524, rfl⟩
abbrev main_call2_call4_v173 : Ref sig .tc := ⟨.hbm, 1525, rfl⟩
abbrev main_call2_call4_c_44 : Ref sig .tc := ⟨.hbm, 1526, rfl⟩
abbrev main_call2_call4_v174 : Ref sig .tc := ⟨.hbm, 1527, rfl⟩
abbrev main_call2_v28_1 : Ref sig .tc := ⟨.hbm, 1528, rfl⟩
abbrev main_call2_v29 : Ref sig .tc := ⟨.hbm, 1529, rfl⟩
abbrev main_call2_v30 : Ref sig .tc := ⟨.hbm, 1530, rfl⟩
abbrev main_call2_v31 : Ref sig .tc := ⟨.hbm, 1531, rfl⟩
abbrev main_call2_v32 : Ref sig .tc := ⟨.hbm, 1532, rfl⟩
abbrev main_call2_v33 : Ref sig .tc := ⟨.hbm, 1533, rfl⟩
abbrev main_call2_v34 : Ref sig .tc := ⟨.hbm, 1534, rfl⟩
abbrev main_call2_v35 : Ref sig .tc := ⟨.hbm, 1535, rfl⟩
abbrev main_call2_c_9 : Ref sig .tc := ⟨.hbm, 1536, rfl⟩
abbrev main_call2_v36 : Ref sig .tc := ⟨.hbm, 1537, rfl⟩
abbrev main_call2_v37 : Ref sig .tc := ⟨.hbm, 1538, rfl⟩
abbrev main_call2_c_10 : Ref sig .tc := ⟨.hbm, 1539, rfl⟩
abbrev main_call2_v38 : Ref sig .tc := ⟨.hbm, 1540, rfl⟩
abbrev main_call2_v39 : Ref sig .tc := ⟨.hbm, 1541, rfl⟩
abbrev main_call2_v40 : Ref sig .tc := ⟨.hbm, 1542, rfl⟩
abbrev main_call2_c_11 : Ref sig .tc := ⟨.hbm, 1543, rfl⟩
abbrev main_call2_v41 : Ref sig .tc := ⟨.hbm, 1544, rfl⟩
abbrev main_call2_v42 : Ref sig .tc := ⟨.hbm, 1545, rfl⟩
abbrev main_call2_v43 : Ref sig .tc := ⟨.hbm, 1546, rfl⟩
abbrev main_call2_v44 : Ref sig .tc := ⟨.hbm, 1547, rfl⟩
abbrev main_call2_call5_v0 : Ref sig .tc := ⟨.hbm, 1548, rfl⟩
abbrev main_call2_call5_c : Ref sig .tc := ⟨.hbm, 1549, rfl⟩
abbrev main_call2_call5_v1 : Ref sig .tc := ⟨.hbm, 1550, rfl⟩
abbrev main_call2_call5_v2 : Ref sig .tc := ⟨.hbm, 1551, rfl⟩
abbrev main_call2_call5_v3 : Ref sig .tc := ⟨.hbm, 1552, rfl⟩
abbrev main_call2_call5_v4 : Ref sig .tc := ⟨.hbm, 1553, rfl⟩
abbrev main_call2_call5_v5 : Ref sig .tc := ⟨.hbm, 1554, rfl⟩
abbrev main_call2_call5_v6 : Ref sig .tc := ⟨.hbm, 1555, rfl⟩
abbrev main_call2_call5_c_0 : Ref sig .tc := ⟨.hbm, 1556, rfl⟩
abbrev main_call2_call5_v7 : Ref sig .tc := ⟨.hbm, 1557, rfl⟩
abbrev main_call2_call5_v8 : Ref sig .tc := ⟨.hbm, 1558, rfl⟩
abbrev main_call2_call5_c_1 : Ref sig .tc := ⟨.hbm, 1559, rfl⟩
abbrev main_call2_call5_v9 : Ref sig .tc := ⟨.hbm, 1560, rfl⟩
abbrev main_call2_call5_v10 : Ref sig .tc := ⟨.hbm, 1561, rfl⟩
abbrev main_call2_call5_v11 : Ref sig .tc := ⟨.hbm, 1562, rfl⟩
abbrev main_call2_call5_v12 : Ref sig .tc := ⟨.hbm, 1563, rfl⟩
abbrev main_call2_call5_v13 : Ref sig .tc := ⟨.hbm, 1564, rfl⟩
abbrev main_call2_call5_c_2 : Ref sig .tc := ⟨.hbm, 1565, rfl⟩
abbrev main_call2_call5_v14 : Ref sig .tc := ⟨.hbm, 1566, rfl⟩
abbrev main_call2_call5_v15 : Ref sig .tc := ⟨.hbm, 1567, rfl⟩
abbrev main_call2_call5_c_3 : Ref sig .tc := ⟨.hbm, 1568, rfl⟩
abbrev main_call2_call5_v16 : Ref sig .tc := ⟨.hbm, 1569, rfl⟩
abbrev main_call2_call5_v17 : Ref sig .tc := ⟨.hbm, 1570, rfl⟩
abbrev main_call2_call5_v18 : Ref sig .tc := ⟨.hbm, 1571, rfl⟩
abbrev main_call2_call5_v19 : Ref sig .tc := ⟨.hbm, 1572, rfl⟩
abbrev main_call2_call5_v20 : Ref sig .tc := ⟨.hbm, 1573, rfl⟩
abbrev main_call2_call5_c_4 : Ref sig .tc := ⟨.hbm, 1574, rfl⟩
abbrev main_call2_call5_v21 : Ref sig .tc := ⟨.hbm, 1575, rfl⟩
abbrev main_call2_call5_v22 : Ref sig .tc := ⟨.hbm, 1576, rfl⟩
abbrev main_call2_call5_c_5 : Ref sig .tc := ⟨.hbm, 1577, rfl⟩
abbrev main_call2_call5_v23 : Ref sig .tc := ⟨.hbm, 1578, rfl⟩
abbrev main_call2_call5_v24 : Ref sig .tc := ⟨.hbm, 1579, rfl⟩
abbrev main_call2_call5_v25 : Ref sig .tc := ⟨.hbm, 1580, rfl⟩
abbrev main_call2_call5_v26 : Ref sig .tc := ⟨.hbm, 1581, rfl⟩
abbrev main_call2_call5_v27 : Ref sig .tc := ⟨.hbm, 1582, rfl⟩
abbrev main_call2_call5_c_6 : Ref sig .tc := ⟨.hbm, 1583, rfl⟩
abbrev main_call2_call5_v28 : Ref sig .tc := ⟨.hbm, 1584, rfl⟩
abbrev main_call2_call5_v29 : Ref sig .tc := ⟨.hbm, 1585, rfl⟩
abbrev main_call2_call5_c_7 : Ref sig .tc := ⟨.hbm, 1586, rfl⟩
abbrev main_call2_call5_v30 : Ref sig .tc := ⟨.hbm, 1587, rfl⟩
abbrev main_call2_call5_v31 : Ref sig .tc := ⟨.hbm, 1588, rfl⟩
abbrev main_call2_call5_v32 : Ref sig .tc := ⟨.hbm, 1589, rfl⟩
abbrev main_call2_call5_v33 : Ref sig .tc := ⟨.hbm, 1590, rfl⟩
abbrev main_call2_call5_v34 : Ref sig .tc := ⟨.hbm, 1591, rfl⟩
abbrev main_call2_call5_v35 : Ref sig .tc := ⟨.hbm, 1592, rfl⟩
abbrev main_call2_call5_v36 : Ref sig .tc := ⟨.hbm, 1593, rfl⟩
abbrev main_call2_call5_v37 : Ref sig .tc := ⟨.hbm, 1594, rfl⟩
abbrev main_call2_call5_c_8 : Ref sig .tc := ⟨.hbm, 1595, rfl⟩
abbrev main_call2_call5_v38 : Ref sig .tc := ⟨.hbm, 1596, rfl⟩
abbrev main_call2_call5_v39 : Ref sig .tc := ⟨.hbm, 1597, rfl⟩
abbrev main_call2_call5_v40 : Ref sig .tc := ⟨.hbm, 1598, rfl⟩
abbrev main_call2_call5_c_9 : Ref sig .tc := ⟨.hbm, 1599, rfl⟩
abbrev main_call2_call5_v41 : Ref sig .tc := ⟨.hbm, 1600, rfl⟩
abbrev main_call2_call5_v42 : Ref sig .tc := ⟨.hbm, 1601, rfl⟩
abbrev main_call2_call5_c_10 : Ref sig .tc := ⟨.hbm, 1602, rfl⟩
abbrev main_call2_call5_v43 : Ref sig .tc := ⟨.hbm, 1603, rfl⟩
abbrev main_call2_call5_v44 : Ref sig .tc := ⟨.hbm, 1604, rfl⟩
abbrev main_call2_call5_v45 : Ref sig .tc := ⟨.hbm, 1605, rfl⟩
abbrev main_call2_call5_v46 : Ref sig .tc := ⟨.hbm, 1606, rfl⟩
abbrev main_call2_call5_v47 : Ref sig .tc := ⟨.hbm, 1607, rfl⟩
abbrev main_call2_call5_c_11 : Ref sig .tc := ⟨.hbm, 1608, rfl⟩
abbrev main_call2_call5_v48 : Ref sig .tc := ⟨.hbm, 1609, rfl⟩
abbrev main_call2_call5_v49 : Ref sig .tc := ⟨.hbm, 1610, rfl⟩
abbrev main_call2_call5_c_12 : Ref sig .tc := ⟨.hbm, 1611, rfl⟩
abbrev main_call2_call5_v50 : Ref sig .tc := ⟨.hbm, 1612, rfl⟩
abbrev main_call2_call5_v51 : Ref sig .tc := ⟨.hbm, 1613, rfl⟩
abbrev main_call2_call5_v52 : Ref sig .tc := ⟨.hbm, 1614, rfl⟩
abbrev main_call2_call5_v53 : Ref sig .tc := ⟨.hbm, 1615, rfl⟩
abbrev main_call2_call5_v54 : Ref sig .tc := ⟨.hbm, 1616, rfl⟩
abbrev main_call2_call5_c_13 : Ref sig .tc := ⟨.hbm, 1617, rfl⟩
abbrev main_call2_call5_v55 : Ref sig .tc := ⟨.hbm, 1618, rfl⟩
abbrev main_call2_call5_v56 : Ref sig .tc := ⟨.hbm, 1619, rfl⟩
abbrev main_call2_call5_c_14 : Ref sig .tc := ⟨.hbm, 1620, rfl⟩
abbrev main_call2_call5_v57 : Ref sig .tc := ⟨.hbm, 1621, rfl⟩
abbrev main_call2_call5_v58 : Ref sig .tc := ⟨.hbm, 1622, rfl⟩
abbrev main_call2_call5_v59 : Ref sig .tc := ⟨.hbm, 1623, rfl⟩
abbrev main_call2_call5_v60 : Ref sig .tc := ⟨.hbm, 1624, rfl⟩
abbrev main_call2_call5_v61 : Ref sig .tc := ⟨.hbm, 1625, rfl⟩
abbrev main_call2_call5_c_15 : Ref sig .tc := ⟨.hbm, 1626, rfl⟩
abbrev main_call2_call5_v62 : Ref sig .tc := ⟨.hbm, 1627, rfl⟩
abbrev main_call2_call5_v63 : Ref sig .tc := ⟨.hbm, 1628, rfl⟩
abbrev main_call2_call5_c_16 : Ref sig .tc := ⟨.hbm, 1629, rfl⟩
abbrev main_call2_call5_v64 : Ref sig .tc := ⟨.hbm, 1630, rfl⟩
abbrev main_call2_call5_v65 : Ref sig .tc := ⟨.hbm, 1631, rfl⟩
abbrev main_call2_call5_v66 : Ref sig .tc := ⟨.hbm, 1632, rfl⟩
abbrev main_call2_call5_v67 : Ref sig .tc := ⟨.hbm, 1633, rfl⟩
abbrev main_call2_call5_v68 : Ref sig .tc := ⟨.hbm, 1634, rfl⟩
abbrev main_call2_call5_v69 : Ref sig .tc := ⟨.hbm, 1635, rfl⟩
abbrev main_call2_call5_v70 : Ref sig .tc := ⟨.hbm, 1636, rfl⟩
abbrev main_call2_call5_v71 : Ref sig .tc := ⟨.hbm, 1637, rfl⟩
abbrev main_call2_call5_c_17 : Ref sig .tc := ⟨.hbm, 1638, rfl⟩
abbrev main_call2_call5_v72 : Ref sig .tc := ⟨.hbm, 1639, rfl⟩
abbrev main_call2_call5_v73 : Ref sig .tc := ⟨.hbm, 1640, rfl⟩
abbrev main_call2_call5_v74 : Ref sig .tc := ⟨.hbm, 1641, rfl⟩
abbrev main_call2_call5_c_18 : Ref sig .tc := ⟨.hbm, 1642, rfl⟩
abbrev main_call2_call5_v75 : Ref sig .tc := ⟨.hbm, 1643, rfl⟩
abbrev main_call2_call5_v76 : Ref sig .tc := ⟨.hbm, 1644, rfl⟩
abbrev main_call2_call5_c_19 : Ref sig .tc := ⟨.hbm, 1645, rfl⟩
abbrev main_call2_call5_v77 : Ref sig .tc := ⟨.hbm, 1646, rfl⟩
abbrev main_call2_call5_v78 : Ref sig .tc := ⟨.hbm, 1647, rfl⟩
abbrev main_call2_call5_v79 : Ref sig .tc := ⟨.hbm, 1648, rfl⟩
abbrev main_call2_call5_v80 : Ref sig .tc := ⟨.hbm, 1649, rfl⟩
abbrev main_call2_call5_v81 : Ref sig .tc := ⟨.hbm, 1650, rfl⟩
abbrev main_call2_call5_c_20 : Ref sig .tc := ⟨.hbm, 1651, rfl⟩
abbrev main_call2_call5_v82 : Ref sig .tc := ⟨.hbm, 1652, rfl⟩
abbrev main_call2_call5_v83 : Ref sig .tc := ⟨.hbm, 1653, rfl⟩
abbrev main_call2_call5_c_21 : Ref sig .tc := ⟨.hbm, 1654, rfl⟩
abbrev main_call2_call5_v84 : Ref sig .tc := ⟨.hbm, 1655, rfl⟩
abbrev main_call2_call5_v85 : Ref sig .tc := ⟨.hbm, 1656, rfl⟩
abbrev main_call2_call5_v86 : Ref sig .tc := ⟨.hbm, 1657, rfl⟩
abbrev main_call2_call5_v87 : Ref sig .tc := ⟨.hbm, 1658, rfl⟩
abbrev main_call2_call5_v88 : Ref sig .tc := ⟨.hbm, 1659, rfl⟩
abbrev main_call2_call5_c_22 : Ref sig .tc := ⟨.hbm, 1660, rfl⟩
abbrev main_call2_call5_v89 : Ref sig .tc := ⟨.hbm, 1661, rfl⟩
abbrev main_call2_call5_v90 : Ref sig .tc := ⟨.hbm, 1662, rfl⟩
abbrev main_call2_call5_c_23 : Ref sig .tc := ⟨.hbm, 1663, rfl⟩
abbrev main_call2_call5_v91 : Ref sig .tc := ⟨.hbm, 1664, rfl⟩
abbrev main_call2_call5_v92 : Ref sig .tc := ⟨.hbm, 1665, rfl⟩
abbrev main_call2_call5_v93 : Ref sig .tc := ⟨.hbm, 1666, rfl⟩
abbrev main_call2_call5_v94 : Ref sig .tc := ⟨.hbm, 1667, rfl⟩
abbrev main_call2_call5_v95 : Ref sig .tc := ⟨.hbm, 1668, rfl⟩
abbrev main_call2_call5_c_24 : Ref sig .tc := ⟨.hbm, 1669, rfl⟩
abbrev main_call2_call5_v96 : Ref sig .tc := ⟨.hbm, 1670, rfl⟩
abbrev main_call2_call5_v97 : Ref sig .tc := ⟨.hbm, 1671, rfl⟩
abbrev main_call2_call5_c_25 : Ref sig .tc := ⟨.hbm, 1672, rfl⟩
abbrev main_call2_call5_v98 : Ref sig .tc := ⟨.hbm, 1673, rfl⟩
abbrev main_call2_call5_v99 : Ref sig .tc := ⟨.hbm, 1674, rfl⟩
abbrev main_call2_call5_v100 : Ref sig .tc := ⟨.hbm, 1675, rfl⟩
abbrev main_call2_call5_v101 : Ref sig .tc := ⟨.hbm, 1676, rfl⟩
abbrev main_call2_call5_v102 : Ref sig .tc := ⟨.hbm, 1677, rfl⟩
abbrev main_call2_call5_v103 : Ref sig .tc := ⟨.hbm, 1678, rfl⟩
abbrev main_call2_call5_v104 : Ref sig .tc := ⟨.hbm, 1679, rfl⟩
abbrev main_call2_call5_v105 : Ref sig .tc := ⟨.hbm, 1680, rfl⟩
abbrev main_call2_call5_c_26 : Ref sig .tc := ⟨.hbm, 1681, rfl⟩
abbrev main_call2_call5_v106 : Ref sig .tc := ⟨.hbm, 1682, rfl⟩
abbrev main_call2_call5_v107 : Ref sig .tc := ⟨.hbm, 1683, rfl⟩
abbrev main_call2_call5_v108 : Ref sig .tc := ⟨.hbm, 1684, rfl⟩
abbrev main_call2_call5_c_27 : Ref sig .tc := ⟨.hbm, 1685, rfl⟩
abbrev main_call2_call5_v109 : Ref sig .tc := ⟨.hbm, 1686, rfl⟩
abbrev main_call2_call5_v110 : Ref sig .tc := ⟨.hbm, 1687, rfl⟩
abbrev main_call2_call5_c_28 : Ref sig .tc := ⟨.hbm, 1688, rfl⟩
abbrev main_call2_call5_v111 : Ref sig .tc := ⟨.hbm, 1689, rfl⟩
abbrev main_call2_call5_v112 : Ref sig .tc := ⟨.hbm, 1690, rfl⟩
abbrev main_call2_call5_v113 : Ref sig .tc := ⟨.hbm, 1691, rfl⟩
abbrev main_call2_call5_v114 : Ref sig .tc := ⟨.hbm, 1692, rfl⟩
abbrev main_call2_call5_v115 : Ref sig .tc := ⟨.hbm, 1693, rfl⟩
abbrev main_call2_call5_c_29 : Ref sig .tc := ⟨.hbm, 1694, rfl⟩
abbrev main_call2_call5_v116 : Ref sig .tc := ⟨.hbm, 1695, rfl⟩
abbrev main_call2_call5_v117 : Ref sig .tc := ⟨.hbm, 1696, rfl⟩
abbrev main_call2_call5_c_30 : Ref sig .tc := ⟨.hbm, 1697, rfl⟩
abbrev main_call2_call5_v118 : Ref sig .tc := ⟨.hbm, 1698, rfl⟩
abbrev main_call2_call5_v119 : Ref sig .tc := ⟨.hbm, 1699, rfl⟩
abbrev main_call2_call5_v120 : Ref sig .tc := ⟨.hbm, 1700, rfl⟩
abbrev main_call2_call5_v121 : Ref sig .tc := ⟨.hbm, 1701, rfl⟩
abbrev main_call2_call5_v122 : Ref sig .tc := ⟨.hbm, 1702, rfl⟩
abbrev main_call2_call5_c_31 : Ref sig .tc := ⟨.hbm, 1703, rfl⟩
abbrev main_call2_call5_v123 : Ref sig .tc := ⟨.hbm, 1704, rfl⟩
abbrev main_call2_call5_v124 : Ref sig .tc := ⟨.hbm, 1705, rfl⟩
abbrev main_call2_call5_c_32 : Ref sig .tc := ⟨.hbm, 1706, rfl⟩
abbrev main_call2_call5_v125 : Ref sig .tc := ⟨.hbm, 1707, rfl⟩
abbrev main_call2_call5_v126 : Ref sig .tc := ⟨.hbm, 1708, rfl⟩
abbrev main_call2_call5_v127 : Ref sig .tc := ⟨.hbm, 1709, rfl⟩
abbrev main_call2_call5_v128 : Ref sig .tc := ⟨.hbm, 1710, rfl⟩
abbrev main_call2_call5_v129 : Ref sig .tc := ⟨.hbm, 1711, rfl⟩
abbrev main_call2_call5_c_33 : Ref sig .tc := ⟨.hbm, 1712, rfl⟩
abbrev main_call2_call5_v130 : Ref sig .tc := ⟨.hbm, 1713, rfl⟩
abbrev main_call2_call5_v131 : Ref sig .tc := ⟨.hbm, 1714, rfl⟩
abbrev main_call2_call5_c_34 : Ref sig .tc := ⟨.hbm, 1715, rfl⟩
abbrev main_call2_call5_v132 : Ref sig .tc := ⟨.hbm, 1716, rfl⟩
abbrev main_call2_call5_v133 : Ref sig .tc := ⟨.hbm, 1717, rfl⟩
abbrev main_call2_call5_v134 : Ref sig .tc := ⟨.hbm, 1718, rfl⟩
abbrev main_call2_call5_v135 : Ref sig .tc := ⟨.hbm, 1719, rfl⟩
abbrev main_call2_call5_v136 : Ref sig .tc := ⟨.hbm, 1720, rfl⟩
abbrev main_call2_call5_v137 : Ref sig .tc := ⟨.hbm, 1721, rfl⟩
abbrev main_call2_call5_v138 : Ref sig .tc := ⟨.hbm, 1722, rfl⟩
abbrev main_call2_call5_v139 : Ref sig .tc := ⟨.hbm, 1723, rfl⟩
abbrev main_call2_call5_c_35 : Ref sig .tc := ⟨.hbm, 1724, rfl⟩
abbrev main_call2_call5_v140 : Ref sig .tc := ⟨.hbm, 1725, rfl⟩
abbrev main_call2_call5_v141 : Ref sig .tc := ⟨.hbm, 1726, rfl⟩
abbrev main_call2_call5_v142 : Ref sig .tc := ⟨.hbm, 1727, rfl⟩
abbrev main_call2_call5_c_36 : Ref sig .tc := ⟨.hbm, 1728, rfl⟩
abbrev main_call2_call5_v143 : Ref sig .tc := ⟨.hbm, 1729, rfl⟩
abbrev main_call2_call5_v144 : Ref sig .tc := ⟨.hbm, 1730, rfl⟩
abbrev main_call2_call5_c_37 : Ref sig .tc := ⟨.hbm, 1731, rfl⟩
abbrev main_call2_call5_v145 : Ref sig .tc := ⟨.hbm, 1732, rfl⟩
abbrev main_call2_call5_v146 : Ref sig .tc := ⟨.hbm, 1733, rfl⟩
abbrev main_call2_call5_v147 : Ref sig .tc := ⟨.hbm, 1734, rfl⟩
abbrev main_call2_call5_v148 : Ref sig .tc := ⟨.hbm, 1735, rfl⟩
abbrev main_call2_call5_v149 : Ref sig .tc := ⟨.hbm, 1736, rfl⟩
abbrev main_call2_call5_c_38 : Ref sig .tc := ⟨.hbm, 1737, rfl⟩
abbrev main_call2_call5_v150 : Ref sig .tc := ⟨.hbm, 1738, rfl⟩
abbrev main_call2_call5_v151 : Ref sig .tc := ⟨.hbm, 1739, rfl⟩
abbrev main_call2_call5_c_39 : Ref sig .tc := ⟨.hbm, 1740, rfl⟩
abbrev main_call2_call5_v152 : Ref sig .tc := ⟨.hbm, 1741, rfl⟩
abbrev main_call2_call5_v153 : Ref sig .tc := ⟨.hbm, 1742, rfl⟩
abbrev main_call2_call5_v154 : Ref sig .tc := ⟨.hbm, 1743, rfl⟩
abbrev main_call2_call5_v155 : Ref sig .tc := ⟨.hbm, 1744, rfl⟩
abbrev main_call2_call5_v156 : Ref sig .tc := ⟨.hbm, 1745, rfl⟩
abbrev main_call2_call5_c_40 : Ref sig .tc := ⟨.hbm, 1746, rfl⟩
abbrev main_call2_call5_v157 : Ref sig .tc := ⟨.hbm, 1747, rfl⟩
abbrev main_call2_call5_v158 : Ref sig .tc := ⟨.hbm, 1748, rfl⟩
abbrev main_call2_call5_c_41 : Ref sig .tc := ⟨.hbm, 1749, rfl⟩
abbrev main_call2_call5_v159 : Ref sig .tc := ⟨.hbm, 1750, rfl⟩
abbrev main_call2_call5_v160 : Ref sig .tc := ⟨.hbm, 1751, rfl⟩
abbrev main_call2_call5_v161 : Ref sig .tc := ⟨.hbm, 1752, rfl⟩
abbrev main_call2_call5_v162 : Ref sig .tc := ⟨.hbm, 1753, rfl⟩
abbrev main_call2_call5_v163 : Ref sig .tc := ⟨.hbm, 1754, rfl⟩
abbrev main_call2_call5_c_42 : Ref sig .tc := ⟨.hbm, 1755, rfl⟩
abbrev main_call2_call5_v164 : Ref sig .tc := ⟨.hbm, 1756, rfl⟩
abbrev main_call2_call5_v165 : Ref sig .tc := ⟨.hbm, 1757, rfl⟩
abbrev main_call2_call5_c_43 : Ref sig .tc := ⟨.hbm, 1758, rfl⟩
abbrev main_call2_call5_v166 : Ref sig .tc := ⟨.hbm, 1759, rfl⟩
abbrev main_call2_call5_v167 : Ref sig .tc := ⟨.hbm, 1760, rfl⟩
abbrev main_call2_call5_v168 : Ref sig .tc := ⟨.hbm, 1761, rfl⟩
abbrev main_call2_call5_v169 : Ref sig .tc := ⟨.hbm, 1762, rfl⟩
abbrev main_call2_call5_v170 : Ref sig .tc := ⟨.hbm, 1763, rfl⟩
abbrev main_call2_v45_0 : Ref sig .tc := ⟨.hbm, 1764, rfl⟩
abbrev main_call2_call5_v172 : Ref sig .tc := ⟨.hbm, 1765, rfl⟩
abbrev main_call2_call5_v173 : Ref sig .tc := ⟨.hbm, 1766, rfl⟩
abbrev main_call2_call5_c_44 : Ref sig .tc := ⟨.hbm, 1767, rfl⟩
abbrev main_call2_call5_v174 : Ref sig .tc := ⟨.hbm, 1768, rfl⟩
abbrev main_call2_v45_1 : Ref sig .tc := ⟨.hbm, 1769, rfl⟩
abbrev main_call2_v46 : Ref sig .tc := ⟨.hbm, 1770, rfl⟩
abbrev main_call2_v47 : Ref sig .tc := ⟨.hbm, 1771, rfl⟩
abbrev main_call2_v48 : Ref sig .tc := ⟨.hbm, 1772, rfl⟩
abbrev main_call2_v49 : Ref sig .tc := ⟨.hbm, 1773, rfl⟩
abbrev main_call2_c_12 : Ref sig .tc := ⟨.hbm, 1774, rfl⟩
abbrev main_call2_v50 : Ref sig .tc := ⟨.hbm, 1775, rfl⟩
abbrev main_call2_v51 : Ref sig .tc := ⟨.hbm, 1776, rfl⟩
abbrev main_call2_v52 : Ref sig .tc := ⟨.hbm, 1777, rfl⟩
abbrev main_call2_v53 : Ref sig .tc := ⟨.hbm, 1778, rfl⟩
abbrev main_call2_v54 : Ref sig .tc := ⟨.hbm, 1779, rfl⟩
abbrev main_call2_c_13 : Ref sig .tc := ⟨.hbm, 1780, rfl⟩
abbrev main_call2_v55 : Ref sig .tc := ⟨.hbm, 1781, rfl⟩
abbrev main_call2_v56 : Ref sig .tc := ⟨.hbm, 1782, rfl⟩
abbrev main_call2_v57 : Ref sig .tc := ⟨.hbm, 1783, rfl⟩
abbrev main_call2_c_14 : Ref sig .tc := ⟨.hbm, 1784, rfl⟩
abbrev main_call2_v58 : Ref sig .tc := ⟨.hbm, 1785, rfl⟩
abbrev main_call2_v59 : Ref sig .tc := ⟨.hbm, 1786, rfl⟩
abbrev main_call2_v60 : Ref sig .tc := ⟨.hbm, 1787, rfl⟩
abbrev main_call2_v61 : Ref sig .tc := ⟨.hbm, 1788, rfl⟩
abbrev main_call2_v62 : Ref sig .tc := ⟨.hbm, 1789, rfl⟩
abbrev main_call2_v63 : Ref sig .tc := ⟨.hbm, 1790, rfl⟩
abbrev main_call2_v64 : Ref sig .tc := ⟨.hbm, 1791, rfl⟩
abbrev main_call2_v65 : Ref sig .tc := ⟨.hbm, 1792, rfl⟩
abbrev main_call2_v66 : Ref sig .tc := ⟨.hbm, 1793, rfl⟩
abbrev main_call2_v67 : Ref sig .tc := ⟨.hbm, 1794, rfl⟩
abbrev main_call2_v68 : Ref sig .tc := ⟨.hbm, 1795, rfl⟩
abbrev main_call2_v69 : Ref sig .tc := ⟨.hbm, 1796, rfl⟩
abbrev main_call2_v70 : Ref sig .tc := ⟨.hbm, 1797, rfl⟩
abbrev main_call2_v71 : Ref sig .tc := ⟨.hbm, 1798, rfl⟩
abbrev main_call2_v72 : Ref sig .tc := ⟨.hbm, 1799, rfl⟩
abbrev main_v13 : Ref sig .tc := ⟨.hbm, 1800, rfl⟩
abbrev main_c_6 : Ref sig .tc := ⟨.hbm, 1801, rfl⟩
abbrev main_v14 : Ref sig .tc := ⟨.hbm, 1802, rfl⟩
abbrev main_v15 : Ref sig .tc := ⟨.hbm, 1803, rfl⟩
abbrev main_v16 : Ref sig .tc := ⟨.hbm, 1804, rfl⟩
abbrev main_v17 : Ref sig .tc := ⟨.hbm, 1805, rfl⟩
abbrev main_v18 : Ref sig .tc := ⟨.hbm, 1806, rfl⟩
abbrev main_v19 : Ref sig .tc := ⟨.hbm, 1807, rfl⟩
abbrev main_v20 : Ref sig .tc := ⟨.hbm, 1808, rfl⟩
abbrev main_v21 : Ref sig .tc := ⟨.hbm, 1809, rfl⟩
abbrev main_v22 : Ref sig .tc := ⟨.hbm, 1810, rfl⟩
abbrev main_v23 : Ref sig .tc := ⟨.hbm, 1811, rfl⟩
abbrev main_v24 : Ref sig .tc := ⟨.hbm, 1812, rfl⟩
abbrev main_v25 : Ref sig .tc := ⟨.hbm, 1813, rfl⟩
abbrev main_v26 : Ref sig .tc := ⟨.hbm, 1814, rfl⟩
abbrev main_v27 : Ref sig .tc := ⟨.hbm, 1815, rfl⟩
abbrev main_v28 : Ref sig .tc := ⟨.hbm, 1816, rfl⟩
abbrev main_v29 : Ref sig .tc := ⟨.hbm, 1817, rfl⟩
abbrev main_c_7 : Ref sig .tc := ⟨.hbm, 1818, rfl⟩
abbrev main_v30 : Ref sig .tc := ⟨.hbm, 1819, rfl⟩
abbrev main_v31 : Ref sig .tc := ⟨.hbm, 1820, rfl⟩
abbrev main_cst : Ref sig .tc := ⟨.hbm, 1821, rfl⟩
abbrev main_call3_v0 : Ref sig .tc := ⟨.hbm, 1822, rfl⟩
abbrev main_call3_v1 : Ref sig .tc := ⟨.hbm, 1823, rfl⟩
abbrev main_v32 : Ref sig .tc := ⟨.hbm, 1824, rfl⟩

abbrev nD : Nat := 1
abbrev τ : Topo := Topo.v7x

variable {F : FTy → Type} [FloatOps F]
-- ==== Proof.Hand.Plan.lean ====
/-
  The kernel's plan, as data: the rows of the input that are masked, the seven blocks of rows the kernel
  fills straight from its zero buffer, the sixty-two blocks of rows it copies through its eight staging
  buffers, and the order in which it starts and awaits those copies. Everything here is a statement about
  numbers; the programs and their memory are in the modules that import this one.
-/
module

public import Idealize.ShloMosaic.Lib.Decide

@[expose] public section

namespace Cert.Plan

/-! ## The masked rows -/

/-- Row `t` of batch `b` is masked: it lies in one of the merged spans of that batch. -/
def Masked (b t : ℕ) : Prop :=
  (b = 0 ∧ (572 ≤ t ∧ t < 887 ∨ 7156 ≤ t ∧ t < 7619))
    ∨ (b = 1 ∧ (2400 ≤ t ∧ t < 3125 ∨ 7070 ≤ t ∧ t < 7361))
    ∨ (b = 2 ∧ (21 ≤ t ∧ t < 830 ∨ 3653 ≤ t ∧ t < 4162))
    ∨ (b = 3 ∧ (341 ≤ t ∧ t < 1049))

instance (b t : ℕ) : Decidable (Masked b t) := by unfold Masked; infer_instance

/-! ## The blocks of rows -/

/-- A block of `n` rows of batch `b`, from row `o` on; its rows `[z, z + l)`, counted from the block's
    first, are overwritten with zeros before they are copied out. -/
structure Blk where
  /-- The batch. -/
  b : ℕ
  /-- The first row. -/
  o : ℕ
  /-- How many rows. -/
  n : ℕ
  /-- The first overwritten row. -/
  z : ℕ
  /-- How many rows are overwritten. -/
  l : ℕ
deriving DecidableEq

/-- The sixty-two blocks that pass through the staging buffers, in the kernel's order. -/
def chunks : List Blk :=
  [⟨0,0,512,0,0⟩, ⟨0,512,64,60,4⟩, ⟨0,880,512,0,7⟩, ⟨0,1392,512,0,0⟩, ⟨0,1904,512,0,0⟩, ⟨0,2416,512,0,0⟩,
   ⟨0,2928,512,0,0⟩, ⟨0,3440,512,0,0⟩, ⟨0,3952,512,0,0⟩, ⟨0,4464,512,0,0⟩, ⟨0,4976,512,0,0⟩, ⟨0,5488,512,0,0⟩,
   ⟨0,6000,512,0,0⟩, ⟨0,6512,512,0,0⟩, ⟨0,7024,136,132,4⟩, ⟨0,7616,512,0,3⟩, ⟨0,8128,64,0,0⟩,
   ⟨1,0,512,0,0⟩, ⟨1,512,512,0,0⟩, ⟨1,1024,512,0,0⟩, ⟨1,1536,512,0,0⟩, ⟨1,2048,352,0,0⟩, ⟨1,3120,512,0,5⟩,
   ⟨1,3632,512,0,0⟩, ⟨1,4144,512,0,0⟩, ⟨1,4656,512,0,0⟩, ⟨1,5168,512,0,0⟩, ⟨1,5680,512,0,0⟩, ⟨1,6192,512,0,0⟩,
   ⟨1,6704,368,366,2⟩, ⟨1,7360,512,0,1⟩, ⟨1,7872,320,0,0⟩,
   ⟨2,0,24,21,3⟩, ⟨2,824,512,0,6⟩, ⟨2,1336,512,0,0⟩, ⟨2,1848,512,0,0⟩, ⟨2,2360,512,0,0⟩, ⟨2,2872,512,0,0⟩,
   ⟨2,3384,272,269,3⟩, ⟨2,4160,512,0,2⟩, ⟨2,4672,512,0,0⟩, ⟨2,5184,512,0,0⟩, ⟨2,5696,512,0,0⟩, ⟨2,6208,512,0,0⟩,
   ⟨2,6720,512,0,0⟩, ⟨2,7232,512,0,0⟩, ⟨2,7744,448,0,0⟩,
   ⟨3,0,344,341,3⟩, ⟨3,1048,512,0,1⟩, ⟨3,1560,512,0,0⟩, ⟨3,2072,512,0,0⟩, ⟨3,2584,512,0,0⟩, ⟨3,3096,512,0,0⟩,
   ⟨3,3608,512,0,0⟩, ⟨3,4120,512,0,0⟩, ⟨3,4632,512,0,0⟩, ⟨3,5144,512,0,0⟩, ⟨3,5656,512,0,0⟩, ⟨3,6168,512,0,0⟩,
   ⟨3,6680,512,0,0⟩, ⟨3,7192,512,0,0⟩, ⟨3,7704,488,0,0⟩]

/-- The seven blocks filled from the zero buffer: masked throughout. -/
def zints : List Blk :=
  [⟨0,576,304,0,304⟩, ⟨0,7160,456,0,456⟩, ⟨1,2400,720,0,720⟩, ⟨1,7072,288,0,288⟩, ⟨2,24,800,0,800⟩, ⟨2,3656,504,0,504⟩, ⟨3,344,704,0,704⟩]

/-- Block `j` of the sixty-two. -/
def chunk (j : ℕ) : Blk := chunks.getD j ⟨0, 0, 1, 0, 0⟩

/-- Block `t` of the seven. -/
def zint (t : ℕ) : Blk := zints.getD t ⟨0, 0, 1, 0, 1⟩

/-- A block lies in the array and in a buffer of `cap` rows, and its overwritten rows in the block. -/
def Blk.Ok (cap : ℕ) (c : Blk) : Prop := c.b < 4 ∧ c.o + c.n ≤ 8192 ∧ 0 < c.n ∧ c.n ≤ cap ∧ c.z + c.l ≤ c.n

instance (cap : ℕ) (c : Blk) : Decidable (c.Ok cap) := by unfold Blk.Ok; infer_instance

theorem getD_ok {cap : ℕ} {d : Blk} (hd : d.Ok cap) : ∀ {l : List Blk}, (∀ c ∈ l, c.Ok cap) → ∀ j : ℕ, (l.getD j d).Ok cap
  | [], _, _ => hd
  | c :: _, h, 0 => h c List.mem_cons_self
  | _ :: _, h, j + 1 => getD_ok hd (fun c hc => h c (List.mem_cons_of_mem _ hc)) j

theorem chunk_ok (j : ℕ) : (chunk j).Ok 512 := getD_ok (by decide) (by decide) j

theorem zint_ok (t : ℕ) : (zint t).Ok 800 := getD_ok (by decide) (by decide) t

/-! ## The order of the copies -/

/-- One step of the kernel on block `j`: start the copy in, await it, overwrite its masked rows, start the
    copy out, await it; and hand the staging buffer of block `j` over to block `j + 8`, which is no instruction. -/
inductive Op where
  | inS (j : ℕ) | inW (j : ℕ) | zr (j : ℕ) | outS (j : ℕ) | outW (j : ℕ) | give (j : ℕ)
deriving DecidableEq

/-- The kernel's round `i`: the copy in of block `i`, once its staging buffer is free, then block `i - 4` sent on. -/
def round (i : ℕ) : List Op :=
  (if i < 62 then (if 8 ≤ i then [.outW (i - 8), .give (i - 8)] else []) ++ [.inS i] else [])
    ++ (if 4 ≤ i then [.inW (i - 4), .zr (i - 4), .outS (i - 4)] else [])

/-- The kernel's steps: its sixty-six rounds, and the last eight copies out awaited. -/
def plan : List Op := (List.range 66).flatMap round ++ (List.range 8).map fun i => .outW (54 + i)

/-- Where a block is: untouched, its staging buffer free for it, being copied in, in the staging buffer as
    read, with its masked rows overwritten, being copied out, copied out with the staging buffer still its own,
    or copied out and done with. -/
inductive Phase where
  | todo | ready | reading | rd | clean | writing | wrote | done
deriving DecidableEq

/-- What a step needs of the block it is on, and where it leaves it. -/
def Op.step : Op → (ℕ → Phase) → Option (ℕ → Phase)
  | .inS j, ph => if j < 62 ∧ ph j = .ready then some (Function.update ph j .reading) else none
  | .inW j, ph => if j < 62 ∧ ph j = .reading then some (Function.update ph j .rd) else none
  | .zr j, ph => if j < 62 ∧ ph j = .rd then some (Function.update ph j .clean) else none
  | .outS j, ph => if j < 62 ∧ ph j = .clean then some (Function.update ph j .writing) else none
  | .outW j, ph => if j < 62 ∧ ph j = .writing then some (Function.update ph j .wrote) else none
  | .give j, ph => if j < 54 ∧ ph j = .wrote ∧ ph (j + 8) = .todo then
      some (Function.update (Function.update ph j .done) (j + 8) .ready) else none

/-- Where a list of steps leaves the blocks. -/
def exec : List Op → (ℕ → Phase) → Option (ℕ → Phase)
  | [], ph => some ph
  | o :: os, ph => (o.step ph).bind (exec os)

/-- At the start the first eight blocks have their staging buffers. -/
def start (j : ℕ) : Phase := if j < 8 then .ready else .todo

/-- At the end the last eight still have them, and every block is copied out. -/
def finish (j : ℕ) : Phase := if j < 54 then .done else .wrote

/-- The kernel's plan meets every step's needs and sends every block out. -/
theorem exec_plan : (exec plan start).map (fun ph => (List.range 62).map ph) = some ((List.range 62).map finish) := by
  decide +kernel

end Cert.Plan
-- ==== Proof.Hand.Body.lean ====
/-
  The kernel's body is its plan (`Plan.lean`) carried out: one generic instruction per step.
-/
module

public import proofs.«01_k».proof.Proof.Gen.Kernel.Launch
public import proofs.«01_k».proof.Proof.Gen.Kernel.Points
public import proofs.«01_k».proof.Proof.Hand.Plan
public import Idealize.ShloMosaic.Lib.Tactic

@[expose] public section

set_option maxRecDepth 65536

noncomputable section

namespace Cert.Kernel.Hand

open Cert.Kernel Cert.Kernel.Gen Cert.Plan
open Idealize.ShloMosaic Idealize.ShloMosaic.TcCoe Idealize.ShloMosaic.Tactic
open Idealize.SL Idealize.SL.Sem

variable {F : FTy → Type} [FloatOps F]

/-- `n` rows. -/
abbrev Rows (n : ℕ) : Shape := ⟨2, ![n, 2048]⟩
/-- `n` rows of one batch. -/
abbrev BRows (n : ℕ) : Shape := ⟨3, ![1, n, 2048]⟩

theorem squeezes_rows (n : ℕ) : (BRows n).Squeezes (Rows n) := by
  unfold Shape.Squeezes
  simp [Shape.dropsOnes, List.ofFn_succ]

theorem inb_hbm {cap : ℕ} {c : Blk} (h : c.Ok cap) : ∀ a, (![c.b, c.o, 0] : Fin 3 → ℕ) a + (BRows c.n).size a ≤ S4x8192x2048.size a := by
  obtain ⟨h1, h2, -⟩ := h
  intro a; fin_cases a
  · show c.b + 1 ≤ 4; omega
  · show c.o + c.n ≤ 8192; omega
  · show 0 + 2048 ≤ 2048; omega

theorem inb_rows {n z l : ℕ} (h : z + l ≤ n) : ∀ a, (![z, 0] : Fin 2 → ℕ) a + (Rows l).size a ≤ (Rows n).size a := by
  intro a; fin_cases a
  · exact h
  · show 0 + 2048 ≤ 2048; omega

/-- The rows of block `c` in a whole array of the input's shape. -/
abbrev hbm (M : Memref sig .tc .hbm S4x8192x2048 .f32) (c : Blk) {cap : ℕ} (h : c.Ok cap) : Memref sig .tc .hbm (Rows c.n) .f32 :=
  (M.slice (Rect.unit (s := S4x8192x2048) ![c.b, c.o, 0] (BRows c.n).size (inb_hbm h)) (fun _ => rfl)).squeeze (Rows c.n) (squeezes_rows c.n)

/-- The first `n` rows of a staging buffer. -/
abbrev top {cap : ℕ} (M : Memref sig .tc .vmem (Rows cap) .f32) (n : ℕ) (h : n ≤ cap) : Memref sig .tc .vmem (Rows n) .f32 :=
  M.slice (Rect.unit (s := Rows cap) ![0, 0] (Rows n).size (inb_rows (by omega))) (fun _ => rfl)

/-- The input and the result, whole. -/
abbrev argM : Memref sig .tc .hbm S4x8192x2048 .f32 := Memref.whole main_arg0
abbrev resM : Memref sig .tc .hbm S4x8192x2048 .f32 := Memref.whole main_v0
/-- The zero buffer. -/
abbrev zeroM : Memref sig .tc .vmem S800x2048 .f32 := Memref.whole cc0_scratch8

/-- The staging buffer of slot `s`. -/
def slotM (s : ℕ) : Memref sig .tc .vmem S512x2048 .f32 :=
  match s with
  | 0 => Memref.whole cc0_scratch0 | 1 => Memref.whole cc0_scratch1 | 2 => Memref.whole cc0_scratch2 | 3 => Memref.whole cc0_scratch3
  | 4 => Memref.whole cc0_scratch4 | 5 => Memref.whole cc0_scratch5 | 6 => Memref.whole cc0_scratch6 | _ => Memref.whole cc0_scratch7

/-- The slot of block `j`, its staging buffer and its two semaphores. -/
abbrev bufM (j : ℕ) : Memref sig .tc .vmem S512x2048 .f32 := slotM (j % 8)
def inSem (j : ℕ) : DmaSem sig := ⟨j % 8, by have := Nat.mod_lt j (show 0 < 8 by decide); show j % 8 < 17; omega⟩
def outSem (j : ℕ) : DmaSem sig := ⟨8 + j % 8, by have := Nat.mod_lt j (show 0 < 8 by decide); show 8 + j % 8 < 17; omega⟩
/-- The semaphore of the copies out of the zero buffer. -/
def zSem : DmaSem sig := ⟨16, by decide⟩

theorem words {sp : Space} {s : Shape} (M : Memref sig .tc sp s .f32) : M.view.WordExact := View.wordExact_bits rfl

/-- `n` rows of zeros. -/
abbrev zeros (n : ℕ) : FVec F (Rows n) .f32 := broadcast (Rows n) (Scalar.ofBits .f32 0x00000000#32)

abbrev P (F : FTy → Type) : Type 1 := Prog (TpuEff nD τ sig (Elt F) Λ₀ .tc) PUnit

theorem numel_rows {l : ℕ} (h : 0 < l) : 0 < (Rows l).numel := by
  apply Shape.numel_pos
  intro a; fin_cases a
  · exact h
  · show 0 < 2048; decide

/-- Rows `[z, z + l)` of a buffer read, and overwritten with zeros. -/
def zeroRows {cap : ℕ} (M : Memref sig .tc .vmem (Rows cap) .f32) (z l : ℕ) (h : z + l ≤ cap) (hl : 0 < l) (k : P F) : P F :=
  .op (.load M (Rect.unit (s := Rows cap) ![z, 0] (Rows l).size (inb_rows h)).toLoadRect (View.loadsAt_vmem (numel_rows hl))) fun _ =>
  .op (.store M (Rect.unit (s := Rows cap) ![z, 0] (Rows l).size (inb_rows h)) (zeros l) Finset.univ
    (View.stores_vmem_bits_univ (numel_rows hl) rfl) (.inl rfl)) fun _ => k

theorem chunk_n (j : ℕ) : (chunk j).n ≤ 512 := (chunk_ok j).2.2.2.1
theorem zint_n (j : ℕ) : (zint j).n ≤ 800 := (zint_ok j).2.2.2.1

/-- One step as an instruction, ahead of the rest of the program. -/
def Op.prog : Op → P F → P F
  | .inS j, k => .op (.enqueueDma (hbm argM (chunk j) (chunk_ok j)) (.here (top (bufM j) (chunk j).n (chunk_n j))) (.dma (inSem j))
      (words _) (words _) ⟨Or.inl rfl, trivial⟩) fun _ => k
  | .inW j, k => .op (.waitDma2 (inSem j) (hbm argM (chunk j) (chunk_ok j)) (top (bufM j) (chunk j).n (chunk_n j)) (words _) (words _)) fun _ => k
  | .zr j, k => if h : 0 < (chunk j).l then
      zeroRows (bufM j) (chunk j).z (chunk j).l (by have := chunk_ok j; unfold Blk.Ok at this; omega) h k else k
  | .outS j, k => .op (.enqueueDma (top (bufM j) (chunk j).n (chunk_n j)) (.here (hbm resM (chunk j) (chunk_ok j))) (.dma (outSem j))
      (words _) (words _) ⟨Or.inl rfl, trivial⟩) fun _ => k
  | .outW j, k => .op (.waitDma2 (outSem j) (top (bufM j) (chunk j).n (chunk_n j)) (hbm resM (chunk j) (chunk_ok j)) (words _) (words _)) fun _ => k
  | .give _, k => k

/-- A list of steps, ahead of the rest of the program. -/
def progOf : List Op → P F → P F
  | [], k => k
  | o :: os, k => Op.prog o (progOf os k)

/-- The copies of zeros out of the zero buffer started, and awaited, from the list given. -/
def zStarts : List ℕ → P F → P F
  | [], k => k
  | t :: ts, k => .op (.enqueueDma (top zeroM (zint t).n (zint_n t)) (.here (hbm resM (zint t) (zint_ok t))) (.dma zSem)
      (words _) (words _) ⟨Or.inl rfl, trivial⟩) fun _ => zStarts ts k
def zWaits : List ℕ → P F → P F
  | [], k => k
  | t :: ts, k => .op (.waitDma2 zSem (top zeroM (zint t).n (zint_n t)) (hbm resM (zint t) (zint_ok t)) (words _) (words _)) fun _ => zWaits ts k

/-- The whole kernel. -/
def kernelP : P F :=
  zeroRows zeroM 0 800 (by decide) (by decide) <| zStarts (List.range 7) <| progOf plan <| zWaits (List.range 7) <| .ret ⟨⟩

/-- The kernel's body is the plan carried out. -/
theorem body_eq (t : Fin cfg0.N) : (bodyAt0 t : P F) = kernelP := by
  sl_kernel_rfl

end Cert.Kernel.Hand
-- ==== Proof.Hand.Tiling.lean ====
/-
  The blocks of the plan (`Plan.lean`) tile the four batches of rows, and each block's overwritten rows are
  its masked ones. Statements about numbers only.
-/
module

public import proofs.«01_k».proof.Proof.Hand.Plan

@[expose] public section

namespace Cert.Plan

/-- Row `t` of batch `b` lies in the block. -/
def Blk.Has (c : Blk) (b t : ℕ) : Prop := c.b = b ∧ c.o ≤ t ∧ t < c.o + c.n

/-- Two blocks lie in different batches, or one ends before the other begins. -/
def Blk.Apart (c d : Blk) : Prop := c.b ≠ d.b ∨ c.o + c.n ≤ d.o ∨ d.o + d.n ≤ c.o

instance (c d : Blk) : Decidable (c.Apart d) := by unfold Blk.Apart; infer_instance

theorem Blk.Apart.not_has {c d : Blk} (h : c.Apart d) {b t : ℕ} (hc : c.Has b t) : ¬ d.Has b t := by
  rintro ⟨h1, h2, h3⟩
  obtain ⟨g1, g2, g3⟩ := hc
  unfold Blk.Apart at h
  omega

/-- No two blocks meet. -/
theorem chunks_apart : ∀ i < 62, ∀ j < 62, i ≠ j → (chunk i).Apart (chunk j) := by decide +kernel
theorem zints_apart : ∀ i < 7, ∀ j < 7, i ≠ j → (zint i).Apart (zint j) := by decide +kernel
theorem chunk_zint_apart : ∀ i < 62, ∀ j < 7, (chunk i).Apart (zint j) := by decide +kernel

/-- The spans of masked rows of a batch. -/
def spansOf (b : ℕ) : List (ℕ × ℕ) :=
  [[(572, 887), (7156, 7619)], [(2400, 3125), (7070, 7361)], [(21, 830), (3653, 4162)], [(341, 1049)]].getD b []

theorem masked_iff {b : ℕ} (hb : b < 4) (t : ℕ) : Masked b t ↔ ∃ p ∈ spansOf b, p.1 ≤ t ∧ t < p.2 := by
  unfold Masked spansOf
  rcases (by omega : b = 0 ∨ b = 1 ∨ b = 2 ∨ b = 3) with rfl | rfl | rfl | rfl <;> simp

/-- Every masked span ends before the block, begins after it, or meets it in its overwritten rows; and these, if
    any, are such a meeting. -/
def Blk.Good (c : Blk) : Prop :=
  (∀ p ∈ spansOf c.b, p.2 ≤ c.o ∨ c.o + c.n ≤ p.1 ∨ (c.o + c.z = max p.1 c.o ∧ c.o + c.z + c.l = min p.2 (c.o + c.n))) ∧
    (0 < c.l → ∃ p ∈ spansOf c.b, c.o + c.z = max p.1 c.o ∧ c.o + c.z + c.l = min p.2 (c.o + c.n))

instance (c : Blk) : Decidable c.Good := by unfold Blk.Good; infer_instance

theorem Blk.Good.masked {c : Blk} (h : c.Good) (hb : c.b < 4) {r : ℕ} (hr : r < c.n) :
    Masked c.b (c.o + r) ↔ c.z ≤ r ∧ r < c.z + c.l := by
  rw [masked_iff hb]
  constructor
  · rintro ⟨p, hp, h1, h2⟩
    have := h.1 p hp
    omega
  · intro hz
    obtain ⟨p, hp, h1⟩ := h.2 (by omega)
    exact ⟨p, hp, by omega⟩

theorem chunks_good : ∀ j < 62, (chunk j).Good := by decide +kernel
theorem zints_good : ∀ t < 7, (zint t).Good ∧ (zint t).z = 0 ∧ (zint t).l = (zint t).n := by decide +kernel

/-- The masked rows of a staged block are the overwritten ones. -/
theorem chunk_masked (j : ℕ) (hj : j < 62) (r : ℕ) (hr : r < (chunk j).n) :
    Masked (chunk j).b ((chunk j).o + r) ↔ (chunk j).z ≤ r ∧ r < (chunk j).z + (chunk j).l :=
  (chunks_good j hj).masked (chunk_ok j).1 hr

/-- The blocks filled from the zero buffer are masked throughout. -/
theorem zint_masked (t : ℕ) (ht : t < 7) (r : ℕ) (hr : r < (zint t).n) : Masked (zint t).b ((zint t).o + r) := by
  obtain ⟨h, h1, h2⟩ := zints_good t ht
  exact (h.masked (zint_ok t).1 hr).mpr (by omega)

/-- Whether blocks of the list follow one another from row `a` of batch `b` to the batch's end. -/
def runs (l : List Blk) (b : ℕ) : ℕ → ℕ → Bool
  | 0, a => decide (8192 ≤ a)
  | f + 1, a => decide (8192 ≤ a) || match l.find? (fun c => decide (c.b = b ∧ c.o = a)) with
    | some c => runs l b f (a + c.n)
    | none => false

theorem has_of_runs {l : List Blk} {b : ℕ} : ∀ {f a : ℕ}, runs l b f a = true → ∀ t, a ≤ t → t < 8192 → ∃ c ∈ l, c.Has b t
  | 0, a, h, t, h1, h2 => by
    have := of_decide_eq_true h; omega
  | f + 1, a, h, t, h1, h2 => by
    unfold runs at h
    rcases Bool.or_eq_true_iff.mp h with h | h
    · have := of_decide_eq_true h; omega
    · split at h
      · next c hc =>
        have hm := List.mem_of_find?_eq_some hc
        have hd := List.find?_some hc
        simp only [decide_eq_true_eq] at hd
        obtain ⟨hb, ho⟩ := hd
        by_cases ht : t < a + c.n
        · exact ⟨c, hm, hb, by omega, by omega⟩
        · exact has_of_runs h t (by omega) h2
      · exact absurd h (by decide)

/-- Every row lies in a block. -/
theorem covered (b t : ℕ) (hb : b < 4) (ht : t < 8192) : (∃ j < 62, (chunk j).Has b t) ∨ ∃ i < 7, (zint i).Has b t := by
  have key : ∀ b < 4, runs (chunks ++ zints) b 30 0 = true := by decide +kernel
  obtain ⟨c, hc, h⟩ := has_of_runs (key b hb) t (Nat.zero_le t) ht
  rcases List.mem_append.mp hc with hc | hc
  · obtain ⟨j, hj, rfl⟩ := List.mem_iff_getElem.mp hc
    refine .inl ⟨j, hj, ?_⟩
    have e : chunk j = chunks[j] := by unfold chunk; rw [List.getD_eq_getElem?_getD, List.getElem?_eq_getElem hj]; rfl
    rw [e]; exact h
  · obtain ⟨j, hj, rfl⟩ := List.mem_iff_getElem.mp hc
    refine .inr ⟨j, hj, ?_⟩
    have e : zint j = zints[j] := by unfold zint; rw [List.getD_eq_getElem?_getD, List.getElem?_eq_getElem hj]; rfl
    rw [e]; exact h

end Cert.Plan
-- ==== Proof.Hand.Geometry.lean ====
/-
  Where the rows of a block lie in the input, in the result and in a staging buffer, and what a buffer reads
  after some of its rows were overwritten with zeros.
-/
module

public import proofs.«01_k».proof.Proof.Hand.Body
public import proofs.«01_k».proof.Proof.Hand.Tiling

@[expose] public section

noncomputable section

namespace Cert.Kernel.Hand

open Cert.Kernel Cert.Kernel.Gen Cert.Plan
open Idealize.ShloMosaic Idealize.ShloMosaic.TcCoe

variable {F : FTy → Type} [FloatOps F]

/-- Entry `i` of block `c`, in the whole array. -/
def cell {cap : ℕ} (c : Blk) (h : c.Ok cap) (i : (Rows c.n).Idx) : S4x8192x2048.Idx :=
  (Rect.unit (s := S4x8192x2048) ![c.b, c.o, 0] (BRows c.n).size (inb_hbm h)).emb (Fin.cons ⟨0, Nat.one_pos⟩ i)

theorem cell_batch {cap : ℕ} {c : Blk} (h : c.Ok cap) (i : (Rows c.n).Idx) : (cell c h i 0).val = c.b := by
  show c.b + 1 * 0 = c.b; omega
theorem cell_row {cap : ℕ} {c : Blk} (h : c.Ok cap) (i : (Rows c.n).Idx) : (cell c h i 1).val = c.o + (i 0).val := by
  show c.o + 1 * (i 0).val = _; omega

theorem emb_hbm {cap : ℕ} (M : Memref sig .tc .hbm S4x8192x2048 .f32) (c : Blk) (h : c.Ok cap) (i : (Rows c.n).Idx) :
    (hbm M c h).view.emb i = M.view.emb (cell c h i) := by
  show M.view.emb ((Rect.unit (s := S4x8192x2048) ![c.b, c.o, 0] (BRows c.n).size (inb_hbm h)).emb (Shape.reshapeEquiv _ i)) = _
  rw [Shape.reshapeEquiv_cons_one]
  rfl

/-- The elements of a block, in the array. -/
def part {cap : ℕ} (c : Blk) (h : c.Ok cap) : Finset S4x8192x2048.Idx := Finset.univ.image (cell c h)

theorem mem_part {cap : ℕ} {c : Blk} (h : c.Ok cap) (y : S4x8192x2048.Idx) : y ∈ part c h ↔ c.Has (y 0).val (y 1).val := by
  unfold part
  rw [Finset.mem_image]
  constructor
  · rintro ⟨i, -, rfl⟩
    refine ⟨(cell_batch h i).symm, ?_, ?_⟩
    · rw [cell_row]; omega
    · rw [cell_row]; have : (i 0).val < c.n := (i 0).isLt; omega
  · rintro ⟨h1, h2, h3⟩
    refine ⟨Fin.cons (α := fun a => Fin (![c.n, 2048] a)) (⟨(y 1).val - c.o, by show _ < c.n; omega⟩ : Fin c.n)
      (Fin.cons (⟨(y 2).val, (y 2).isLt⟩ : Fin 2048) finZeroElim), Finset.mem_univ _, ?_⟩
    funext a
    apply Fin.ext
    fin_cases a
    · exact (cell_batch h _).trans h1
    · refine (cell_row h _).trans ?_
      show c.o + ((y 1).val - c.o) = (y 1).val; omega
    · show 0 + 1 * (y 2).val = (y 2).val; omega

theorem set_arg {cap : ℕ} (c : Blk) (h : c.Ok cap) : (hbm argM c h).view.set = part c h := by
  ext y
  unfold View.set part
  rw [Finset.mem_map, Finset.mem_image]
  exact exists_congr fun i => and_congr_right fun _ => by rw [emb_hbm]; rfl

theorem set_res {cap : ℕ} (c : Blk) (h : c.Ok cap) : (hbm resM c h).view.set = part c h := by
  ext y
  unfold View.set part
  rw [Finset.mem_map, Finset.mem_image]
  exact exists_congr fun i => and_congr_right fun _ => by rw [emb_hbm]; rfl

/-- Entry `i` of the first `n` rows of a buffer, in the buffer. -/
def lift {cap n : ℕ} (h : n ≤ cap) (i : (Rows n).Idx) : (Rows cap).Idx :=
  (Rect.unit (s := Rows cap) ![0, 0] (Rows n).size (inb_rows (by omega))).emb i

theorem lift_row {cap n : ℕ} (h : n ≤ cap) (i : (Rows n).Idx) : (lift h i 0).val = (i 0).val := by
  show 0 + 1 * (i 0).val = _; omega

theorem read_top {cap n : ℕ} (M : Memref sig .tc .vmem (Rows cap) .f32) (h : n ≤ cap) (f : M.view.ty.Contents (Elt F)) (i : (Rows n).Idx) :
    (top M n h).view.read (Elt F) f i = M.view.read (Elt F) f (lift h i) := rfl

/-- Reading a buffer after rows `[z, z + l)` were overwritten with zeros. -/
theorem read_zeroed {cap z l : ℕ} (M : Memref sig .tc .vmem (Rows cap) .f32) (h : z + l ≤ cap) (f : M.view.ty.Contents (Elt F)) (i : (Rows cap).Idx) :
    M.view.read (Elt F) ((M.access (Rect.unit (s := Rows cap) ![z, 0] (Rows l).size (inb_rows h))).write (Elt F) f (zeros l) Finset.univ) i =
      if z ≤ (i 0).val ∧ (i 0).val < z + l then FloatOps.ofBits .f32 0x00000000#32 else M.view.read (Elt F) f i := by
  by_cases hi : z ≤ (i 0).val ∧ (i 0).val < z + l
  · rw [if_pos hi]
    have e : i = (Rect.unit (s := Rows cap) ![z, 0] (Rows l).size (inb_rows h)).emb
        (Fin.cons (α := fun a => Fin (![l, 2048] a)) (⟨(i 0).val - z, by show _ < l; omega⟩ : Fin l) (Fin.cons (⟨(i 1).val, (i 1).isLt⟩ : Fin 2048) finZeroElim)) := by
      funext a
      apply Fin.ext
      fin_cases a
      · show (i 0).val = z + 1 * ((i 0).val - z); omega
      · show (i 1).val = 0 + 1 * (i 1).val; omega
    rw [e]
    exact View.read_slice_write_emb (v := M.view) (Rect.unit (s := Rows cap) ![z, 0] (Rows l).size (inb_rows h)) f (zeros (F := F) l) (Finset.mem_univ _)
  · rw [if_neg hi]
    refine View.read_slice_write_of_not_mem (v := M.view) (Rect.unit (s := Rows cap) ![z, 0] (Rows l).size (inb_rows h)) f (zeros (F := F) l) Finset.univ fun hm => hi ?_
    obtain ⟨y, -, rfl⟩ := Finset.mem_map.mp hm
    have hy : (y 0).val < l := (y 0).isLt
    show z ≤ z + 1 * (y 0).val ∧ z + 1 * (y 0).val < z + l
    omega

end Cert.Kernel.Hand
-- ==== Proof.Hand.Steps.lean ====
/-
  What each block of the plan (`Plan.lean`) holds at each of its phases, and that each instruction of the kernel
  takes its block from one phase to the next.
-/
module

public import proofs.«01_k».proof.Proof.Hand.Geometry
public import Idealize.ShloMosaic.Lib.Pipeline.FrameValue
public import Idealize.ShloMosaic.Lib.MixedBatch
public import Idealize.ShloMosaic.Lib.Tactic

@[expose] public section

noncomputable section

namespace Cert.Kernel.Hand

open Cert.Kernel Cert.Kernel.Gen Cert.Plan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-- The proof's resources: the pipeline library's beside the transfers' counters. -/
local notation "𝕄" => MT nD τ sig Unit (Elt F) ℕ (Pipeline.UD sig nD τ) ℕ

/-- The masked input: what the kernel computes. -/
def masked (x : S4x8192x2048.Idx → F .f32) : S4x8192x2048.Idx → F .f32 :=
  fun y => if Masked (y 0).val (y 1).val then FloatOps.ofBits .f32 0x00000000#32 else x y

variable (c : Dev nD) (x : S4x8192x2048.Idx → F .f32)

/-- The program `p` runs to `Q` on device `c`. -/
abbrev Runs (p : P F) (Q : PUnit → sProp 𝕄) : sProp 𝕄 :=
  wp frame (wpE (defs₀ (F := F)) Variants.none (c : Thread nD τ) none) Set.univ p Q

/-- The device owes nothing, whatever it has waited for. -/
abbrev Ow : sProp 𝕄 := iprop(∃ W, owes (c : Thread nD τ) 0 W)

/-- The block's elements of the input; -/
abbrev xP (j : ℕ) : sProp 𝕄 := argM.view.loc (c : Thread nD τ) ↦[part (chunk j) (chunk_ok j)]{fullShare} x
/-- of the result, at anything; -/
abbrev oP (j : ℕ) : sProp 𝕄 :=
  iprop(∃ f : Buf (Elt F) (resM.view.loc (c : Thread nD τ)), resM.view.loc (c : Thread nD τ) ↦[part (chunk j) (chunk_ok j)]{fullShare} f)
/-- and of the result, as they end. -/
abbrev oD (j : ℕ) : sProp 𝕄 := resM.view.loc (c : Thread nD τ) ↦[part (chunk j) (chunk_ok j)]{fullShare} masked x

/-- A slot's staging buffer, at anything, and its two semaphores at zero. -/
abbrev slotB (s : ℕ) : sProp 𝕄 :=
  iprop(∃ f : Buf (Elt F) ((slotM s).view.loc (c : Thread nD τ)), (slotM s).view.loc (c : Thread nD τ) ↦{fullShare} f)
abbrev slotIn (j : ℕ) : sProp 𝕄 := semVal ((c : Thread nD τ), SemLoc.dma (inSem j)) 0
abbrev slotOut (j : ℕ) : sProp 𝕄 := semVal ((c : Thread nD τ), SemLoc.dma (outSem j)) 0

/-- The block's rows of its staging buffer. -/
abbrev topM (j : ℕ) : Memref sig .tc .vmem (Rows (chunk j).n) .f32 := top (bufM j) (chunk j).n (chunk_n j)

/-- The staging buffer holds the block's rows of `g`. -/
abbrev holds (j : ℕ) (g : S4x8192x2048.Idx → F .f32) : sProp 𝕄 :=
  iprop(∃ f : Buf (Elt F) ((bufM j).view.loc (c : Thread nD τ)),
    ⌜∀ i, (topM j).view.read (Elt F) f i = g (cell (chunk j) (chunk_ok j) i)⌝ ∗ (bufM j).view.loc (c : Thread nD τ) ↦{fullShare} f)

/-- What a block holds at a phase. -/
def St (j : ℕ) : Phase → sProp 𝕄
  | .todo => iprop(xP c x j ∗ oP c j)
  | .ready => iprop(xP c x j ∗ oP c j ∗ slotB c (j % 8) ∗ slotIn c j ∗ slotOut c j)
  | .reading => iprop(oP c j ∗ slotOut c j ∗
      Flight (countersEmb (U := Pipeline.UD sig nD τ)) (c : Thread nD τ) (.dma (inSem j)) () (topM j).view.dmaCredit iprop(holds c j x ∗ xP c x j))
  | .rd => iprop(xP c x j ∗ oP c j ∗ holds c j x ∗ slotIn c j ∗ slotOut c j)
  | .clean => iprop(xP c x j ∗ oP c j ∗ holds c j (masked x) ∗ slotIn c j ∗ slotOut c j)
  | .writing => iprop(xP c x j ∗ slotIn c j ∗ ∃ f : Buf (Elt F) ((bufM j).view.loc (c : Thread nD τ)),
      ((bufM j).view.loc (c : Thread nD τ) ↦[Finset.univ \ (topM j).view.set]{fullShare} f) ∗
      Flight (countersEmb (U := Pipeline.UD sig nD τ)) (c : Thread nD τ) (.dma (outSem j)) () (hbm resM (chunk j) (chunk_ok j)).view.dmaCredit
        iprop(oD c x j ∗ (bufM j).view.loc (c : Thread nD τ) ↦[(topM j).view.set]{fullShare} f))
  | .wrote => iprop(xP c x j ∗ oD c x j ∗ slotB c (j % 8) ∗ slotIn c j ∗ slotOut c j)
  | .done => iprop(xP c x j ∗ oD c x j)

theorem rows_pos {cap : ℕ} {b : Blk} (h : b.Ok cap) : 0 < (Rows b.n).numel := numel_rows h.2.2.1

theorem credit_top (j : ℕ) : 0 < (topM j).view.dmaCredit := sig.dmaCredit_pos _ _ _ _ _ (rows_pos (chunk_ok j))
theorem credit_res {cap : ℕ} (b : Blk) (h : b.Ok cap) : 0 < (hbm resM b h).view.dmaCredit := sig.dmaCredit_pos _ _ _ _ _ (rows_pos h)

variable {c x}

/-- A copy of a block of the masked input landed in the result. -/
theorem landed {cap : ℕ} (b : Blk) (h : b.Ok cap) (fd : Buf (Elt F) (resM.view.loc (c : Thread nD τ))) (v : (Rows b.n).Idx → Elt F .f32)
    (hv : ∀ i, v i = masked x (cell b h i)) :
    (resM.view.loc (c : Thread nD τ) ↦[(hbm resM b h).view.set]{fullShare} (hbm resM b h).view.write (Elt F) fd v Finset.univ : sProp 𝕄)
      = resM.view.loc (c : Thread nD τ) ↦[part b h]{fullShare} masked x := by
  rw [← set_res b h]
  refine pointsTo_congr fun y hy => ?_
  obtain ⟨i, -, rfl⟩ := Finset.mem_map.mp hy
  refine (View.write_emb_of_mem _ _ (Finset.mem_univ i)).trans ?_
  rw [emb_hbm]
  exact hv i

/-- A copy of the block's rows of the input landed in the staging buffer. -/
theorem fetched (j : ℕ) (f : Buf (Elt F) ((bufM j).view.loc (c : Thread nD τ))) :
    (iprop(((topM j).view.loc (c : Thread nD τ) ↦[Finset.univ]{fullShare} (topM j).view.write (Elt F) f
        ((ReadAs.same : ReadAs (Elt F) (Rows (chunk j).n) .f32 (Rows (chunk j).n) .f32).apply
          ((hbm argM (chunk j) (chunk_ok j)).view.read (Elt F) x)) Finset.univ) ∗
      (hbm argM (chunk j) (chunk_ok j)).view.loc (c : Thread nD τ) ↦[(hbm argM (chunk j) (chunk_ok j)).view.set]{fullShare} x) : sProp 𝕄) ⊢
      iprop(holds c j x ∗ xP c x j) := by
  rw [set_arg]
  iintro ⟨Hb, Hx⟩
  isplitl [Hb]
  · iexists (topM j).view.write (Elt F) f ((hbm argM (chunk j) (chunk_ok j)).view.read (Elt F) x) Finset.univ
    isplitr
    · ipureintro
      intro i
      rw [View.read_write_univ]
      show x ((hbm argM (chunk j) (chunk_ok j)).view.emb i) = _
      rw [emb_hbm]; rfl
    · iexact Hb
  · iexact Hx

/-- The copy in started. -/
theorem run_inS (j : ℕ) (k : P F) (Q : PUnit → sProp 𝕄) :
    St c x j .ready ⊢ iprop((St c x j .reading -∗ Runs c k Q) -∗ Runs c (Op.prog (.inS j) k) Q) := by
  dsimp only [St, Op.prog]
  iintro ⟨Hx, Ho, ⟨%f, Hb⟩, Hi, Hs⟩ Hk
  iapply (wp_dmaLocal (countersEmb (U := Pipeline.UD sig nD τ)) Variants.none (c : Thread nD τ) none (src := hbm argM (chunk j) (chunk_ok j))
    (dst := topM j) (fs := x) (fd := f) (q := fullShare) (Sd := Finset.univ) () (topM j).view.dmaCredit rfl (credit_top j) (Finset.subset_univ _)) $$ [Hx Hb Hi]
  · isplitl [Hx]
    · rw [set_arg]; iexact Hx
    isplitl [Hb]; · iexact Hb
    iexact Hi
  iintro Hf
  iapply Hk
  isplitl [Ho]; · iexact Ho
  isplitl [Hs]; · iexact Hs
  iapply (Flight_mono (countersEmb (U := Pipeline.UD sig nD τ)) (c : Thread nD τ) (fetched j f)) $$ Hf

/-- The copy in awaited. -/
theorem run_inW (j : ℕ) (k : P F) (Q : PUnit → sProp 𝕄) :
    iprop(St c x j .reading ∗ Ow c) ⊢ iprop((iprop(St c x j .rd ∗ Ow c) -∗ Runs c k Q) -∗ Runs c (Op.prog (.inW j) k) Q) := by
  dsimp only [St, Op.prog]
  iintro ⟨⟨Ho, Hs, Hf⟩, ⟨%W, HW⟩⟩ Hk
  iapply (wp_waitLocal (countersEmb (U := Pipeline.UD sig nD τ)) Variants.none (c : Thread nD τ) none () rfl) $$ [Hf HW]
  · isplitl [Hf]; · iexact Hf
    iexact HW
  iintro ⟨⟨Hh, Hx⟩, Hi, HW⟩
  iapply Hk
  isplitr [HW]
  · isplitl [Hx]; · iexact Hx
    isplitl [Ho]; · iexact Ho
    isplitl [Hh]; · iexact Hh
    isplitl [Hi]; · iexact Hi
    iexact Hs
  iexists _; iexact HW

/-- Rows overwritten with zeros. -/
theorem run_zeroRows {cap : ℕ} (M : Memref sig .tc .vmem (Rows cap) .f32) (z l : ℕ) (h : z + l ≤ cap) (hl : 0 < l) (k : P F) (Q : PUnit → sProp 𝕄)
    (f : Buf (Elt F) (M.view.loc (c : Thread nD τ))) :
    (M.view.loc (c : Thread nD τ) ↦{fullShare} f : sProp 𝕄) ⊢
      iprop(((M.view.loc (c : Thread nD τ) ↦{fullShare}
          (M.access (Rect.unit (s := Rows cap) ![z, 0] (Rows l).size (inb_rows h))).write (Elt F) f (zeros l) Finset.univ) -∗ Runs c k Q) -∗
        Runs c (zeroRows M z l h hl k) Q) := by
  unfold zeroRows
  iintro Hb Hk
  iapply (wp_load (defs := defs₀ (F := F)) Variants.none (c : Thread nD τ) none Set.univ (m := M) (S := Finset.univ) (f := f) (q := fullShare) (Finset.subset_univ _)) $$ Hb
  iintro Hb
  iapply (wp_store (defs := defs₀ (F := F)) Variants.none (c : Thread nD τ) none Set.univ (m := M)
    (r := Rect.unit (s := Rows cap) ![z, 0] (Rows l).size (inb_rows h)) (w := zeros l) (Mk := Finset.univ) (S := Finset.univ) (f := f) (Finset.subset_univ _)) $$ Hb
  iexact Hk

/-- The block's masked rows overwritten. -/
theorem run_zr (j : ℕ) (hj : j < 62) (k : P F) (Q : PUnit → sProp 𝕄) :
    St c x j .rd ⊢ iprop((St c x j .clean -∗ Runs c k Q) -∗ Runs c (Op.prog (.zr j) k) Q) := by
  dsimp only [St, Op.prog]
  iintro ⟨Hx, Ho, ⟨%f, %hf, Hb⟩, Hi, Hs⟩ Hk
  have row (i : (Rows (chunk j).n).Idx) : Masked (cell (chunk j) (chunk_ok j) i 0).val (cell (chunk j) (chunk_ok j) i 1).val ↔
      (chunk j).z ≤ (i 0).val ∧ (i 0).val < (chunk j).z + (chunk j).l := by
    rw [cell_batch, cell_row]; exact chunk_masked j hj _ (i 0).isLt

  by_cases hl : 0 < (chunk j).l
  · rw [dif_pos hl]
    have hz : (chunk j).z + (chunk j).l ≤ 512 := by have := chunk_ok j; unfold Blk.Ok at this; omega
    iapply (run_zeroRows (bufM j) _ _ hz hl k Q f) $$ Hb
    iintro Hb
    iapply Hk
    isplitl [Hx]; · iexact Hx
    isplitl [Ho]; · iexact Ho
    isplitr [Hi Hs]
    · iexists _
      isplitr
      swap; · iexact Hb
      ipureintro
      intro i
      refine (read_top (bufM j) (chunk_n j) _ i).trans ?_
      refine (read_zeroed (bufM j) hz f _).trans ?_
      rw [lift_row]
      unfold masked
      exact if_congr (row i).symm rfl (hf i)
    isplitl [Hi]; · iexact Hi
    iexact Hs
  · rw [dif_neg hl]
    iapply Hk
    isplitl [Hx]; · iexact Hx
    isplitl [Ho]; · iexact Ho
    isplitr [Hi Hs]
    · iexists f
      isplitr
      swap; · iexact Hb
      ipureintro
      intro i
      refine (hf i).trans ?_
      unfold masked
      rw [if_neg]
      rw [row i]; omega
    isplitl [Hi]; · iexact Hi
    iexact Hs

/-- The copy out started. -/
theorem run_outS (j : ℕ) (k : P F) (Q : PUnit → sProp 𝕄) :
    St c x j .clean ⊢ iprop((St c x j .writing -∗ Runs c k Q) -∗ Runs c (Op.prog (.outS j) k) Q) := by
  dsimp only [St, Op.prog]
  iintro ⟨Hx, ⟨%g, Ho⟩, ⟨%f, %hf, Hb⟩, Hi, Hs⟩ Hk
  ihave Hb := (pointsTo_split_subset (Finset.subset_univ (topM j).view.set)).1 $$ Hb
  icases Hb with ⟨Ht, Hr⟩
  iapply (wp_dmaLocal (countersEmb (U := Pipeline.UD sig nD τ)) Variants.none (c : Thread nD τ) none (src := topM j)
    (dst := hbm resM (chunk j) (chunk_ok j)) (fs := f) (fd := g) (q := fullShare) (Sd := (hbm resM (chunk j) (chunk_ok j)).view.set) ()
    (hbm resM (chunk j) (chunk_ok j)).view.dmaCredit rfl (credit_res _ _) (Finset.Subset.refl _)) $$ [Ho Ht Hs]
  · isplitl [Ht]; · iexact Ht
    isplitl [Ho]
    · rw [set_res]; iexact Ho
    iexact Hs
  iintro Hf
  iapply Hk
  isplitl [Hx]; · iexact Hx
  isplitl [Hi]; · iexact Hi
  iexists f
  isplitl [Hr]; · iexact Hr
  iapply (Flight_mono (countersEmb (U := Pipeline.UD sig nD τ)) (c : Thread nD τ) ?_) $$ Hf
  exact sep_mono_left (Entails.of_eq (landed _ _ _ _ hf))

/-- The copy out awaited. -/
theorem run_outW (j : ℕ) (k : P F) (Q : PUnit → sProp 𝕄) :
    iprop(St c x j .writing ∗ Ow c) ⊢ iprop((iprop(St c x j .wrote ∗ Ow c) -∗ Runs c k Q) -∗ Runs c (Op.prog (.outW j) k) Q) := by
  dsimp only [St, Op.prog]
  iintro ⟨⟨Hx, Hi, ⟨%f, Hr, Hf⟩⟩, ⟨%W, HW⟩⟩ Hk
  iapply (wp_waitLocal (countersEmb (U := Pipeline.UD sig nD τ)) Variants.none (c : Thread nD τ) none () rfl) $$ [Hf HW]
  · isplitl [Hf]; · iexact Hf
    iexact HW
  iintro ⟨⟨Ho, Ht⟩, Hs, HW⟩
  iapply Hk
  isplitr [HW]
  · isplitl [Hx]; · iexact Hx
    isplitl [Ho]; · iexact Ho
    isplitl [Ht Hr]
    · iexists f
      iapply (pointsTo_split_subset (Finset.subset_univ (topM j).view.set)).2
      isplitl [Ht]; · iexact Ht
      iexact Hr
    isplitl [Hi]; · iexact Hi
    iexact Hs
  iexists _; iexact HW

/-- The staging buffer handed on. -/
theorem give_slot (j : ℕ) : iprop(St c x j .wrote ∗ St c x (j + 8) .todo) ⊢ iprop(St c x j .done ∗ St c x (j + 8) .ready) := by
  have e : (j + 8) % 8 = j % 8 := Nat.add_mod_right j 8
  have ei : inSem (j + 8) = inSem j := Fin.ext e
  have eo : outSem (j + 8) = outSem j := Fin.ext (congrArg (8 + ·) e)
  dsimp only [St, slotIn, slotOut]
  rw [e, ei, eo]
  iintro ⟨⟨Hx, Ho, Hb, Hi, Hs⟩, ⟨Hx', Ho'⟩⟩
  isplitl [Hx Ho]
  · isplitl [Hx]; · iexact Hx
    iexact Ho
  isplitl [Hx']; · iexact Hx'
  isplitl [Ho']; · iexact Ho'
  isplitl [Hb]; · iexact Hb
  isplitl [Hi]; · iexact Hi
  iexact Hs

end Cert.Kernel.Hand
-- ==== Proof.Hand.Order.lean ====
/-
  The kernel's list of steps run in order: every block goes through its phases while the others wait.
-/
module

public import proofs.«01_k».proof.Proof.Hand.Steps

@[expose] public section

noncomputable section

namespace Cert.Kernel.Hand

open Cert.Kernel Cert.Kernel.Gen Cert.Plan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ (Pipeline.UD sig nD τ) ℕ

variable {c : Dev nD} {x : S4x8192x2048.Idx → F .f32}

/-- One resource of a family taken out. -/
theorem take_one {I : Type} [DecidableEq I] {s : Finset I} {i : I} (hi : i ∈ s) (Φ : I → sProp 𝕄) :
    bigSep s Φ = iprop(Φ i ∗ bigSep (s.erase i) Φ) := bigSep_erase hi

/-- Every block at its phase. -/
def All (c : Dev nD) (x : S4x8192x2048.Idx → F .f32) (ph : ℕ → Phase) : sProp 𝕄 :=
  bigSep (Finset.range 62) fun j => St c x j (ph j)

/-- One block taken out and put back at another phase. -/
theorem all_update (ph : ℕ → Phase) {j : ℕ} (hj : j < 62) (p : Phase) :
    All c x (Function.update ph j p) =
      (iprop(St c x j p ∗ bigSep ((Finset.range 62).erase j) fun i => St c x i (ph i)) : sProp 𝕄) := by
  unfold All
  rw [bigSep_erase (Finset.mem_range.mpr hj), Function.update_self]
  refine congrArg (fun R => iprop(St c x j p ∗ R)) (bigSep_congr fun i hi => ?_)
  rw [Function.update_of_ne (Finset.ne_of_mem_erase hi)]

theorem all_at (ph : ℕ → Phase) {j : ℕ} (hj : j < 62) {p : Phase} (hp : ph j = p) :
    All c x ph = (iprop(St c x j p ∗ bigSep ((Finset.range 62).erase j) fun i => St c x i (ph i)) : sProp 𝕄) := by
  rw [← all_update ph hj p, ← hp, Function.update_eq_self]

/-- An instruction that takes block `j` from `p` to `p'` takes them all there. -/
theorem lift_step {o : Op} {j : ℕ} {p p' : Phase} {ph : ℕ → Phase} (hj : j < 62) (hp : ph j = p) {k : P F} {Q : PUnit → sProp 𝕄}
    (h : iprop(St c x j p ∗ Ow c) ⊢ iprop((iprop(St c x j p' ∗ Ow c) -∗ Runs c k Q) -∗ Runs c (Op.prog o k) Q)) :
    iprop(All c x ph ∗ Ow c) ⊢ iprop((iprop(All c x (Function.update ph j p') ∗ Ow c) -∗ Runs c k Q) -∗ Runs c (Op.prog o k) Q) := by
  rw [all_update ph hj p', all_at ph hj hp]
  iintro ⟨⟨HS, HR⟩, HW⟩ Hk
  iapply h $$ [HS HW]
  · isplitl [HS]; · iexact HS
    iexact HW
  iintro ⟨HS, HW⟩
  iapply Hk
  isplitr [HW]
  · isplitl [HS]; · iexact HS
    iexact HR
  iexact HW

/-- An instruction that waits for nothing, the same. -/
theorem keep_ow {o : Op} {j : ℕ} {p p' : Phase} {k : P F} {Q : PUnit → sProp 𝕄}
    (h : ∀ Q : PUnit → sProp 𝕄, St c x j p ⊢ iprop((St c x j p' -∗ Runs c k Q) -∗ Runs c (Op.prog o k) Q)) :
    iprop(St c x j p ∗ Ow c) ⊢ iprop((iprop(St c x j p' ∗ Ow c) -∗ Runs c k Q) -∗ Runs c (Op.prog o k) Q) := by
  iintro ⟨HS, HW⟩ Hk
  iapply (h Q) $$ HS
  iintro HS
  iapply Hk
  isplitl [HS]; · iexact HS
  iexact HW

/-- One step of the plan. -/
theorem run_step {o : Op} {ph ph' : ℕ → Phase} (h : o.step ph = some ph') (k : P F) (Q : PUnit → sProp 𝕄) :
    iprop(All c x ph ∗ Ow c) ⊢ iprop((iprop(All c x ph' ∗ Ow c) -∗ Runs c k Q) -∗ Runs c (Op.prog o k) Q) := by
  cases o with
  | inS j =>
    simp only [Op.step, Option.ite_none_right_eq_some, Option.some.injEq] at h
    obtain ⟨⟨hj, hp⟩, rfl⟩ := h
    exact lift_step hj hp (keep_ow fun Q => run_inS j k Q)
  | inW j =>
    simp only [Op.step, Option.ite_none_right_eq_some, Option.some.injEq] at h
    obtain ⟨⟨hj, hp⟩, rfl⟩ := h
    exact lift_step hj hp (run_inW j k Q)
  | zr j =>
    simp only [Op.step, Option.ite_none_right_eq_some, Option.some.injEq] at h
    obtain ⟨⟨hj, hp⟩, rfl⟩ := h
    exact lift_step hj hp (keep_ow fun Q => run_zr j hj k Q)
  | outS j =>
    simp only [Op.step, Option.ite_none_right_eq_some, Option.some.injEq] at h
    obtain ⟨⟨hj, hp⟩, rfl⟩ := h
    exact lift_step hj hp (keep_ow fun Q => run_outS j k Q)
  | outW j =>
    simp only [Op.step, Option.ite_none_right_eq_some, Option.some.injEq] at h
    obtain ⟨⟨hj, hp⟩, rfl⟩ := h
    exact lift_step hj hp (run_outW j k Q)
  | give j =>
    simp only [Op.step, Option.ite_none_right_eq_some, Option.some.injEq] at h
    obtain ⟨⟨hj, hp, hp'⟩, rfl⟩ := h
    have hne : j + 8 ≠ j := by omega
    have h62 : j < 62 := by omega
    have hm : j + 8 ∈ (Finset.range 62).erase j := Finset.mem_erase.mpr ⟨hne, Finset.mem_range.mpr (by omega)⟩
    have hm' : j ∈ (Finset.range 62).erase (j + 8) := Finset.mem_erase.mpr ⟨hne.symm, Finset.mem_range.mpr (by omega)⟩
    rw [all_update _ (by omega : j + 8 < 62), take_one hm', Function.update_self, all_at ph h62 hp, take_one hm, hp',
      Finset.erase_right_comm, bigSep_congr (Ψ := fun i => St c x i (Function.update ph j .done i)) (fun i hi => by
        rw [Function.update_of_ne]
        exact Finset.ne_of_mem_erase (Finset.mem_of_mem_erase (by rw [Finset.erase_right_comm]; exact hi)))]
    dsimp only [Op.prog]
    iintro ⟨⟨H1, H2, HR⟩, HW⟩ Hk
    iapply Hk
    isplitr [HW]
    swap; · iexact HW
    ihave H := (give_slot j) $$ [H1 H2]
    · isplitl [H1]; · iexact H1
      iexact H2
    icases H with ⟨H1, H2⟩
    isplitl [H2]; · iexact H2
    isplitl [H1]; · iexact H1
    iexact HR

/-- The steps one after the other. -/
theorem run_steps : ∀ (os : List Op) {ph ph' : ℕ → Phase}, exec os ph = some ph' → ∀ (k : P F) (Q : PUnit → sProp 𝕄),
    iprop(All c x ph ∗ Ow c) ⊢ iprop((iprop(All c x ph' ∗ Ow c) -∗ Runs c k Q) -∗ Runs c (progOf os k) Q)
  | [], ph, ph', h, k, Q => by
    obtain rfl : ph = ph' := Option.some.inj h
    iintro H Hk
    iapply Hk
    iexact H
  | o :: os, ph, ph', h, k, Q => by
    obtain ⟨ph₁, h1, h2⟩ := Option.bind_eq_some_iff.mp h
    iintro H Hk
    iapply (run_step h1 (progOf os k) Q) $$ H
    iintro H
    iapply (run_steps os h2 k Q) $$ H
    iexact Hk

/-- The whole plan. -/
theorem run_plan (k : P F) (Q : PUnit → sProp 𝕄) :
    iprop(All c x start ∗ Ow c) ⊢ iprop((iprop(All c x finish ∗ Ow c) -∗ Runs c k Q) -∗ Runs c (progOf plan k) Q) := by
  obtain ⟨ph, h1, h2⟩ := Option.map_eq_some_iff.mp exec_plan
  have e : All c x ph = All c x finish := by
    unfold All
    refine bigSep_congr fun j hj => ?_
    rw [List.map_inj_left.mp h2 j (List.mem_range.mpr (Finset.mem_range.mp hj))]
  rw [← e]
  exact run_steps plan h1 k Q

end Cert.Kernel.Hand
-- ==== Proof.Hand.Zero.lean ====
/-
  The seven copies out of the zero buffer, all in flight on one semaphore: each lends a share of the buffer, and the
  seven waits together bring every share and every filled block back.
-/
module

public import proofs.«01_k».proof.Proof.Hand.Order

@[expose] public section

noncomputable section

namespace Cert.Kernel.Hand

open Cert.Kernel Cert.Kernel.Gen Cert.Plan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ (Pipeline.UD sig nD τ) ℕ

/-- The share of the zero buffer lent to copy `t`. -/
abbrev zq (t : ℕ) : PosShare TreeShare := dealOf fullShare (Finset.range 7) t
/-- The rows copy `t` reads. -/
abbrev zTop (t : ℕ) : Memref sig .tc .vmem (Rows (zint t).n) .f32 := top zeroM (zint t).n (zint_n t)
/-- The amount copy `t` puts on the semaphore. -/
def zA (t : Fin 7) : ℕ := (hbm resM (zint t.val) (zint_ok t.val)).view.dmaCredit

variable (c : Dev nD) (x : S4x8192x2048.Idx → F .f32) (f : Buf (Elt F) (zeroM.view.loc (c : Thread nD τ)))

/-- What copy `t` takes: its block of the result at anything, and its share of the rows it reads. -/
def zIn (t : ℕ) : sProp 𝕄 :=
  iprop((∃ g : Buf (Elt F) (resM.view.loc (c : Thread nD τ)), resM.view.loc (c : Thread nD τ) ↦[part (zint t) (zint_ok t)]{fullShare} g) ∗
    zeroM.view.loc (c : Thread nD τ) ↦[(zTop t).view.set]{zq t} f)
/-- What it brings: the block of the masked input, and the share back. -/
def zD (t : Fin 7) : sProp 𝕄 :=
  iprop((resM.view.loc (c : Thread nD τ) ↦[part (zint t.val) (zint_ok t.val)]{fullShare} masked x) ∗
    zeroM.view.loc (c : Thread nD τ) ↦[(zTop t.val).view.set]{zq t.val} f)

instance (t : Fin 7) : Storable (upEmb : UEmb _ 𝕄) (zD c x f t) := by unfold zD; infer_instance

/-- The copies with `j` started and `u` units awaited. -/
abbrev ZB (j u : ℕ) : sProp 𝕄 :=
  MixedBatch (countersEmb (U := Pipeline.UD sig nD τ)) (c : Thread nD τ) (.dma zSem) () zA (zD c x f) j u

theorem zA_pos (t : Fin 7) : 0 < zA t := credit_res _ _

variable {c x f}

/-- The zeros read from the zero buffer are the masked input's. -/
theorem zeros_masked (hf : ∀ i, zeroM.view.read (Elt F) f i = FloatOps.ofBits .f32 0x00000000#32) (t : ℕ) (ht : t < 7) (i : (Rows (zint t).n).Idx) :
    (zTop t).view.read (Elt F) f i = masked x (cell (zint t) (zint_ok t) i) := by
  refine (read_top zeroM (zint_n t) f i).trans ((hf _).trans ?_)
  unfold masked
  rw [if_pos]
  rw [cell_batch, cell_row]
  exact zint_masked t ht _ (i 0).isLt

/-- A copy of the zeros landed in the result. -/
theorem zlanded (hf : ∀ i, zeroM.view.read (Elt F) f i = FloatOps.ofBits .f32 0x00000000#32) (t : ℕ) (ht : t < 7)
    (g : Buf (Elt F) (resM.view.loc (c : Thread nD τ))) :
    (iprop((resM.view.loc (c : Thread nD τ) ↦[(hbm resM (zint t) (zint_ok t)).view.set]{fullShare} (hbm resM (zint t) (zint_ok t)).view.write (Elt F) g
        ((ReadAs.same : ReadAs (Elt F) (Rows (zint t).n) .f32 (Rows (zint t).n) .f32).apply ((zTop t).view.read (Elt F) f)) Finset.univ) ∗
      (zTop t).view.loc (c : Thread nD τ) ↦[(zTop t).view.set]{zq t} f) : sProp 𝕄) ⊢ zD c x f ⟨t, ht⟩ :=
  sep_mono_left (Entails.of_eq (landed _ _ _ _ (zeros_masked hf t ht)))

/-- One copy started. -/
theorem run_zStart (hf : ∀ i, zeroM.view.read (Elt F) f i = FloatOps.ofBits .f32 0x00000000#32) (t : ℕ) (ht : t < 7) (ts : List ℕ) (k : P F)
    (Q : PUnit → sProp 𝕄) :
    iprop(zIn c f t ∗ ZB c x f t 0) ⊢ iprop((ZB c x f (t + 1) 0 -∗ Runs c (zStarts ts k) Q) -∗ Runs c (zStarts (t :: ts) k) Q) := by
  unfold zIn
  iintro ⟨⟨⟨%g, Ho⟩, Hz⟩, HB⟩ Hk
  iapply (wp_dmaMixedBatch (countersEmb (U := Pipeline.UD sig nD τ)) Variants.none (c : Thread nD τ) none (src := zTop t)
    (dst := hbm resM (zint t) (zint_ok t)) (fs := f) (fd := g) (via := ReadAs.same) (q := zq t) (Sd := (hbm resM (zint t) (zint_ok t)).view.set) (D := zD c x f) (j := t) (u := 0) ()
    zA (Finset.Subset.refl _) ht rfl (Nat.zero_le _) (zlanded hf t ht g)) $$ [Ho Hz HB]
  · isplitl [Hz]; · iexact Hz
    isplitl [Ho]
    · rw [set_res]; iexact Ho
    iexact HB
  iexact Hk

/-- All the copies started. -/
theorem run_zStarts (hf : ∀ i, zeroM.view.read (Elt F) f i = FloatOps.ofBits .f32 0x00000000#32) (k : P F) (Q : PUnit → sProp 𝕄) :
    ∀ n t : ℕ, t + n = 7 → iprop(bigSep (Finset.Ico t 7) (zIn c f) ∗ ZB c x f t 0) ⊢
      iprop((ZB c x f 7 0 -∗ Runs c k Q) -∗ Runs c (zStarts (List.range' t n) k) Q)
  | 0, t, h => by
    obtain rfl : t = 7 := by omega
    iintro ⟨-, HB⟩ Hk
    iapply Hk
    iexact HB
  | n + 1, t, h => by
    rw [take_one (Finset.left_mem_Ico.mpr (by omega : t < 7)), Finset.Ico_erase_left,
      show Finset.Ioo t 7 = Finset.Ico (t + 1) 7 from rfl, List.range'_succ]
    iintro ⟨⟨H1, HR⟩, HB⟩ Hk
    iapply (run_zStart hf t (by omega) (List.range' (t + 1) n) k Q) $$ [H1 HB]
    · isplitl [H1]; · iexact H1
      iexact HB
    iintro HB
    iapply (run_zStarts hf k Q n (t + 1) (by omega)) $$ [HR HB]
    · isplitl [HR]; · iexact HR
      iexact HB
    iexact Hk

theorem sumTo_le {t : ℕ} (ht : t < 7) : sumTo zA t + zA ⟨t, ht⟩ ≤ sumTo zA 7 := by
  have h (n : ℕ) : sumTo zA n ≤ sumTo zA (n + 1) := Nat.le_add_right _ _
  rw [← sumTo_succ zA ht]
  exact monotone_nat_of_le_succ h (by omega)

/-- All the copies awaited. -/
theorem run_zWaits (k : P F) (Q : PUnit → sProp 𝕄) :
    ∀ n t : ℕ, t + n = 7 → iprop(ZB c x f 7 (sumTo zA t) ∗ Ow c) ⊢
      iprop((iprop(ZB c x f 7 (sumTo zA 7) ∗ Ow c) -∗ Runs c k Q) -∗ Runs c (zWaits (List.range' t n) k) Q)
  | 0, t, h => by
    obtain rfl : t = 7 := by omega
    iintro H Hk
    iapply Hk
    iexact H
  | n + 1, t, h => by
    have ht : t < 7 := by omega
    rw [List.range'_succ]
    iintro ⟨HB, ⟨%W, HW⟩⟩ Hk
    iapply (wp_waitMixedBatch (countersEmb (U := Pipeline.UD sig nD τ)) Variants.none (c : Thread nD τ) none
      (dstw := hbm resM (zint t) (zint_ok t)) (J := zA ⟨t, ht⟩) () rfl (sumTo_le ht)) $$ [HB HW]
    · isplitl [HB]; · iexact HB
      iexact HW
    rw [← sumTo_succ zA ht]
    iintro ⟨HB, HW⟩
    iapply (run_zWaits k Q n (t + 1) (by omega)) $$ [HB HW]
    · isplitl [HB]; · iexact HB
      iexists _; iexact HW
    iexact Hk

end Cert.Kernel.Hand
-- ==== Proof.Hand.Whole.lean ====
/-
  The whole kernel: the two arrays dealt to the blocks, the zero buffer to its seven copies, the steps run, and
  everything put together again. The result ends the masked input, the input unchanged.
-/
module

public import proofs.«01_k».proof.Proof.Hand.Zero

@[expose] public section

noncomputable section

namespace Cert.Kernel.Hand

open Cert.Kernel Cert.Kernel.Gen Cert.Plan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ (Pipeline.UD sig nD τ) ℕ

variable (c : Dev nD) (x : S4x8192x2048.Idx → F .f32)

/-- Assertions that entail each other are equal. -/
theorem same {P Q : sProp 𝕄} (h : P ⊣⊢ Q) : P = Q := Idealize.SL.BI.Entails.antisymm h.1 h.2
theorem keep_only (P : sProp 𝕄) : iprop(P ∗ emp) = P := Idealize.SL.BI.Entails.antisymm sep_emp.1 sep_emp.2

/-- Two families held together. -/
theorem both {I : Type} (s : Finset I) (Φ Ψ : I → sProp 𝕄) : (bigSep s fun i => iprop(Φ i ∗ Ψ i)) = iprop(bigSep s Φ ∗ bigSep s Ψ) := bigSep_sep s Φ Ψ

/-! ## The slots -/

/-- What the blocks of a slot share. -/
abbrev slot (j : ℕ) : sProp 𝕄 := iprop(slotB c (j % 8) ∗ slotIn c j ∗ slotOut c j)

/-- The blocks of `A` with a slot, the others without. -/
theorem all_eq {A : Finset ℕ} (hA : A ⊆ Finset.range 62) {ph : ℕ → Phase} {o : ℕ → sProp 𝕄}
    (h1 : ∀ j ∈ A, St c x j (ph j) = iprop(xP c x j ∗ o j ∗ slot c j))
    (h2 : ∀ j ∈ Finset.range 62 \ A, St c x j (ph j) = iprop(xP c x j ∗ o j)) :
    All c x ph = iprop(bigSep (Finset.range 62) (xP c x) ∗ bigSep (Finset.range 62) o ∗ bigSep A (slot c)) := by
  have h3 : ∀ j ∈ Finset.range 62, St c x j (ph j) = iprop(xP c x j ∗ o j ∗ (if j ∈ A then slot c j else iprop(emp))) := by
    intro j hj
    by_cases h : j ∈ A
    · rw [if_pos h]; exact h1 j h
    · rw [if_neg h, keep_only]; exact h2 j (Finset.mem_sdiff.mpr ⟨hj, h⟩)
  unfold All
  rw [bigSep_congr h3, both, both, bigSep_sdiff_split hA (Φ := fun j => if j ∈ A then slot c j else iprop(emp)),
    bigSep_congr (s := A) (Ψ := slot c) (fun j hj => if_pos hj),
    bigSep_congr (s := Finset.range 62 \ A) (Ψ := fun _ => (iprop(emp) : sProp 𝕄)) (fun j hj => if_neg (Finset.mem_sdiff.mp hj).2),
    show (bigSep (Finset.range 62 \ A) fun _ => (iprop(emp) : sProp 𝕄)) = iprop(emp) from bigSep_emp_const _]
  exact congrArg (fun R => iprop(bigSep (Finset.range 62) (xP c x) ∗ bigSep (Finset.range 62) o ∗ R)) (keep_only _)

theorem all_start : All c x start = iprop(bigSep (Finset.range 62) (xP c x) ∗ bigSep (Finset.range 62) (oP c) ∗ bigSep (Finset.range 8) (slot c)) := by
  refine all_eq c x (by decide) (fun j hj => ?_) fun j hj => ?_
  · rw [start, if_pos (Finset.mem_range.mp hj)]; rfl
  · rw [start, if_neg fun h => (Finset.mem_sdiff.mp hj).2 (Finset.mem_range.mpr h)]; rfl

theorem all_finish : All c x finish = iprop(bigSep (Finset.range 62) (xP c x) ∗ bigSep (Finset.range 62) (oD c x) ∗ bigSep (Finset.range 8) (slot c)) := by
  have e : bigSep (Finset.Ico 54 62) (slot (F := F) c) = bigSep (Finset.range 8) (slot c) := by
    rw [BI.bigSep_eq_bigSepL_of_eq [56, 57, 58, 59, 60, 61, 54, 55] (by decide) (by decide),
      BI.bigSep_eq_bigSepL_of_eq [0, 1, 2, 3, 4, 5, 6, 7] (by decide) (by decide)]
    rfl
  rw [← e]
  refine all_eq c x (by decide) (fun j hj => ?_) fun j hj => ?_
  · rw [finish, if_neg (by have := Finset.mem_Ico.mp hj; omega)]; rfl
  · have h1 := Finset.mem_sdiff.mp hj
    have h2 := Finset.mem_range.mp h1.1
    rw [finish, if_pos (by by_contra h; exact h1.2 (Finset.mem_Ico.mpr ⟨by omega, h2⟩))]; rfl

/-! ## The arrays -/

/-- The elements of a chunk, and of a zero interval. -/
abbrev cp (j : ℕ) : Finset S4x8192x2048.Idx := part (chunk j) (chunk_ok j)
abbrev zp (t : ℕ) : Finset S4x8192x2048.Idx := part (zint t) (zint_ok t)

theorem parts_disjoint {cap cap' : ℕ} {a b : Blk} (ha : a.Ok cap) (hb : b.Ok cap') (h : a.Apart b) : Disjoint (part a ha) (part b hb) :=
  Finset.disjoint_left.mpr fun y h1 h2 => h.not_has ((mem_part ha y).mp h1) ((mem_part hb y).mp h2)

theorem cp_disjoint : ∀ i ∈ Finset.range 62, ∀ j ∈ Finset.range 62, i ≠ j → Disjoint (cp i) (cp j) := fun i hi j hj h =>
  parts_disjoint _ _ (chunks_apart i (Finset.mem_range.mp hi) j (Finset.mem_range.mp hj) h)
theorem zp_disjoint : ∀ i ∈ Finset.range 7, ∀ j ∈ Finset.range 7, i ≠ j → Disjoint (zp i) (zp j) := fun i hi j hj h =>
  parts_disjoint _ _ (zints_apart i (Finset.mem_range.mp hi) j (Finset.mem_range.mp hj) h)
theorem cz_disjoint : Disjoint ((Finset.range 62).biUnion cp) ((Finset.range 7).biUnion zp) := by
  rw [Finset.disjoint_biUnion_left]
  intro i hi
  rw [Finset.disjoint_biUnion_right]
  exact fun j hj => parts_disjoint _ _ (chunk_zint_apart i (Finset.mem_range.mp hi) j (Finset.mem_range.mp hj))

/-- The chunks and the zero intervals make up the array. -/
theorem all_parts : (Finset.univ : Finset S4x8192x2048.Idx) = (Finset.range 62).biUnion cp ∪ (Finset.range 7).biUnion zp := by
  refine (Finset.eq_univ_of_forall fun y => ?_).symm
  rw [Finset.mem_union, Finset.mem_biUnion, Finset.mem_biUnion]
  rcases covered (y 0).val (y 1).val (y 0).isLt (y 1).isLt with ⟨j, hj, h⟩ | ⟨t, ht, h⟩
  · exact Or.inl ⟨j, Finset.mem_range.mpr hj, (mem_part _ y).mpr h⟩
  · exact Or.inr ⟨t, Finset.mem_range.mpr ht, (mem_part _ y).mpr h⟩

/-- The result dealt to the blocks. -/
theorem res_split (g : Buf (Elt F) (resM.view.loc (c : Thread nD τ))) :
    (resM.view.loc (c : Thread nD τ) ↦{fullShare} g : sProp 𝕄) =
      iprop((bigSep (Finset.range 62) fun j => resM.view.loc (c : Thread nD τ) ↦[cp j]{fullShare} g) ∗
        bigSep (Finset.range 7) fun t => resM.view.loc (c : Thread nD τ) ↦[zp t]{fullShare} g) := by
  rw [← pointsTo_biUnion _ _ cp_disjoint, ← pointsTo_biUnion _ _ zp_disjoint]
  refine Eq.trans ?_ (same (pointsTo_union cz_disjoint))
  rw [← all_parts]

/-- The input dealt to the chunks, the rest kept. -/
theorem arg_split :
    (argM.view.loc (c : Thread nD τ) ↦{fullShare} x : sProp 𝕄) =
      iprop(bigSep (Finset.range 62) (xP c x) ∗
        argM.view.loc (c : Thread nD τ) ↦[Finset.univ \ (Finset.range 62).biUnion cp]{fullShare} x) := by
  rw [show bigSep (Finset.range 62) (xP c x) = argM.view.loc (c : Thread nD τ) ↦[(Finset.range 62).biUnion cp]{fullShare} x from
    (pointsTo_biUnion _ _ cp_disjoint).symm]
  exact same (pointsTo_split_subset (Finset.subset_univ _))

/-! ## The zero buffer -/

abbrev zAny (t : ℕ) : sProp 𝕄 :=
  iprop(∃ g : Buf (Elt F) (resM.view.loc (c : Thread nD τ)), resM.view.loc (c : Thread nD τ) ↦[zp t]{fullShare} g)
abbrev zOut (t : ℕ) : sProp 𝕄 := resM.view.loc (c : Thread nD τ) ↦[zp t]{fullShare} masked x
abbrev zBuf : sProp 𝕄 := iprop(∃ f : Buf (Elt F) (zeroM.view.loc (c : Thread nD τ)), zeroM.view.loc (c : Thread nD τ) ↦{fullShare} f)
abbrev zVal : sProp 𝕄 := semVal ((c : Thread nD τ), SemLoc.dma zSem) 0
/-- The share of the rows copy `t` reads, and of the rest. -/
abbrev zLent (f : Buf (Elt F) (zeroM.view.loc (c : Thread nD τ))) (t : ℕ) : sProp 𝕄 := zeroM.view.loc (c : Thread nD τ) ↦[(zTop t).view.set]{zq t} f
abbrev zKept (f : Buf (Elt F) (zeroM.view.loc (c : Thread nD τ))) (t : ℕ) : sProp 𝕄 :=
  zeroM.view.loc (c : Thread nD τ) ↦[Finset.univ \ (zTop t).view.set]{zq t} f

theorem zero_deal (f : Buf (Elt F) (zeroM.view.loc (c : Thread nD τ))) :
    (zeroM.view.loc (c : Thread nD τ) ↦{fullShare} f : sProp 𝕄) =
      iprop(bigSep (Finset.range 7) (zLent c f) ∗ bigSep (Finset.range 7) (zKept c f)) := by
  rw [pointsTo_deal (Finset.range 7) ⟨0, by decide⟩ fullShare, ← both]
  exact bigSep_congr fun t _ => same (pointsTo_split_subset (Finset.subset_univ _))

theorem zero_back (f : Buf (Elt F) (zeroM.view.loc (c : Thread nD τ))) :
    (iprop(bigSep (Finset.range 7) (zLent c f) ∗ bigSep (Finset.range 7) (zKept c f)) : sProp 𝕄) ⊢ zBuf c := by
  rw [← zero_deal]
  iintro H
  iexists f
  iexact H

theorem zIn_all (f : Buf (Elt F) (zeroM.view.loc (c : Thread nD τ))) :
    bigSep (Finset.Ico 0 7) (zIn c f) = (iprop(bigSep (Finset.range 7) (zAny c) ∗ bigSep (Finset.range 7) (zLent c f)) : sProp 𝕄) := by
  rw [← both, show Finset.Ico 0 7 = Finset.range 7 by decide]
  rfl

theorem zD_all (f : Buf (Elt F) (zeroM.view.loc (c : Thread nD τ))) :
    bigSep Finset.univ (zD c x f) = (iprop(bigSep (Finset.range 7) (zOut c x) ∗ bigSep (Finset.range 7) (zLent c f)) : sProp 𝕄) := by
  rw [← both, show Finset.range 7 = (Finset.univ : Finset (Fin 7)).map Fin.valEmbedding by decide, bigSep_map]
  rfl

variable {c x}

/-- The zero buffer filled. -/
theorem run_fill (k : P F) (Q : PUnit → sProp 𝕄) :
    zBuf c ⊢ iprop((iprop(∃ f : Buf (Elt F) (zeroM.view.loc (c : Thread nD τ)),
        ⌜∀ i, zeroM.view.read (Elt F) f i = FloatOps.ofBits .f32 0x00000000#32⌝ ∗ zeroM.view.loc (c : Thread nD τ) ↦{fullShare} f) -∗ Runs c k Q) -∗
      Runs c (zeroRows zeroM 0 800 (by decide) (by decide) k) Q) := by
  iintro ⟨%f, Hz⟩ Hk
  iapply (run_zeroRows zeroM 0 800 _ _ k Q f) $$ Hz
  iintro Hz
  iapply Hk
  iexists _
  isplitr
  swap; · iexact Hz
  ipureintro
  intro i
  refine (read_zeroed zeroM (by decide) f i).trans (if_pos ⟨Nat.zero_le _, ?_⟩)
  rw [Nat.zero_add]
  exact (i 0).isLt

/-- The kernel from its zero buffer filled on. -/
theorem run_rest {f : Buf (Elt F) (zeroM.view.loc (c : Thread nD τ))} (hf : ∀ i, zeroM.view.read (Elt F) f i = FloatOps.ofBits .f32 0x00000000#32)
    (Q : PUnit → sProp 𝕄) :
    iprop(All c x start ∗ bigSep (Finset.range 7) (zAny c) ∗ (zeroM.view.loc (c : Thread nD τ) ↦{fullShare} f) ∗ zVal c ∗ Ow c) ⊢
      iprop((iprop(All c x finish ∗ bigSep (Finset.range 7) (zOut c x) ∗ zBuf c ∗ zVal c ∗ Ow c) -∗ Q ⟨⟩) -∗
        Runs c (zStarts (List.range 7) <| progOf plan <| zWaits (List.range 7) <| .ret ⟨⟩) Q) := by
  rw [zero_deal, List.range_eq_range']
  iintro ⟨HA, HO, ⟨HL, HK⟩, Hs, HW⟩ Hk
  imod (mixedBatch_alloc' (Lvl := ℕ) (countersEmb (U := Pipeline.UD sig nD τ)) (c : Thread nD τ) () zA (zD c x f) (sm := .dma zSem) (E := Set.univ)) $$ Hs with HB
  iapply (run_zStarts hf _ Q 7 0 rfl) $$ [HO HL HB]
  · isplitr [HB]
    · rw [zIn_all]
      isplitl [HO]; · iexact HO
      iexact HL
    iexact HB
  iintro HB
  iapply (run_plan _ Q) $$ [HA HW]
  · isplitl [HA]; · iexact HA
    iexact HW
  iintro ⟨HA, HW⟩
  iapply (run_zWaits _ Q 7 0 rfl) $$ [HB HW]
  · isplitl [HB]; · iexact HB
    iexact HW
  iintro ⟨HB, HW⟩
  imod (mixedBatch_collect' (countersEmb (U := Pipeline.UD sig nD τ)) (c : Thread nD τ) zA_pos) $$ HB with ⟨HD, Hs⟩
  ihave HD := (Entails.of_eq (zD_all c x f)) $$ HD
  icases HD with ⟨HO, HL⟩
  rw [wp_ret]
  imodintro
  iapply Hk
  isplitl [HA]; · iexact HA
  isplitl [HO]; · iexact HO
  isplitl [HL HK]
  · iapply (zero_back c f)
    isplitl [HL]; · iexact HL
    iexact HK
  isplitl [Hs]; · iexact Hs
  iexact HW

/-! ## The run -/

theorem oP_of (g : Buf (Elt F) (resM.view.loc (c : Thread nD τ))) (j : ℕ) :
    (resM.view.loc (c : Thread nD τ) ↦[cp j]{fullShare} g : sProp 𝕄) ⊢ oP c j := by
  iintro H; iexists g; iexact H
theorem zAny_of (g : Buf (Elt F) (resM.view.loc (c : Thread nD τ))) (t : ℕ) :
    (resM.view.loc (c : Thread nD τ) ↦[zp t]{fullShare} g : sProp 𝕄) ⊢ zAny c t := by
  iintro H; iexists g; iexact H
theorem any_of_res (g : Buf (Elt F) (resM.view.loc (c : Thread nD τ))) :
    (resM.view.loc (c : Thread nD τ) ↦{fullShare} g : sProp 𝕄) ⊢ iprop(bigSep (Finset.range 62) (oP c) ∗ bigSep (Finset.range 7) (zAny c)) := by
  rw [res_split]
  exact BIClass.sep_mono (bigSep_mono fun j _ => oP_of g j) (bigSep_mono fun t _ => zAny_of g t)

/-- The kernel run: the result ends the masked input. -/
theorem run_kernel (g : Buf (Elt F) (resM.view.loc (c : Thread nD τ))) (Q : PUnit → sProp 𝕄) :
    iprop((argM.view.loc (c : Thread nD τ) ↦{fullShare} x) ∗ (resM.view.loc (c : Thread nD τ) ↦{fullShare} g) ∗
        bigSep (Finset.range 8) (slot c) ∗ zBuf c ∗ zVal c ∗ Ow c) ⊢
      iprop((iprop((argM.view.loc (c : Thread nD τ) ↦{fullShare} x) ∗ (resM.view.loc (c : Thread nD τ) ↦{fullShare} masked x) ∗
        bigSep (Finset.range 8) (slot c) ∗ zBuf c ∗ zVal c ∗ Ow c) -∗ Q ⟨⟩) -∗ Runs c kernelP Q) := by
  rw [arg_split, res_split c (masked x)]
  unfold kernelP
  iintro ⟨⟨HX, HR⟩, Hg, HS, Hz, Hs, HW⟩ Hk
  ihave H := (any_of_res g) $$ Hg
  icases H with ⟨HP, HO⟩
  iapply (run_fill _ Q) $$ Hz
  iintro ⟨%f, %hf, Hz⟩
  iapply (run_rest hf Q) $$ [HX HP HS HO Hz Hs HW]
  · isplitl [HX HP HS]
    · rw [all_start]
      isplitl [HX]; · iexact HX
      isplitl [HP]; · iexact HP
      iexact HS
    isplitl [HO]; · iexact HO
    isplitl [Hz]; · iexact Hz
    isplitl [Hs]; · iexact Hs
    iexact HW
  rw [all_finish]
  iintro ⟨⟨HX, HP, HS⟩, HO, Hz, Hs, HW⟩
  iapply Hk
  isplitl [HX HR]
  · isplitl [HX]; · iexact HX
    iexact HR
  isplitl [HP HO]
  · isplitl [HP]; · iexact HP
    iexact HO
  isplitl [HS]; · iexact HS
  isplitl [Hz]; · iexact Hz
  isplitl [Hs]; · iexact Hs
  iexact HW

end Cert.Kernel.Hand
-- ==== Proof.Hand.Launch.lean ====
/-
  The launch: the kernel's run put under the program's one call, and what it says of memory and semaphores when the
  program ends.
-/
module

public import proofs.«01_k».proof.Proof.Hand.Whole
public import Idealize.ShloMosaic.Lib.Pipeline.FrameBody
public import proofs.«01_k».proof.Proof.Gen.Kernel.Launch
public import proofs.«01_k».proof.Proof.Gen.Kernel.Points

@[expose] public section

noncomputable section

namespace Cert.Kernel.Hand

open Cert.Kernel Cert.Kernel.Gen Cert.Plan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What memory holds at the launch. -/
abbrev V (c : Dev nD) (b : Ref sig .tc) : Buf (Elt F) ((c : Thread nD τ).loc b) := m ((c : Thread nD τ).loc b)

theorem hmain (𝒱₀ : Variants) :
    Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The array the kernel only reads, and the array it writes. -/
def H0 : Finset (Ref sig .tc) := {main_arg0}
def R0 : Finset (Ref sig .tc) := {main_v0}
theorem H0_sub : H0 ⊆ Pipeline.restRefs sig cfg0.spec := by decide
theorem R0_sub : R0 ⊆ Pipeline.restRefs sig cfg0.spec \ H0 := by decide

/-- The kernel's semaphores. -/
abbrev osem0 : Fin 17 → SemLoc sig := fun j => SemLoc.dma j
theorem ownSemFacts0 : Pipeline.OwnSemFacts cfg0.spec osem0 := by decide

/-- What the kernel leaves: the masked input in the result. -/
def G (c : Dev nD) : (b : Ref sig .tc) → Buf (Elt F) ((c : Thread nD τ).loc b) := Function.update (V m c) main_v0 (masked (V m c main_arg0))
theorem G_main_v0 (c : Dev nD) : G m c main_v0 = masked (V m c main_arg0) := Function.update_self ..

theorem sems_eq (c : Dev nD) :
    (Pipeline.ownSems0 (Ix := Unit) (Name := ℕ) (U := Pipeline.UD sig nD τ) (Lvl := ℕ) (Val := Elt F) (τ := τ) osem0 c : sProp 𝕄)
      = iprop(slotIn c 0 ∗ slotIn c 1 ∗ slotIn c 2 ∗ slotIn c 3 ∗ slotIn c 4 ∗ slotIn c 5 ∗ slotIn c 6 ∗ slotIn c 7
          ∗ slotOut c 0 ∗ slotOut c 1 ∗ slotOut c 2 ∗ slotOut c 3 ∗ slotOut c 4 ∗ slotOut c 5 ∗ slotOut c 6 ∗ slotOut c 7 ∗ zVal c) := by
  rw [Pipeline.ownSems0_eq_of_list c osem0 [0, 1, 2, 3, 4, 5, 6, 7, 8, 9, 10, 11, 12, 13, 14, 15, 16] (by decide) (by decide)]; rfl

theorem slots_eq (c : Dev nD) : bigSep (Finset.range 8) (slot c) =
    (iprop(slot c 0 ∗ slot c 1 ∗ slot c 2 ∗ slot c 3 ∗ slot c 4 ∗ slot c 5 ∗ slot c 6 ∗ slot c 7) : sProp 𝕄) := by
  rw [BI.bigSep_eq_bigSepL_of_eq [0, 1, 2, 3, 4, 5, 6, 7] (by decide) (by decide)]; rfl

/-- The buffers and the semaphores, slot by slot. -/
theorem slots_of (c : Dev nD) :
    (iprop(Pipeline.scopedRest (Ix := Unit) (Name := ℕ) (U := Pipeline.UD sig nD τ) (Lvl := ℕ) (Val := Elt F) cfg0.spec c ∗
        Pipeline.ownSems0 (Ix := Unit) (Name := ℕ) (U := Pipeline.UD sig nD τ) (Lvl := ℕ) (Val := Elt F) (τ := τ) osem0 c) : sProp 𝕄) ⊢
      iprop(bigSep (Finset.range 8) (slot c) ∗ zBuf c ∗ zVal c) := by
  rw [scopedRest0_eq, sems_eq, slots_eq]
  iintro ⟨⟨B0, B1, B2, B3, B4, B5, B6, B7, Hz⟩, ⟨S0, S1, S2, S3, S4, S5, S6, S7, T0, T1, T2, T3, T4, T5, T6, T7, Hs⟩⟩
  isplitl [B0 B1 B2 B3 B4 B5 B6 B7 S0 S1 S2 S3 S4 S5 S6 S7 T0 T1 T2 T3 T4 T5 T6 T7]
  · isplitl [B0 S0 T0]
    · isplitl [B0]; · iexact B0
      isplitl [S0]; · iexact S0
      iexact T0
    isplitl [B1 S1 T1]
    · isplitl [B1]; · iexact B1
      isplitl [S1]; · iexact S1
      iexact T1
    isplitl [B2 S2 T2]
    · isplitl [B2]; · iexact B2
      isplitl [S2]; · iexact S2
      iexact T2
    isplitl [B3 S3 T3]
    · isplitl [B3]; · iexact B3
      isplitl [S3]; · iexact S3
      iexact T3
    isplitl [B4 S4 T4]
    · isplitl [B4]; · iexact B4
      isplitl [S4]; · iexact S4
      iexact T4
    isplitl [B5 S5 T5]
    · isplitl [B5]; · iexact B5
      isplitl [S5]; · iexact S5
      iexact T5
    isplitl [B6 S6 T6]
    · isplitl [B6]; · iexact B6
      isplitl [S6]; · iexact S6
      iexact T6
    isplitl [B7]; · iexact B7
    isplitl [S7]; · iexact S7
    iexact T7
  isplitl [Hz]; · iexact Hz
  iexact Hs

theorem of_slots (c : Dev nD) :
    (iprop(bigSep (Finset.range 8) (slot c) ∗ zBuf c ∗ zVal c) : sProp 𝕄) ⊢
      iprop(Pipeline.scopedRest (Ix := Unit) (Name := ℕ) (U := Pipeline.UD sig nD τ) (Lvl := ℕ) (Val := Elt F) cfg0.spec c ∗
        Pipeline.ownSems0 (Ix := Unit) (Name := ℕ) (U := Pipeline.UD sig nD τ) (Lvl := ℕ) (Val := Elt F) (τ := τ) osem0 c) := by
  rw [scopedRest0_eq, sems_eq, slots_eq]
  iintro ⟨⟨⟨B0, S0, T0⟩, ⟨B1, S1, T1⟩, ⟨B2, S2, T2⟩, ⟨B3, S3, T3⟩, ⟨B4, S4, T4⟩, ⟨B5, S5, T5⟩, ⟨B6, S6, T6⟩, ⟨B7, S7, T7⟩⟩, Hz, Hs⟩
  isplitl [B0 B1 B2 B3 B4 B5 B6 B7 Hz]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexact Hz
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [T0]; · iexact T0
  isplitl [T1]; · iexact T1
  isplitl [T2]; · iexact T2
  isplitl [T3]; · iexact T3
  isplitl [T4]; · iexact T4
  isplitl [T5]; · iexact T5
  isplitl [T6]; · iexact T6
  isplitl [T7]; · iexact T7
  iexact Hs

/-- What the body holds before its one point, and after it. -/
theorem inv_eq (W : (c : Dev nD) → (b : Ref sig .tc) → Buf (Elt F) ((c : Thread nD τ).loc b)) (c : Dev nD) :
    Pipeline.ΦDRG osem0 cfg0.spec H0 R0 (V m) W c =
      (iprop(Pipeline.scopedRest (Ix := Unit) (Name := ℕ) (U := Pipeline.UD sig nD τ) (Lvl := ℕ) (Val := Elt F) cfg0.spec c ∗ (∃ r, prngReg c r) ∗
        Pipeline.ownSems0 (Ix := Unit) (Name := ℕ) (U := Pipeline.UD sig nD τ) (Lvl := ℕ) (Val := Elt F) (τ := τ) osem0 c ∗
        (argM.view.loc (c : Thread nD τ) ↦{fullShare} V m c main_arg0) ∗ (resM.view.loc (c : Thread nD τ) ↦{fullShare} W c main_v0)) : sProp 𝕄) := by
  rw [Pipeline.ΦDRG_eq]
  unfold H0 R0
  rw [Pipeline.routed_singleton, BI.bigSep_singleton]

/-- The invariant: the result as it was before the point, the masked input after it. -/
def inv (c : Dev nD) : ℕ → sProp 𝕄
  | 0 => Pipeline.ΦDRG osem0 cfg0.spec H0 R0 (V m) (V m) c
  | _ + 1 => Pipeline.ΦDRG osem0 cfg0.spec H0 R0 (V m) (G m) c

def dats (_ : Fin 1) (c : Dev nD) : Dat τ (Elt F) Unit ℕ (Pipeline.UD sig nD τ) ℕ cfg0 c where
  A w := w.elim0
  after w _ := w.elim0
  Φ t := inv m c t.val
  q _ := fullShare
  owed _ := 0

theorem inv_first (c : Dev nD) (t : Fin cfg0.N) : (dats m 0 c).Φ t.castSucc = Pipeline.ΦDRG osem0 cfg0.spec H0 R0 (V m) (V m) c := by
  rw [fin_N0 t]; rfl
theorem inv_last (c : Dev nD) (t : Fin cfg0.N) : (dats m 0 c).Φ t.succ = Pipeline.ΦDRG osem0 cfg0.spec H0 R0 (V m) (G m) c := rfl
theorem inv_end (c : Dev nD) : (dats m 0 c).Φ (Fin.last cfg0.N) = Pipeline.ΦDRG osem0 cfg0.spec H0 R0 (V m) (G m) c :=
  congrArg (inv m c) (show (Fin.last cfg0.N).val = 0 + 1 from N_0)

theorem no_windows (Φ : Fin 0 → sProp 𝕄) : bigSep Finset.univ Φ = (BI.emp : sProp 𝕄) := bigSep_univ_eq_bigSepL [] (by decide) (by decide) Φ

def bodyPre (c : Dev nD) (t : Fin cfg0.N) : sProp 𝕄 := iprop((dats m 0 c).Φ t.castSucc ∗ (dats m 0 c).owesAt () t.castSucc ∗ BI.emp)
def bodyPost (c : Dev nD) (t : Fin cfg0.N) : sProp 𝕄 := iprop((dats m 0 c).Φ t.succ ∗ (dats m 0 c).owesAt () t.succ ∗ BI.emp)

/-- The kernel's body meets what the call asks of it. -/
theorem sound_body (c : Dev nD) (t : Fin cfg0.N) :
    bodyPre m c t ⊢ wp frame (wpE (defs₀ (F := F)) Variants.none c none) Set.univ (bodyAt0 t) (fun _ => bodyPost m c t) := by
  rw [body_eq]
  unfold bodyPre bodyPost
  rw [inv_first, inv_last, inv_eq, inv_eq, G_main_v0]
  unfold Dat.owesAt Pipeline.owesWithin
  rw [show (dats m 0 c).owed t.castSucc = 0 from rfl, show (dats m 0 c).owed t.succ = 0 from rfl]
  iintro ⟨⟨HB, Hg, HS, HX, HR⟩, ⟨%W, -, HW⟩, -⟩
  ihave H := (slots_of c) $$ [HB HS]
  · isplitl [HB]; · iexact HB
    iexact HS
  icases H with ⟨HB, Hz, Hs⟩
  iapply (run_kernel (c := c) (x := V m c main_arg0) (V m c main_v0) _) $$ [HX HR HB Hz Hs HW]
  · isplitl [HX]; · iexact HX
    isplitl [HR]; · iexact HR
    isplitl [HB]; · iexact HB
    isplitl [Hz]; · iexact Hz
    isplitl [Hs]; · iexact Hs
    iexists W; iexact HW
  iintro ⟨HX, HR, HB, Hz, Hs, ⟨%W', HW⟩⟩
  ihave H := (of_slots c) $$ [HB Hz Hs]
  · isplitl [HB]; · iexact HB
    isplitl [Hz]; · iexact Hz
    iexact Hs
  icases H with ⟨HB, HS⟩
  isplitl [HB Hg HS HX HR]
  · isplitl [HB]; · iexact HB
    isplitl [Hg]; · iexact Hg
    isplitl [HS]; · iexact HS
    isplitl [HX]; · iexact HX
    iexact HR
  isplitl [HW]
  · iexists W'; isplitr; · ipureintro; exact fun _ _ => Or.inl trivial
    iexact HW
  iempintro

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  have e (Φ : Fin cfg0.W → sProp 𝕄) : bigSep Finset.univ Φ = BI.emp := no_windows Φ
  rw [e, e, defs₀_row]
  exact triple_restated (sound_body m c t) rfl .rfl fun _ => .rfl

set_option backward.isDefEq.respectTransparency.types false in
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := fun _ w => w.elim0) (G m)
    (hin := fun _ => .rfl) (hout := fun c => Entails.of_eq (inv_end m c))

/-- Every run of the program ends with its input unchanged, the masked input in its result and every semaphore at zero. -/
theorem run : θ_run defs (onTc (τ := τ) (main (F := F))) ⟨m, fun _ => 0, ρ⟩ (fun r => (∀ c : Dev nD,
      r.2.mem ((c.tc : Thread nD τ).loc main_v0) = masked (m ((c.tc : Thread nD τ).loc main_arg0))
      ∧ r.2.mem ((c.tc : Thread nD τ).loc main_arg0) = m ((c.tc : Thread nD τ).loc main_arg0))
      ∧ r.2.sem = fun _ => 0) :=
  (θ_run defs _ _).mono (fun _ h => ⟨fun c => ⟨(h.1.written c (by decide)).trans (G_main_v0 m c),
    (h.1.toR c).2 main_arg0 (Finset.mem_sdiff.mpr ⟨Pipeline.mem_restRefs_of main_arg0 (by decide) (by decide), by decide⟩)⟩, h.2⟩) (run_main m ρ)

end Cert.Kernel.Hand
-- ==== Proof.Hand.Ideal.lean ====
/-
  The program printed for the ideal values is the program itself, so that its runs are the kernel's.
-/
module

public import proofs.«01_k».proof.Proof.Hand.Launch
public import proofs.«01_k».proof.Proof.Gen.KernelIdeal

@[expose] public section

noncomputable section

namespace Cert.KernelIdeal.Hand

open Cert.KernelIdeal
open Idealize.ShloMosaic Idealize.ShloMosaic.TcCoe Idealize.SL.Sem

variable {F : FTy → Type} [FloatOps F]

theorem sig_same : Cert.KernelIdeal.sig = Cert.Kernel.sig := rfl
theorem defs_same : Cert.KernelIdeal.defs (F := F) = Cert.Kernel.defs := by sl_kernel_rfl
theorem main_same : Cert.KernelIdeal.main (F := F) = Cert.Kernel.main := by sl_kernel_rfl

open Cert.Kernel.Hand (masked)

/-- Every run of the program ends with its input unchanged, the masked input in its result and every semaphore at zero. -/
theorem run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v0) = masked (m ((c.tc : Thread nD τ).loc main_arg0))
      ∧ r.2.mem ((c.tc : Thread nD τ).loc main_arg0) = m ((c.tc : Thread nD τ).loc main_arg0))
      ∧ r.2.sem = fun _ => 0) := by
  rw [defs_same, main_same]
  exact Cert.Kernel.Hand.run m ρ

end Cert.KernelIdeal.Hand
-- ==== Proof.Ref.Line.lean ====
/-
  A straight line of host operations read as a list of equations. Every operation of the reference
  writes a buffer of its own, so what the buffers hold at the end satisfies, for every operation at
  once, "the result buffer holds the function of the operand buffers". That is what this module
  proves (`holds_of_tidy`); the rest of the reference's proof works from those equations alone and
  never follows the run step by step.
-/
module

public import Idealize.ShloMosaic.Lib.StableHlo.RunHlo
public import Idealize.ShloMosaic.Lib.StableHlo.Run

@[expose] public section

noncomputable section

namespace Cert.Ref

open Idealize.ShloMosaic Idealize.SL.Sem

variable {nD : Nat} {τ : Topo} {sig : RefSig} {Val : EltTy → Type} {Λ : Labels}

/-- The kinds of host operation the reference uses, with the buffers each one reads and writes. -/
inductive Eqn (τ : Topo) (sig : RefSig) (Val : EltTy → Type) : Type 1 where
  | nullary (y : Ref sig .tc) (v : y.ty.Contents Val)
      (hy : y.space ≠ .host ∧ (Proc.devRef (τ := τ) .tc y).isScoped = false)
  | unary (x y : Ref sig .tc) (f : x.ty.Contents Val → y.ty.Contents Val)
      (hx : x.space ≠ .host ∧ (Proc.devRef (τ := τ) .tc x).isScoped = false)
      (hy : y.space ≠ .host ∧ (Proc.devRef (τ := τ) .tc y).isScoped = false)
  | binary (a b y : Ref sig .tc) (f : a.ty.Contents Val → b.ty.Contents Val → y.ty.Contents Val)
      (ha : a.space ≠ .host ∧ (Proc.devRef (τ := τ) .tc a).isScoped = false)
      (hb : b.space ≠ .host ∧ (Proc.devRef (τ := τ) .tc b).isScoped = false)
      (hy : y.space ≠ .host ∧ (Proc.devRef (τ := τ) .tc y).isScoped = false)
  | ternary (c a b y : Ref sig .tc)
      (f : c.ty.Contents Val → a.ty.Contents Val → b.ty.Contents Val → y.ty.Contents Val)
      (hc : c.space ≠ .host ∧ (Proc.devRef (τ := τ) .tc c).isScoped = false)
      (ha : a.space ≠ .host ∧ (Proc.devRef (τ := τ) .tc a).isScoped = false)
      (hb : b.space ≠ .host ∧ (Proc.devRef (τ := τ) .tc b).isScoped = false)
      (hy : y.space ≠ .host ∧ (Proc.devRef (τ := τ) .tc y).isScoped = false)
  | reshape (x y : Ref sig .tc) (he : x.ty.elt = y.ty.elt) (hn : x.ty.shape.ShapeCasts y.ty.shape)
      (hx : x.space ≠ .host ∧ (Proc.devRef (τ := τ) .tc x).isScoped = false)
      (hy : y.space ≠ .host ∧ (Proc.devRef (τ := τ) .tc y).isScoped = false)

namespace Eqn

/-- The operation itself. -/
@[reducible] def op : Eqn τ sig Val → HloOp τ sig Val
  | nullary y v hy => StableHlo.nullary y v hy
  | unary x y f hx hy => StableHlo.unary x y f hx hy
  | binary a b y f ha hb hy => StableHlo.binary a b y f ha hb hy
  | ternary c a b y f hc ha hb hy => StableHlo.ternary c a b y f hc ha hb hy
  | reshape x y he hn hx hy => StableHlo.reshape x y he hn hx hy

/-- The buffer it writes. -/
def dst : Eqn τ sig Val → Ref sig .tc
  | nullary y .. => y
  | unary _ y .. => y
  | binary _ _ y .. => y
  | ternary _ _ _ y .. => y
  | reshape _ y .. => y

/-- The buffers it reads. -/
def srcs : Eqn τ sig Val → List (Ref sig .tc)
  | nullary .. => []
  | unary x .. => [x]
  | binary a b .. => [a, b]
  | ternary c a b .. => [c, a, b]
  | reshape x .. => [x]

/-- Under contents `W` the result buffer holds the operation's function of the operand buffers. -/
def Holds (W : Valuation τ sig Val) : Eqn τ sig Val → Prop
  | nullary y v _ => W (Proc.devRef .tc y) = v
  | unary x y f _ _ => W (Proc.devRef .tc y) = f (W (Proc.devRef .tc x))
  | binary a b y f _ _ _ => W (Proc.devRef .tc y) = f (W (Proc.devRef .tc a)) (W (Proc.devRef .tc b))
  | ternary c a b y f _ _ _ _ =>
    W (Proc.devRef .tc y) = f (W (Proc.devRef .tc c)) (W (Proc.devRef .tc a)) (W (Proc.devRef .tc b))
  | reshape x y he hn _ _ =>
    W (Proc.devRef .tc y) = fun i => he ▸ shapeCast y.ty.shape (W (Proc.devRef .tc x)) hn i

/-- The operation changes no buffer but its own. -/
theorem result_ne (e : Eqn τ sig Val) (V : Valuation τ sig Val) {r : Ref sig .tc} (h : r ≠ e.dst) :
    e.op.result V (Proc.devRef .tc r) = V (Proc.devRef .tc r) := by
  cases e with
  | nullary y v hy => exact StableHlo.nullary_result_ne y v hy V h
  | unary x y f hx hy => exact StableHlo.unary_result_ne x y f hx hy V h
  | binary a b y f ha hb hy => exact StableHlo.binary_result_ne a b y f ha hb hy V h
  | ternary c a b y f hc ha hb hy => exact StableHlo.ternary_result_ne _ _ _ _ f hc ha hb hy V h
  | reshape x y he hn hx hy => exact StableHlo.reshape_result_ne x y he hn hx hy V h

/-- If `W` agrees with the contents before the operation on what it reads, and with those after it
on what it writes, the operation's equation holds of `W`. -/
theorem holds_of_agree (e : Eqn τ sig Val) {V W : Valuation τ sig Val}
    (hd : W (Proc.devRef .tc e.dst) = e.op.result V (Proc.devRef .tc e.dst))
    (hs : ∀ r ∈ e.srcs, W (Proc.devRef .tc r) = V (Proc.devRef .tc r)) : e.Holds W := by
  cases e with
  | nullary y v hy => exact hd.trans (StableHlo.nullary_result y v hy V)
  | unary x y f hx hy =>
    refine (hd.trans (StableHlo.unary_result x y f hx hy V)).trans ?_
    rw [hs x (by simp [srcs])]
  | binary a b y f ha hb hy =>
    refine (hd.trans (StableHlo.binary_result a b y f ha hb hy V)).trans ?_
    rw [hs a (by simp [srcs]), hs b (by simp [srcs])]
  | ternary c a b y f hc ha hb hy =>
    refine (hd.trans (StableHlo.ternary_result c a b y f hc ha hb hy V)).trans ?_
    rw [hs c (by simp [srcs]), hs a (by simp [srcs]), hs b (by simp [srcs])]
  | reshape x y he hn hx hy =>
    refine (hd.trans (StableHlo.reshape_result x y he hn hx hy V)).trans ?_
    rw [hs x (by simp [srcs])]

theorem bufs_sub (e : Eqn τ sig Val) : e.op.bufs ⊆ StableHlo.tcRefs τ sig := by
  cases e with
  | nullary y v hy => exact StableHlo.nullary_bufs_sub y v hy
  | unary x y f hx hy => exact StableHlo.unary_bufs_sub x y f hx hy
  | binary a b y f ha hb hy => exact StableHlo.binary_bufs_sub a b y f ha hb hy
  | ternary c a b y f hc ha hb hy => exact StableHlo.ternary_bufs_sub _ _ _ _ f hc ha hb hy
  | reshape x y he hn hx hy => exact StableHlo.reshape_bufs_sub x y he hn hx hy

theorem fresh_empty (e : Eqn τ sig Val) : e.op.fresh = ∅ := by cases e <;> rfl

end Eqn

/-- Every buffer is written once, in the order of the buffers, and read only after that: operation
`n` writes the buffer numbered `n` and reads buffers with smaller numbers. -/
def tidy : Nat → List (Eqn τ sig Val) → Bool
  | _, [] => true
  | n, e :: l => (e.dst.idx.val == n) && e.srcs.all (fun r => decide (r.idx.val < n)) && tidy (n + 1) l

/-- All the equations of a list hold under `W`. -/
def Sat (W : Valuation τ sig Val) : List (Eqn τ sig Val) → Prop
  | [] => True
  | e :: l => e.Holds W ∧ Sat W l

theorem sat_append (W : Valuation τ sig Val) (l₁ l₂ : List (Eqn τ sig Val)) :
    Sat W (l₁ ++ l₂) ↔ Sat W l₁ ∧ Sat W l₂ := by
  induction l₁ with
  | nil => simp [Sat]
  | cons e l ih => simp [Sat, ih, and_assoc]

/-- What the buffers hold after a tidy line satisfies all its equations, and the buffers numbered
below its first are as before. -/
theorem holds_of_tidy (l : List (Eqn τ sig Val)) :
    ∀ (n : Nat) (V : Valuation τ sig Val), tidy n l = true →
      (∀ r : Ref sig .tc, r.idx.val < n →
        StableHlo.after (l.map Eqn.op) V (Proc.devRef .tc r) = V (Proc.devRef .tc r)) ∧
      Sat (StableHlo.after (l.map Eqn.op) V) l := by
  induction l with
  | nil => exact fun n V _ => ⟨fun _ _ => rfl, trivial⟩
  | cons e l ih =>
    intro n V h
    simp only [tidy, Bool.and_eq_true, beq_iff_eq, List.all_eq_true, decide_eq_true_eq] at h
    obtain ⟨⟨hd, hs⟩, hl⟩ := h
    obtain ⟨h1, h2⟩ := ih (n + 1) (e.op.result V) hl
    have ne : ∀ r : Ref sig .tc, r.idx.val < n → r ≠ e.dst := by
      rintro r hr rfl; omega
    have keep : ∀ r : Ref sig .tc, r.idx.val < n →
        StableHlo.after ((e :: l).map Eqn.op) V (Proc.devRef .tc r) = V (Proc.devRef .tc r) := fun r hr =>
      (h1 r (by omega)).trans (e.result_ne V (ne r hr))
    exact ⟨keep, e.holds_of_agree (h1 e.dst (by omega)) fun r hr => keep r (hs r hr), h2⟩

/-! ## Reading the list of equations off a program -/

/-- A program that is the straight line of the operations of `eqns`. -/
structure Line (p : Prog (TpuEff nD τ sig Val Λ .tc) PUnit) where
  eqns : List (Eqn τ sig Val)
  eq : p = StableHlo.seq (eqns.map Eqn.op)

namespace Line

variable {k q : Prog (TpuEff nD τ sig Val Λ .tc) PUnit}

def nil : Line (nD := nD) (Λ := Λ) (pure ⟨⟩ : Prog (TpuEff nD τ sig Val Λ .tc) PUnit) := ⟨[], rfl⟩

def cons (e : Eqn τ sig Val) (h : Line k) :
    Line ((hlo rfl e.op fun _ => .ret (⟨⟩ : PUnit)) >>= fun _ => k) :=
  ⟨e :: h.eqns, by conv_lhs => rw [h.eq]
                   rfl⟩

def one (e : Eqn τ sig Val) :
    Line (nD := nD) (Λ := Λ) (hlo rfl e.op fun _ => .ret (⟨⟩ : PUnit)) := ⟨[e], rfl⟩

def bind (h : Line q) (h' : Line k) : Line (q >>= fun _ => k) :=
  ⟨h.eqns ++ h'.eqns, by conv_lhs => rw [h.eq, h'.eq]
                         rw [List.map_append, StableHlo.seq_append]⟩

end Line

/-- What a tensor value's buffer holds. -/
def rd {T : BufTy} (W : Valuation τ sig Val) (x : StableHlo.TRef sig T) : T.Contents Val :=
  x.ofBuf (W (Proc.devRef .tc x.ref))

section
variable {T Ta Tb Tc : BufTy} (W : Valuation τ sig Val) (y : StableHlo.TRef sig T)
  (a : StableHlo.TRef sig Ta) (b : StableHlo.TRef sig Tb) (c : StableHlo.TRef sig Tc)

/-- The equations in terms of tensor values. -/
def Eqn.nullary' (v : T.Contents Val) : Eqn τ sig Val := .nullary y.ref (y.toBuf v) y.dev
def Eqn.unary' (f : Ta.Contents Val → T.Contents Val) : Eqn τ sig Val :=
  .unary a.ref y.ref (fun u => y.toBuf (f (a.ofBuf u))) a.dev y.dev
def Eqn.binary' (f : Ta.Contents Val → Tb.Contents Val → T.Contents Val) : Eqn τ sig Val :=
  .binary a.ref b.ref y.ref (fun u v => y.toBuf (f (a.ofBuf u) (b.ofBuf v))) a.dev b.dev y.dev
def Eqn.ternary' (f : Tc.Contents Val → Ta.Contents Val → Tb.Contents Val → T.Contents Val) : Eqn τ sig Val :=
  .ternary c.ref a.ref b.ref y.ref (fun w u v => y.toBuf (f (c.ofBuf w) (a.ofBuf u) (b.ofBuf v)))
    c.dev a.dev b.dev y.dev
def Eqn.reshape' (he : Ta.elt = T.elt) (hn : Ta.shape.ShapeCasts T.shape) : Eqn τ sig Val :=
  .reshape a.ref y.ref (((congrArg BufTy.elt a.ty_eq).trans he).trans (congrArg BufTy.elt y.ty_eq).symm)
    (congrArg BufTy.shape a.ty_eq ▸ congrArg BufTy.shape y.ty_eq ▸ hn) a.dev y.dev

namespace Line

variable {W y a b c} {k : Prog (TpuEff nD τ sig Val Λ .tc) PUnit}

/-- One line per kind of operation, over tensor values and over plain references. -/
def nullary (v : T.Contents Val) (h : Line k) :
    Line ((hlo rfl (StableHlo.TRef.nullary y v) fun _ => .ret (⟨⟩ : PUnit)) >>= fun _ => k) := cons (.nullary' y v) h
def unary (f : Ta.Contents Val → T.Contents Val) (h : Line k) :
    Line ((hlo rfl (StableHlo.TRef.unary a y f) fun _ => .ret (⟨⟩ : PUnit)) >>= fun _ => k) := cons (.unary' y a f) h
def binary (f : Ta.Contents Val → Tb.Contents Val → T.Contents Val) (h : Line k) :
    Line ((hlo rfl (StableHlo.TRef.binary a b y f) fun _ => .ret (⟨⟩ : PUnit)) >>= fun _ => k) := cons (.binary' y a b f) h
def ternary (f : Tc.Contents Val → Ta.Contents Val → Tb.Contents Val → T.Contents Val) (h : Line k) :
    Line ((hlo rfl (StableHlo.TRef.ternary c a b y f) fun _ => .ret (⟨⟩ : PUnit)) >>= fun _ => k) := cons (.ternary' y a b c f) h
def reshape (he : Ta.elt = T.elt) (hn : Ta.shape.ShapeCasts T.shape) (h : Line k) :
    Line ((hlo rfl (StableHlo.TRef.reshape a y he hn) fun _ => .ret (⟨⟩ : PUnit)) >>= fun _ => k) := cons (.reshape' y a he hn) h
def last (f : Ta.Contents Val → Tb.Contents Val → T.Contents Val) :
    Line (nD := nD) (τ := τ) (Λ := Λ) (hlo rfl (StableHlo.TRef.binary a b y f) fun _ => .ret (⟨⟩ : PUnit)) := one (.binary' y a b f)

end Line

theorem holds_nullary (v : T.Contents Val) : (Eqn.nullary' y v).Holds W ↔ rd W y = v := by
  obtain ⟨r, rfl, _, _⟩ := y; exact Iff.rfl
theorem holds_unary (f : Ta.Contents Val → T.Contents Val) :
    (Eqn.unary' y a f).Holds W ↔ rd W y = f (rd W a) := by
  obtain ⟨r, rfl, _, _⟩ := y; exact Iff.rfl
theorem holds_binary (f : Ta.Contents Val → Tb.Contents Val → T.Contents Val) :
    (Eqn.binary' y a b f).Holds W ↔ rd W y = f (rd W a) (rd W b) := by
  obtain ⟨r, rfl, _, _⟩ := y; exact Iff.rfl
theorem holds_ternary (f : Tc.Contents Val → Ta.Contents Val → Tb.Contents Val → T.Contents Val) :
    (Eqn.ternary' y a b c f).Holds W ↔ rd W y = f (rd W c) (rd W a) (rd W b) := by
  obtain ⟨r, rfl, _, _⟩ := y; exact Iff.rfl
theorem holds_reshape (he : Ta.elt = T.elt) (hn : Ta.shape.ShapeCasts T.shape) :
    (Eqn.reshape' y a he hn).Holds W ↔ rd W y = fun i => he ▸ shapeCast T.shape (rd W a) hn i := by
  obtain ⟨r, rfl, _, _⟩ := y; obtain ⟨r', rfl, _, _⟩ := a; exact Iff.rfl

end

end Cert.Ref

end
-- ==== Proof.Ref.Program.lean ====
/-
  The reference's functions, and the whole reference, as lists of equations.
-/
module

public import proofs.«01_k».proof.ReferenceIdeal
public import proofs.«01_k».proof.Proof.Gen.ReferenceIdeal
public import proofs.«01_k».proof.Proof.Ref.Line

@[expose] public section

set_option maxRecDepth 65536

noncomputable section

namespace Cert.ReferenceIdeal.Hand

open Cert.ReferenceIdeal Cert.Ref
open Idealize.ShloMosaic Idealize.SL.Sem

variable {F : FTy → Type} [FloatOps F] [Facts]

def tfPart0 (a0 : StableHlo.TRef sig ⟨S_, .i32⟩) (a1 : StableHlo.TRef sig ⟨S_, .i32⟩) (a2 : StableHlo.TRef sig ⟨S2, .i32⟩) (a3 : StableHlo.TRef sig ⟨S2, .i32⟩) (φ : fn_threefry2x32.Bufs) :
    Line (fn_threefry2x32.body_part0 (F := F) a0 a1 a2 a3 φ) := by
  unfold fn_threefry2x32.body_part0
  repeat first
    | with_reducible exact Line.nil
    | with_reducible apply Line.binary
    | with_reducible apply Line.unary
    | with_reducible apply Line.nullary
    | with_reducible apply Line.reshape
    | with_reducible apply Line.ternary
    | with_reducible apply Line.last

def tfPart1 (a0 : StableHlo.TRef sig ⟨S_, .i32⟩) (a1 : StableHlo.TRef sig ⟨S_, .i32⟩) (a2 : StableHlo.TRef sig ⟨S2, .i32⟩) (a3 : StableHlo.TRef sig ⟨S2, .i32⟩) (φ : fn_threefry2x32.Bufs) :
    Line (fn_threefry2x32.body_part1 (F := F) a0 a1 a2 a3 φ) := by
  unfold fn_threefry2x32.body_part1
  repeat first
    | with_reducible exact Line.nil
    | with_reducible apply Line.binary
    | with_reducible apply Line.unary
    | with_reducible apply Line.nullary
    | with_reducible apply Line.reshape
    | with_reducible apply Line.ternary
    | with_reducible apply Line.last

def tfPart2 (a0 : StableHlo.TRef sig ⟨S_, .i32⟩) (a1 : StableHlo.TRef sig ⟨S_, .i32⟩) (a2 : StableHlo.TRef sig ⟨S2, .i32⟩) (a3 : StableHlo.TRef sig ⟨S2, .i32⟩) (φ : fn_threefry2x32.Bufs) :
    Line (fn_threefry2x32.body_part2 (F := F) a0 a1 a2 a3 φ) := by
  unfold fn_threefry2x32.body_part2
  repeat first
    | with_reducible exact Line.nil
    | with_reducible apply Line.binary
    | with_reducible apply Line.unary
    | with_reducible apply Line.nullary
    | with_reducible apply Line.reshape
    | with_reducible apply Line.ternary
    | with_reducible apply Line.last

def tfPart3 (a0 : StableHlo.TRef sig ⟨S_, .i32⟩) (a1 : StableHlo.TRef sig ⟨S_, .i32⟩) (a2 : StableHlo.TRef sig ⟨S2, .i32⟩) (a3 : StableHlo.TRef sig ⟨S2, .i32⟩) (φ : fn_threefry2x32.Bufs) :
    Line (fn_threefry2x32.body_part3 (F := F) a0 a1 a2 a3 φ) := by
  unfold fn_threefry2x32.body_part3
  repeat first
    | with_reducible exact Line.nil
    | with_reducible apply Line.binary
    | with_reducible apply Line.unary
    | with_reducible apply Line.nullary
    | with_reducible apply Line.reshape
    | with_reducible apply Line.ternary
    | with_reducible apply Line.last

def tfLine (a0 : StableHlo.TRef sig ⟨S_, .i32⟩) (a1 : StableHlo.TRef sig ⟨S_, .i32⟩) (a2 : StableHlo.TRef sig ⟨S2, .i32⟩) (a3 : StableHlo.TRef sig ⟨S2, .i32⟩) (φ : fn_threefry2x32.Bufs) :
    Line (fn_threefry2x32.body (F := F) a0 a1 a2 a3 φ) :=
  .bind (tfPart0 a0 a1 a2 a3 φ) <| .bind (tfPart1 a0 a1 a2 a3 φ) <| .bind (tfPart2 a0 a1 a2 a3 φ) <| tfPart3 a0 a1 a2 a3 φ

def tgPart0 (a0 : StableHlo.TRef sig ⟨S_, .i32⟩) (a1 : StableHlo.TRef sig ⟨S_, .i32⟩) (a2 : StableHlo.TRef sig ⟨S4x2, .i32⟩) (a3 : StableHlo.TRef sig ⟨S4x2, .i32⟩) (φ : fn_threefry2x32_2.Bufs) :
    Line (fn_threefry2x32_2.body_part0 (F := F) a0 a1 a2 a3 φ) := by
  unfold fn_threefry2x32_2.body_part0
  repeat first
    | with_reducible exact Line.nil
    | with_reducible apply Line.binary
    | with_reducible apply Line.unary
    | with_reducible apply Line.nullary
    | with_reducible apply Line.reshape
    | with_reducible apply Line.ternary
    | with_reducible apply Line.last

def tgPart1 (a0 : StableHlo.TRef sig ⟨S_, .i32⟩) (a1 : StableHlo.TRef sig ⟨S_, .i32⟩) (a2 : StableHlo.TRef sig ⟨S4x2, .i32⟩) (a3 : StableHlo.TRef sig ⟨S4x2, .i32⟩) (φ : fn_threefry2x32_2.Bufs) :
    Line (fn_threefry2x32_2.body_part1 (F := F) a0 a1 a2 a3 φ) := by
  unfold fn_threefry2x32_2.body_part1
  repeat first
    | with_reducible exact Line.nil
    | with_reducible apply Line.binary
    | with_reducible apply Line.unary
    | with_reducible apply Line.nullary
    | with_reducible apply Line.reshape
    | with_reducible apply Line.ternary
    | with_reducible apply Line.last

def tgPart2 (a0 : StableHlo.TRef sig ⟨S_, .i32⟩) (a1 : StableHlo.TRef sig ⟨S_, .i32⟩) (a2 : StableHlo.TRef sig ⟨S4x2, .i32⟩) (a3 : StableHlo.TRef sig ⟨S4x2, .i32⟩) (φ : fn_threefry2x32_2.Bufs) :
    Line (fn_threefry2x32_2.body_part2 (F := F) a0 a1 a2 a3 φ) := by
  unfold fn_threefry2x32_2.body_part2
  repeat first
    | with_reducible exact Line.nil
    | with_reducible apply Line.binary
    | with_reducible apply Line.unary
    | with_reducible apply Line.nullary
    | with_reducible apply Line.reshape
    | with_reducible apply Line.ternary
    | with_reducible apply Line.last

def tgPart3 (a0 : StableHlo.TRef sig ⟨S_, .i32⟩) (a1 : StableHlo.TRef sig ⟨S_, .i32⟩) (a2 : StableHlo.TRef sig ⟨S4x2, .i32⟩) (a3 : StableHlo.TRef sig ⟨S4x2, .i32⟩) (φ : fn_threefry2x32_2.Bufs) :
    Line (fn_threefry2x32_2.body_part3 (F := F) a0 a1 a2 a3 φ) := by
  unfold fn_threefry2x32_2.body_part3
  repeat first
    | with_reducible exact Line.nil
    | with_reducible apply Line.binary
    | with_reducible apply Line.unary
    | with_reducible apply Line.nullary
    | with_reducible apply Line.reshape
    | with_reducible apply Line.ternary
    | with_reducible apply Line.last

def tgLine (a0 : StableHlo.TRef sig ⟨S_, .i32⟩) (a1 : StableHlo.TRef sig ⟨S_, .i32⟩) (a2 : StableHlo.TRef sig ⟨S4x2, .i32⟩) (a3 : StableHlo.TRef sig ⟨S4x2, .i32⟩) (φ : fn_threefry2x32_2.Bufs) :
    Line (fn_threefry2x32_2.body (F := F) a0 a1 a2 a3 φ) :=
  .bind (tgPart0 a0 a1 a2 a3 φ) <| .bind (tgPart1 a0 a1 a2 a3 φ) <| .bind (tgPart2 a0 a1 a2 a3 φ) <| tgPart3 a0 a1 a2 a3 φ

def splitLine (a0 : StableHlo.TRef sig ⟨S2, .i32⟩) (φ : fn_threefry_split.Bufs) :
    Line (fn_threefry_split.body (F := F) a0 φ) := by
  unfold fn_threefry_split.body
  repeat first
    | with_reducible exact Line.nil
    | with_reducible apply Line.binary
    | with_reducible apply Line.unary
    | with_reducible apply Line.nullary
    | with_reducible apply Line.reshape
    | with_reducible apply Line.ternary
    | with_reducible apply Line.last
    | with_reducible apply Line.bind (tfLine _ _ _ _ _)

def splitLine1 (a0 : StableHlo.TRef sig ⟨S2, .i32⟩) (φ : fn_threefry_split_1.Bufs) :
    Line (fn_threefry_split_1.body (F := F) a0 φ) := by
  unfold fn_threefry_split_1.body
  repeat first
    | with_reducible exact Line.nil
    | with_reducible apply Line.binary
    | with_reducible apply Line.unary
    | with_reducible apply Line.nullary
    | with_reducible apply Line.reshape
    | with_reducible apply Line.ternary
    | with_reducible apply Line.last
    | with_reducible apply Line.bind (tfLine _ _ _ _ _)

def clipLine (a0 : StableHlo.TRef sig ⟨S_, .i32⟩) (a1 : StableHlo.TRef sig ⟨S_, .i32⟩) (a2 : StableHlo.TRef sig ⟨S_, .i32⟩) (φ : fn_clip.Bufs) :
    Line (fn_clip.body (F := F) a0 a1 a2 φ) := by
  unfold fn_clip.body
  repeat first
    | with_reducible exact Line.nil
    | with_reducible apply Line.binary
    | with_reducible apply Line.unary
    | with_reducible apply Line.nullary
    | with_reducible apply Line.reshape
    | with_reducible apply Line.ternary
    | with_reducible apply Line.last

def clipLine0 (a0 : StableHlo.TRef sig ⟨S_, .i32⟩) (a1 : StableHlo.TRef sig ⟨S_, .i32⟩) (a2 : StableHlo.TRef sig ⟨S_, .i32⟩) (φ : fn_clip_0.Bufs) :
    Line (fn_clip_0.body (F := F) a0 a1 a2 φ) := by
  unfold fn_clip_0.body
  repeat first
    | with_reducible exact Line.nil
    | with_reducible apply Line.binary
    | with_reducible apply Line.unary
    | with_reducible apply Line.nullary
    | with_reducible apply Line.reshape
    | with_reducible apply Line.ternary
    | with_reducible apply Line.last

def randPart0 (a0 : StableHlo.TRef sig ⟨S2, .i32⟩) (a1 : StableHlo.TRef sig ⟨S_, .i32⟩) (a2 : StableHlo.TRef sig ⟨S_, .i32⟩) (φ : fn_randint.Bufs) :
    Line (fn_randint.body_part0 (F := F) a0 a1 a2 φ) := by
  unfold fn_randint.body_part0
  repeat first
    | with_reducible exact Line.nil
    | with_reducible apply Line.binary
    | with_reducible apply Line.unary
    | with_reducible apply Line.nullary
    | with_reducible apply Line.reshape
    | with_reducible apply Line.ternary
    | with_reducible apply Line.last
    | with_reducible apply Line.bind (clipLine _ _ _ _)
    | with_reducible apply Line.bind (clipLine0 _ _ _ _)
    | with_reducible apply Line.bind (splitLine1 _ _)
    | with_reducible apply Line.bind (tgLine _ _ _ _ _)

def randPart1 (a0 : StableHlo.TRef sig ⟨S2, .i32⟩) (a1 : StableHlo.TRef sig ⟨S_, .i32⟩) (a2 : StableHlo.TRef sig ⟨S_, .i32⟩) (φ : fn_randint.Bufs) :
    Line (fn_randint.body_part1 (F := F) a0 a1 a2 φ) := by
  unfold fn_randint.body_part1
  repeat first
    | with_reducible exact Line.nil
    | with_reducible apply Line.binary
    | with_reducible apply Line.unary
    | with_reducible apply Line.nullary
    | with_reducible apply Line.reshape
    | with_reducible apply Line.ternary
    | with_reducible apply Line.last

def randLine (a0 : StableHlo.TRef sig ⟨S2, .i32⟩) (a1 a2 : StableHlo.TRef sig ⟨S_, .i32⟩) (φ : fn_randint.Bufs) :
    Line (fn_randint.body (F := F) a0 a1 a2 φ) :=
  .bind (randPart0 a0 a1 a2 φ) (randPart1 a0 a1 a2 φ)

def whereLine (a0 : StableHlo.TRef sig ⟨S4x8192x1, .i1⟩) (a1 : StableHlo.TRef sig ⟨S_, .f32⟩)
    (a2 : StableHlo.TRef sig ⟨S4x8192x2048, .f32⟩) (φ : fn_where.Bufs) : Line (fn_where.body (F := F) a0 a1 a2 φ) := by
  unfold fn_where.body
  repeat first
    | with_reducible exact Line.nil
    | with_reducible apply Line.binary
    | with_reducible apply Line.unary
    | with_reducible apply Line.nullary
    | with_reducible apply Line.reshape
    | with_reducible apply Line.ternary
    | with_reducible apply Line.last

/-- The whole reference. -/
def mainLine (d : Dev nD) : Line (main (F := F) d) := by
  unfold main
  repeat first
    | with_reducible exact Line.nil
    | with_reducible apply Line.cons (.binary _ _ _ _ _ _ _)
    | with_reducible apply Line.cons (.unary _ _ _ _ _)
    | with_reducible apply Line.cons (.nullary _ _ _)
    | with_reducible apply Line.cons (.reshape _ _ _ _ _ _)
    | with_reducible apply Line.bind (splitLine _ _)
    | with_reducible apply Line.bind (randLine _ _ _ _)
    | with_reducible apply Line.bind (whereLine _ _ _ _)

end Cert.ReferenceIdeal.Hand

end
-- ==== Proof.Ref.Run.lean ====
/-
  The run of the reference: it stops, and what its buffers then hold satisfies its equations.
-/
module

public import proofs.«01_k».proof.Proof.Ref.Program
public import Idealize.ShloMosaic.Lib.Tactic

@[expose] public section

set_option maxRecDepth 65536

noncomputable section

namespace Cert.ReferenceIdeal.Hand

open Cert.ReferenceIdeal Cert.Ref
open Idealize.ShloMosaic Idealize.SL.Sem

variable {F : FTy → Type} [FloatOps F] [Facts]

theorem tidy_main (d : Dev nD) : tidy 1 (mainLine (F := F) d).eqns = true := by
  sl_kernel_rfl

/-- Every execution of the reference from counters at zero ends with the buffers of every device holding some `W` that keeps
the argument and satisfies every equation. -/
theorem run_main (m : (ℓ : Loc nD τ sig) → Buf (Elt F) ℓ) (g : Dev nD → PrngReg) :
    θ_run (defs (F := F)) (onTc (τ := τ) main) ⟨m, fun _ => 0, g⟩ fun r =>
      (∀ d : Dev nD, ∃ W : Valuation τ sig (Elt F), Sat W (mainLine (F := F) d).eqns ∧
        (∀ b : Ref sig .tc, r.2.mem ((d.tc : Thread nD τ).loc b) = W (Proc.devRef .tc b)) ∧
        W (Proc.devRef .tc main_arg0) = m ((d.tc : Thread nD τ).loc main_arg0)) := by
  refine θ_run_mono (StableHlo.run_seq (by decide) (by decide) defs main (fun d => (mainLine d).eqns.map Eqn.op) (fun d => (mainLine d).eq)
    (fun d => ?_) m g fun d op h => ?_) fun r h d => ⟨_, (holds_of_tidy _ 1 (StableHlo.launchContents m d) (tidy_main d)).2, h d, ?_⟩
  · rw [List.forall_iff_forall_mem]
    intro op h
    obtain ⟨e, -, rfl⟩ := List.mem_map.mp h
    exact e.bufs_sub
  · obtain ⟨e, -, rfl⟩ := List.mem_map.mp h
    exact e.fresh_empty
  · exact (holds_of_tidy _ 1 (StableHlo.launchContents m d) (tidy_main d)).1 main_arg0 (by decide)

end Cert.ReferenceIdeal.Hand

end
-- ==== Proof.Ref.Threefry.lean ====
/-
  What the reference's two hash functions compute: twenty rounds of adding, rotating and mixing two
  words, with the key added in after every four. Both are the same function of a key and a pair of
  counters, applied to every element of arrays of different shapes.
-/
module

public import proofs.«01_k».proof.Proof.Ref.Program

@[expose] public section

set_option maxRecDepth 65536

noncomputable section

namespace Cert.ReferenceIdeal.Hand

open Cert.ReferenceIdeal Cert.Ref
open Idealize.ShloMosaic Idealize.SL.Sem

/-- A word, and a pair of words. -/
abbrev Word := BitVec 32

/-- One round: the sum, and the second word rotated left by `r` (right by `r'`) mixed with it. -/
def mix (r r' : Word) (p : Word × Word) : Word × Word :=
  (IntOp.addi p.1 p.2, IntOp.xori (IntOp.addi p.1 p.2) (IntOp.ori (IntOp.shli .host p.2 r) (IntOp.shrui .host p.2 r')))

/-- The key's words, and the number of the group of rounds, added in. -/
def inject (a b c : Word) (p : Word × Word) : Word × Word :=
  (IntOp.addi p.1 a, IntOp.addi (IntOp.addi p.2 b) c)

/-- Four rounds of either kind. -/
def four (p : Word × Word) : Word × Word := mix 6#32 26#32 (mix 26#32 6#32 (mix 15#32 17#32 (mix 13#32 19#32 p)))
def four' (p : Word × Word) : Word × Word := mix 24#32 8#32 (mix 16#32 16#32 (mix 29#32 3#32 (mix 17#32 15#32 p)))

/-- The key's third word. -/
def third (a b : Word) : Word := IntOp.xori (IntOp.xori a b) 466688986#32

/-- The whole hash of the counters `p` under the key `(a, b)`. -/
def hash (a b : Word) (p : Word × Word) : Word × Word :=
  inject (third a b) a 5#32 <| four <| inject b (third a b) 4#32 <| four' <| inject a b 3#32 <| four <|
    inject (third a b) a 2#32 <| four' <| inject b (third a b) 1#32 <| four (IntOp.addi p.1 a, IntOp.addi p.2 b)

variable {F : FTy → Type} [FloatOps F] [Facts] {W : Valuation τ sig (Elt F)}

/-- Two arrays hold, element by element, the pairs `v`. -/
def Pair {s : Shape} (W : Valuation τ sig (Elt F)) (x y : StableHlo.TRef sig ⟨s, .i32⟩) (v : s.Idx → Word × Word) : Prop :=
  rd W x = (fun i => (v i).1) ∧ rd W y = (fun i => (v i).2)

/-- The equations of one round are one round. -/
theorem pair_mix {s : Shape} {hb : S_.BroadcastsInDim s ![]} {a b c nb sl nb' sr o d : StableHlo.TRef sig ⟨s, .i32⟩}
    {n n' : StableHlo.TRef sig ⟨S_, .i32⟩} {r r' : Word} {l : List (Eqn τ sig (Elt F))} {v : s.Idx → Word × Word}
    (h : Sat W (Eqn.binary' c a b addi :: Eqn.nullary' n (constantI S_ 32 r) :: Eqn.unary' nb n (broadcastInDim s ![] hb) ::
      Eqn.binary' sl b nb Host.shli :: Eqn.nullary' n' (constantI S_ 32 r') :: Eqn.unary' nb' n' (broadcastInDim s ![] hb) ::
      Eqn.binary' sr b nb' Host.shrui :: Eqn.binary' o sl sr ori :: Eqn.binary' d c o xori :: l))
    (hv : Pair W a b v) : Pair W c d (fun i => mix r r' (v i)) ∧ Sat W l := by
  obtain ⟨h1, h2, h3, h4, h5, h6, h7, h8, h9, hl⟩ := h
  rw [holds_binary] at h1 h4 h7 h8 h9
  rw [holds_nullary] at h2 h5
  rw [holds_unary] at h3 h6
  refine ⟨⟨?_, ?_⟩, hl⟩
  · rw [h1, hv.1, hv.2]; rfl
  · rw [h9, h8, h7, h6, h5, h4, h3, h2, h1, hv.1, hv.2]; rfl

/-- The equations that add the key in. -/
theorem pair_inject {s : Shape} {hb : S_.BroadcastsInDim s ![]} {a b na nb x y' nc y : StableHlo.TRef sig ⟨s, .i32⟩}
    {ka kb n : StableHlo.TRef sig ⟨S_, .i32⟩} {wa wb c : Word} {l : List (Eqn τ sig (Elt F))} {v : s.Idx → Word × Word}
    (h : Sat W (Eqn.unary' na ka (broadcastInDim s ![] hb) :: Eqn.binary' x a na addi :: Eqn.unary' nb kb (broadcastInDim s ![] hb) ::
      Eqn.binary' y' b nb addi :: Eqn.nullary' n (constantI S_ 32 c) :: Eqn.unary' nc n (broadcastInDim s ![] hb) ::
      Eqn.binary' y y' nc addi :: l))
    (ha : rd W ka = fun _ => wa) (hb : rd W kb = fun _ => wb)
    (hv : Pair W a b v) : Pair W x y (fun i => inject wa wb c (v i)) ∧ Sat W l := by
  obtain ⟨h1, h2, h3, h4, h5, h6, h7, hl⟩ := h
  rw [holds_binary] at h2 h4 h7
  rw [holds_nullary] at h5
  rw [holds_unary] at h1 h3 h6
  refine ⟨⟨?_, ?_⟩, hl⟩
  · rw [h2, h1, ha, hv.1]; rfl
  · rw [h7, h6, h5, h4, h3, hb, hv.2]; rfl

/-- The equations up to the first round: the key's third word, and the key added in. -/
theorem pair_start {s : Shape} {hb : S_.BroadcastsInDim s ![]} {a b na nb x y : StableHlo.TRef sig ⟨s, .i32⟩}
    {ka kb m n k : StableHlo.TRef sig ⟨S_, .i32⟩} {wa wb : Word} {l : List (Eqn τ sig (Elt F))} {v : s.Idx → Word × Word}
    (h : Sat W (Eqn.binary' m ka kb xori :: Eqn.nullary' n (constantI S_ 32 466688986#32) :: Eqn.binary' k m n xori ::
      Eqn.unary' na ka (broadcastInDim s ![] hb) :: Eqn.binary' x a na addi :: Eqn.unary' nb kb (broadcastInDim s ![] hb) ::
      Eqn.binary' y b nb addi :: l))
    (ha : rd W ka = fun _ => wa) (hb : rd W kb = fun _ => wb)
    (hv : Pair W a b v) : (rd W k = fun _ => third wa wb) ∧
      Pair W x y (fun i => (IntOp.addi (v i).1 wa, IntOp.addi (v i).2 wb)) ∧ Sat W l := by
  obtain ⟨h1, h2, h3, h4, h5, h6, h7, hl⟩ := h
  rw [holds_binary] at h1 h3 h5 h7
  rw [holds_nullary] at h2
  rw [holds_unary] at h4 h6
  refine ⟨?_, ⟨?_, ?_⟩, hl⟩
  · rw [h3, h2, h1, ha, hb]; rfl
  · rw [h5, h4, ha, hv.1]; rfl
  · rw [h7, h6, hb, hv.2]; rfl

/-- The first hash function. -/
theorem hash_tf {a0 a1 : StableHlo.TRef sig ⟨S_, .i32⟩} {a2 a3 : StableHlo.TRef sig ⟨S2, .i32⟩} {φ : fn_threefry2x32.Bufs}
    (h : Sat W (tfLine (F := F) a0 a1 a2 a3 φ).eqns) {wa wb : Word} {v : S2.Idx → Word × Word}
    (ha : rd W a0 = fun _ => wa) (hb : rd W a1 = fun _ => wb) (hv : Pair W a2 a3 v) :
    Pair W φ.v171 φ.v175 (fun i => hash wa wb (v i)) := by
  obtain ⟨hk, hv, h⟩ := pair_start h ha hb hv
  obtain ⟨hv, h⟩ := pair_mix h hv
  obtain ⟨hv, h⟩ := pair_mix h hv
  obtain ⟨hv, h⟩ := pair_mix h hv
  obtain ⟨hv, h⟩ := pair_mix h hv
  obtain ⟨hv, h⟩ := pair_inject h hb hk hv
  obtain ⟨hv, h⟩ := pair_mix h hv
  obtain ⟨hv, h⟩ := pair_mix h hv
  obtain ⟨hv, h⟩ := pair_mix h hv
  obtain ⟨hv, h⟩ := pair_mix h hv
  obtain ⟨hv, h⟩ := pair_inject h hk ha hv
  obtain ⟨hv, h⟩ := pair_mix h hv
  obtain ⟨hv, h⟩ := pair_mix h hv
  obtain ⟨hv, h⟩ := pair_mix h hv
  obtain ⟨hv, h⟩ := pair_mix h hv
  obtain ⟨hv, h⟩ := pair_inject h ha hb hv
  obtain ⟨hv, h⟩ := pair_mix h hv
  obtain ⟨hv, h⟩ := pair_mix h hv
  obtain ⟨hv, h⟩ := pair_mix h hv
  obtain ⟨hv, h⟩ := pair_mix h hv
  obtain ⟨hv, h⟩ := pair_inject h hb hk hv
  obtain ⟨hv, h⟩ := pair_mix h hv
  obtain ⟨hv, h⟩ := pair_mix h hv
  obtain ⟨hv, h⟩ := pair_mix h hv
  obtain ⟨hv, h⟩ := pair_mix h hv
  obtain ⟨hv, h⟩ := pair_inject h hk ha hv
  exact hv

/-- The second hash function. -/
theorem hash_tg {a0 a1 : StableHlo.TRef sig ⟨S_, .i32⟩} {a2 a3 : StableHlo.TRef sig ⟨S4x2, .i32⟩} {φ : fn_threefry2x32_2.Bufs}
    (h : Sat W (tgLine (F := F) a0 a1 a2 a3 φ).eqns) {wa wb : Word} {v : S4x2.Idx → Word × Word}
    (ha : rd W a0 = fun _ => wa) (hb : rd W a1 = fun _ => wb) (hv : Pair W a2 a3 v) :
    Pair W φ.v171 φ.v175 (fun i => hash wa wb (v i)) := by
  obtain ⟨hk, hv, h⟩ := pair_start h ha hb hv
  obtain ⟨hv, h⟩ := pair_mix h hv
  obtain ⟨hv, h⟩ := pair_mix h hv
  obtain ⟨hv, h⟩ := pair_mix h hv
  obtain ⟨hv, h⟩ := pair_mix h hv
  obtain ⟨hv, h⟩ := pair_inject h hb hk hv
  obtain ⟨hv, h⟩ := pair_mix h hv
  obtain ⟨hv, h⟩ := pair_mix h hv
  obtain ⟨hv, h⟩ := pair_mix h hv
  obtain ⟨hv, h⟩ := pair_mix h hv
  obtain ⟨hv, h⟩ := pair_inject h hk ha hv
  obtain ⟨hv, h⟩ := pair_mix h hv
  obtain ⟨hv, h⟩ := pair_mix h hv
  obtain ⟨hv, h⟩ := pair_mix h hv
  obtain ⟨hv, h⟩ := pair_mix h hv
  obtain ⟨hv, h⟩ := pair_inject h ha hb hv
  obtain ⟨hv, h⟩ := pair_mix h hv
  obtain ⟨hv, h⟩ := pair_mix h hv
  obtain ⟨hv, h⟩ := pair_mix h hv
  obtain ⟨hv, h⟩ := pair_mix h hv
  obtain ⟨hv, h⟩ := pair_inject h hb hk hv
  obtain ⟨hv, h⟩ := pair_mix h hv
  obtain ⟨hv, h⟩ := pair_mix h hv
  obtain ⟨hv, h⟩ := pair_mix h hv
  obtain ⟨hv, h⟩ := pair_mix h hv
  obtain ⟨hv, h⟩ := pair_inject h hk ha hv
  exact hv

end Cert.ReferenceIdeal.Hand

end
-- ==== Proof.Ref.Draw.lean ====
/-
  What the reference draws: the split of a key into two, and the eight whole numbers in a range drawn
  under a key.
-/
module

public import proofs.«01_k».proof.Proof.Ref.Threefry

@[expose] public section

set_option maxRecDepth 65536

noncomputable section

namespace Cert.ReferenceIdeal.Hand

open Cert.ReferenceIdeal Cert.Ref
open Idealize.ShloMosaic Idealize.SL.Sem

/-- The first of two words at position zero, the second elsewhere. -/
def two {α : Type} (a b : α) (n : ℕ) : α := if n = 0 then a else b

/-- Key number `n` of the two that a key is split into. -/
def child (a b : Word) (n : ℕ) : Word × Word :=
  hash a b ((IntOp.shrui .host (IntOp.muli 1#64 (BitVec.ofNat 64 n)) 32#64).setWidth 32, (IntOp.muli 1#64 (BitVec.ofNat 64 n)).setWidth 32)

/-- The number of a drawn element, and the pair of words it is hashed as. -/
def number (i : S4x2.Idx) : BitVec 64 :=
  IntOp.addi (IntOp.muli 2#64 (BitVec.ofNat 64 (i 0).val)) (IntOp.muli 1#64 (BitVec.ofNat 64 (i 1).val))
def counter (i : S4x2.Idx) : Word × Word :=
  ((IntOp.shrui .host (number i) 32#64).setWidth 32, (number i).setWidth 32)

/-- Thirty-two random bits for each element. -/
def bits (k : Word × Word) (i : S4x2.Idx) : Word :=
  IntOp.xori (hash k.1 k.2 (counter i)).1 (hash k.1 k.2 (counter i)).2

variable {F : FTy → Type} [FloatOps F] [Facts] {W : Valuation τ sig (Elt F)}

/-- A pair of words sliced out of a key. -/
theorem word_at {k : StableHlo.TRef sig ⟨S2, .i32⟩} {p : StableHlo.TRef sig ⟨S1, .i32⟩} {r : StableHlo.TRef sig ⟨S_, .i32⟩}
    {off : ℕ} {hs : S2.Slices ![off] S1} {hc : S1.ShapeCasts S_} {a b : Word}
    (hk : rd W k = fun i => two a b (i 0).val)
    (h1 : (Eqn.unary' (Val := Elt F) (τ := τ) p k (extractStridedSlice S1 ![off] · hs)).Holds W)
    (h2 : (Eqn.reshape' (Val := Elt F) (τ := τ) r p (rfl : (.i32 : EltTy) = .i32) hc).Holds W) :
    rd W r = fun _ => two a b off := by
  rw [holds_unary] at h1
  rw [holds_reshape] at h2
  rw [h2, h1, hk]
  funext i
  show two a b (off + _) = _
  congr 1
  have : ∀ x : Fin 1, off + x.val = off := by intro x; omega
  exact this _

/-- The split of a key. -/
theorem split_spec {a0 : StableHlo.TRef sig ⟨S2, .i32⟩} {φ : fn_threefry_split.Bufs}
    (h : Sat W (splitLine (F := F) a0 φ).eqns) {a b : Word} (ha : rd W a0 = fun i => two a b (i 0).val) :
    rd W φ.v14 = fun i => two (child a b (i 0).val).1 (child a b (i 0).val).2 (i 1).val := by
  obtain ⟨e1, e2, e3, e4, e5, e6, e7, e8, e9, e10, e11, e12, e13, h⟩ := h
  obtain ⟨hh, e14, e15, e16, -⟩ := (sat_append _ _ _).mp h
  have hv := hash_tf hh (v := fun i => ((IntOp.shrui .host (IntOp.muli 1#64 (BitVec.ofNat 64 (i 0).val)) 32#64).setWidth 32,
    (IntOp.muli 1#64 (BitVec.ofNat 64 (i 0).val)).setWidth 32)) (word_at ha e1 e2) (word_at ha e3 e4) (by
      simp only [holds_unary, holds_binary, holds_nullary] at e5 e6 e7 e8 e9 e10 e11 e12 e13
      refine ⟨?_, ?_⟩
      · rw [e13, e11, e10, e9, e8, e7, e6, e5]; rfl
      · rw [e12, e8, e7, e6, e5]; rfl)
  simp only [holds_unary, holds_binary, holds_nullary] at e14 e15 e16
  rw [e16, e15, e14, hv.1, hv.2]
  have key : ∀ x y : Fin 2, (concatenate S2x2 1 [⟨S2x1, broadcastInDim S2x1 ![0] Facts₀.bcast_S2_S2x1_0 fun i : S2.Idx => (child a b (i 0).val).1⟩,
      ⟨S2x1, broadcastInDim S2x1 ![0] Facts₀.bcast_S2_S2x1_0 fun i : S2.Idx => (child a b (i 0).val).2⟩] Facts₀.concatenates_S2x1_S2x1_S2x2_d1 : S2x2.Idx → Word)
        (Fin.cons x (Fin.cons y finZeroElim)) = two (child a b x.val).1 (child a b x.val).2 y.val := by
    intro x y
    generalize child a b = c
    fin_cases x <;> fin_cases y <;> rfl
  funext i
  have hi : i = Fin.cons (i 0) (Fin.cons (i 1) finZeroElim) := by
    funext a; fin_cases a <;> rfl
  rw [hi]
  exact key (i 0) (i 1)

/-- The split of a key inside a draw. -/
theorem split_spec1 {a0 : StableHlo.TRef sig ⟨S2, .i32⟩} {φ : fn_threefry_split_1.Bufs}
    (h : Sat W (splitLine1 (F := F) a0 φ).eqns) {a b : Word} (ha : rd W a0 = fun i => two a b (i 0).val) :
    rd W φ.v14 = fun i => two (child a b (i 0).val).1 (child a b (i 0).val).2 (i 1).val := by
  obtain ⟨e1, e2, e3, e4, e5, e6, e7, e8, e9, e10, e11, e12, e13, h⟩ := h
  obtain ⟨hh, e14, e15, e16, -⟩ := (sat_append _ _ _).mp h
  have hv := hash_tf hh (v := fun i => ((IntOp.shrui .host (IntOp.muli 1#64 (BitVec.ofNat 64 (i 0).val)) 32#64).setWidth 32,
    (IntOp.muli 1#64 (BitVec.ofNat 64 (i 0).val)).setWidth 32)) (word_at ha e1 e2) (word_at ha e3 e4) (by
      simp only [holds_unary, holds_binary, holds_nullary] at e5 e6 e7 e8 e9 e10 e11 e12 e13
      refine ⟨?_, ?_⟩
      · rw [e13, e11, e10, e9, e8, e7, e6, e5]; rfl
      · rw [e12, e8, e7, e6, e5]; rfl)
  simp only [holds_unary, holds_binary, holds_nullary] at e14 e15 e16
  rw [e16, e15, e14, hv.1, hv.2]
  have key : ∀ x y : Fin 2, (concatenate S2x2 1 [⟨S2x1, broadcastInDim S2x1 ![0] Facts₀.bcast_S2_S2x1_0 fun i : S2.Idx => (child a b (i 0).val).1⟩,
      ⟨S2x1, broadcastInDim S2x1 ![0] Facts₀.bcast_S2_S2x1_0 fun i : S2.Idx => (child a b (i 0).val).2⟩] Facts₀.concatenates_S2x1_S2x1_S2x2_d1 : S2x2.Idx → Word)
        (Fin.cons x (Fin.cons y finZeroElim)) = two (child a b x.val).1 (child a b x.val).2 y.val := by
    intro x y
    generalize child a b = c
    fin_cases x <;> fin_cases y <;> rfl
  funext i
  have hi : i = Fin.cons (i 0) (Fin.cons (i 1) finZeroElim) := by
    funext a; fin_cases a <;> rfl
  rw [hi]
  exact key (i 0) (i 1)

/-- Where a row of two words lies in the one-row table it was sliced as. -/
theorem row_index (hc : S1x2.ShapeCasts S2) (x : Fin 2) :
    Shape.reshapeEquiv hc (Fin.cons x finZeroElim) = (Fin.cons (0 : Fin 1) (Fin.cons x finZeroElim) : S1x2.Idx) := by
  have : ∀ x : Fin 2, ∀ a, (Shape.reshapeEquiv (Gen.shapeCasts_S1x2_S2) (Fin.cons x finZeroElim) a).val =
      ((Fin.cons (0 : Fin 1) (Fin.cons x finZeroElim) : S1x2.Idx) a).val := by decide +kernel
  funext a
  exact Fin.ext (this x a)

/-- A row of a table of two keys. -/
theorem row_at {k : StableHlo.TRef sig ⟨S2x2, .i32⟩} {p : StableHlo.TRef sig ⟨S1x2, .i32⟩} {r : StableHlo.TRef sig ⟨S2, .i32⟩}
    {off : ℕ} {hs : S2x2.Slices ![off, 0] S1x2} {hc : S1x2.ShapeCasts S2} {c : ℕ → Word × Word}
    (hk : rd W k = fun i => two (c (i 0).val).1 (c (i 0).val).2 (i 1).val)
    (h1 : rd W p = extractStridedSlice S1x2 ![off, 0] (rd W k) hs)
    (h2 : rd W r = fun i => shapeCast S2 (rd W p) hc i) :
    rd W r = fun i => two (c off).1 (c off).2 (i 0).val := by
  rw [h2, h1, hk]
  have key : ∀ x : Fin 2, shapeCast S2 (extractStridedSlice S1x2 ![off, 0]
      (fun i : S2x2.Idx => two (c (i 0).val).1 (c (i 0).val).2 (i 1).val) hs) hc (Fin.cons x finZeroElim) = two (c off).1 (c off).2 x.val := by
    intro x; unfold shapeCast; rw [row_index]
    show two (c (off + 0)).1 (c (off + 0)).2 (0 + x.val) = _
    rw [Nat.zero_add]; rfl
  funext i
  have hi : i = Fin.cons (i 0) finZeroElim := by
    funext a; fin_cases a; rfl
  rw [hi]
  exact key (i 0)

/-- A bound clipped to the range of the words. -/
def clip (x : Word) : Word := IntOp.minsi 2147483647#32 (IntOp.maxsi 2147483648#32 x)

/-- How many numbers there are from `lo` up to `hi`. -/
def count (lo hi : Word) : Word :=
  let s := Scalar.select (IntOp.cmpi .sle (clip hi) (clip lo)) 1#32 (IntOp.subi (clip hi) (clip lo))
  Scalar.select (IntOp.andi (IntOp.cmpi .sgt hi (IntOp.minsi 2147483647#32 (IntOp.maxsi 2147483648#32 2147483647#32)))
    (IntOp.cmpi .sgt (clip hi) (clip lo))) (IntOp.addi s 1#32) s

/-- What the upper half of the random bits is multiplied by. -/
def factor (n : Word) : Word :=
  IntOp.remui .host (IntOp.muli (IntOp.remui .host 65536#32 n) (IntOp.remui .host 65536#32 n)) n

/-- The number drawn from `lo` up to `hi`, `n` of them, from the random bits `u` and `v`. -/
def draw (lo n u v : Word) : Word :=
  IntOp.addi (clip lo) (IntOp.remui .host (IntOp.addi (IntOp.muli (IntOp.remui .host u n) (factor n)) (IntOp.remui .host v n)) n)

/-- The table of numbers drawn. -/
theorem rand_spec {a0 : StableHlo.TRef sig ⟨S2, .i32⟩} {a1 a2 : StableHlo.TRef sig ⟨S_, .i32⟩} {φ : fn_randint.Bufs}
    (h : Sat W (randLine (F := F) a0 a1 a2 φ).eqns) {a b lo hi : Word} (ha : rd W a0 = fun i => two a b (i 0).val)
    (hlo : rd W a1 = fun _ => lo) (hhi : rd W a2 = fun _ => hi) :
    rd W φ.v73 = fun i => draw lo (count lo hi) (bits (child a b 0) i) (bits (child a b 1) i) := by
  obtain ⟨h, g⟩ := (sat_append _ _ _).mp h
  obtain ⟨c1, c2, c3, h⟩ := h
  obtain ⟨⟨c4, c5, -⟩, e1, c6, c7, h⟩ := (sat_append _ _ _).mp h
  obtain ⟨⟨c8, c9, -⟩, e3, c10, c11, h⟩ := (sat_append _ _ _).mp h
  obtain ⟨⟨c12, c13, -⟩, e5, e6, e7, h⟩ := (sat_append _ _ _).mp h
  obtain ⟨hs, e9, e10, e11, e12, e13, e14, e15, e16, e17, e18, d1, e19, e20, d2, e21, e22, e23, d3, e24, e25, e26, e27, h⟩ :=
    (sat_append _ _ _).mp h
  obtain ⟨hp, e29, e30, e31, e32, e33, e34, e35, d4, e36, e37, d5, e38, e39, e40, d6, e41, e42, e43, e44, h⟩ :=
    (sat_append _ _ _).mp h
  obtain ⟨hq, e46, -⟩ := (sat_append _ _ _).mp h
  have hk := split_spec1 hs ha
  have k0 := row_at hk ((holds_unary _ _ _ _).mp e9) ((holds_reshape _ _ _ _ _).mp e10)
  have k1 := row_at hk ((holds_unary _ _ _ _).mp e11) ((holds_reshape _ _ _ _ _).mp e12)
  have b0 := hash_tg hp (v := counter) (word_at k0 e13 e14) (word_at k0 e15 e16) (by
    simp only [holds_unary, holds_binary, holds_nullary] at e17 e18 d1 e19 e20 d2 e21 e22 e23 d3 e24 e25 e26 e27
    refine ⟨?_, ?_⟩
    · rw [e27, e25, e24, d3, e23, e22, e21, d2, e20, e19, d1, e18, e17]; rfl
    · rw [e26, e23, e22, e21, d2, e20, e19, d1, e18, e17]; rfl)
  have b1 := hash_tg hq (v := counter) (word_at k1 e30 e31) (word_at k1 e32 e33) (by
    simp only [holds_unary, holds_binary, holds_nullary] at e34 e35 d4 e36 e37 d5 e38 e39 e40 d6 e41 e42 e43 e44
    refine ⟨?_, ?_⟩
    · rw [e44, e42, e41, d6, e40, e39, e38, d5, e37, e36, d4, e35, e34]; rfl
    · rw [e43, e40, e39, e38, d5, e37, e36, d4, e35, e34]; rfl)
  obtain ⟨e47, e48, e49, d7, e50, e51, e52, e53, e54, d8, e55, e56, e57, d9, e58, e59, e60, e61, e62, e63, e64, e65, e66, e67, e68,
    e69, e70, e71, e72, e73, -⟩ := g
  simp only [holds_unary, holds_binary, holds_nullary, holds_ternary] at c1 c2 c3 c4 c5 e1 c6 c7 c8 c9 e3 c10 c11 c12 c13 e5 e6 e7 e29 e46
  simp only [holds_unary, holds_binary, holds_nullary, holds_ternary] at e47 e48 e49 d7 e50 e51 e52 e53 e54 d8 e55 e56 e57 d9 e58 e59 e60 e61 e62 e63 e64 e65 e66 e67 e68 e69 e70 e71 e72 e73
  have f6 : rd W φ.v6 = fun _ => clip lo := by rw [e6, e3, c9, c8, c7, c6, hlo]; rfl
  have f7 : rd W φ.v7 = fun _ => clip hi := by rw [e7, e5, c13, c12, c11, c10, hhi]; rfl
  have f57 : rd W φ.v57 = fun _ => count lo hi := by
    rw [e57, e56, e54, e53, e1, e55, d8, e52, e51, e50, d7, e49, e48, e47, f6, f7, c5, c4, c3, c2, c1, hhi]; rfl
  have f61 : rd W φ.v61 = fun _ => factor (count lo hi) := by
    rw [e61, e60, e59, e58, d9, f57]; rfl
  rw [e73, e72, e71, e70, e69, e68, e67, e66, e65, e64, e63, e62, f61, f57, f6, e46, e29, b0.1, b0.2, b1.1, b1.2]
  rfl

end Cert.ReferenceIdeal.Hand

end
-- ==== Proof.Ref.Value.lean ====
/-
  The reference's result: the spans it draws, worked out, and with them the argument with zeros in
  those spans.
-/
module

public import proofs.«01_k».proof.Proof.Ref.Draw
public import proofs.«01_k».proof.Proof.Hand.Plan
public import Idealize.ShloMosaic.PureOps.Reduce

@[expose] public section

set_option maxRecDepth 2000

noncomputable section

namespace Cert.ReferenceIdeal.Hand

open Cert.ReferenceIdeal Cert.Ref Cert.Plan
open Idealize.ShloMosaic Idealize.SL.Sem

/-- An element of a table of four rows of two. -/
abbrev at2 (x : Fin 4) (y : Fin 2) : S4x2.Idx := Fin.cons x (Fin.cons y finZeroElim)

/-- The two keys the draws are made under. -/
abbrev keyW : Word × Word := child 0#32 1#32 0
abbrev keyS : Word × Word := child 0#32 1#32 1

/-- The width and the start of a span, as drawn. -/
abbrev width (i : S4x2.Idx) : Word :=
  draw 1#32 (count 1#32 820#32) (bits (child keyW.1 keyW.2 0) i) (bits (child keyW.1 keyW.2 1) i)
abbrev first (i : S4x2.Idx) : Word :=
  draw 0#32 (count 0#32 8192#32) (bits (child keyS.1 keyS.2 0) i) (bits (child keyS.1 keyS.2 1) i)
/-- The start of a span, moved so that the span fits. -/
abbrev start (i : S4x2.Idx) : Word := IntOp.minsi (first i) (IntOp.subi 8192#32 (width i))

/-- Whether a time lies in a span. -/
def inSpan (i : S4x2.Idx) (t : Word) : BitVec 1 :=
  IntOp.andi (IntOp.cmpi .sge t (start i)) (IntOp.cmpi .slt t (IntOp.addi (start i) (width i)))

/-- The spans. -/
def spans : Fin 4 → Fin 2 → ℕ × ℕ :=
  ![![(7156, 7619), (572, 887)], ![(7070, 7361), (2400, 3125)], ![(21, 830), (3653, 4162)], ![(475, 1049), (341, 496)]]

theorem spans_eq : ∀ (x : Fin 4) (y : Fin 2), start (at2 x y) = BitVec.ofNat 32 (spans x y).1 ∧
    width (at2 x y) = BitVec.ofNat 32 ((spans x y).2 - (spans x y).1) := by
  decide +kernel

/-- Comparing a time with a bound, both far below the top of the words. -/
theorem inSpan_eq {s w : ℕ} (t : ℕ) (ht : t < 8192) (hs : s < 8192) (hw : s + w ≤ 8192) :
    IntOp.andi (IntOp.cmpi .sge (BitVec.ofNat 32 t) (BitVec.ofNat 32 s))
      (IntOp.cmpi .slt (BitVec.ofNat 32 t) (IntOp.addi (BitVec.ofNat 32 s) (BitVec.ofNat 32 w))) = if s ≤ t ∧ t < s + w then 1#1 else 0#1 := by
  have hsum : IntOp.addi (BitVec.ofNat 32 s) (BitVec.ofNat 32 w) = BitVec.ofNat 32 (s + w) := by
    simp [IntOp.addi, BitVec.ofNat_add]
  have int : ∀ n : ℕ, n ≤ 8192 → (BitVec.ofNat 32 n).toInt = n := by
    intro n hn
    rw [BitVec.toInt_eq_toNat_of_lt] <;> simp only [BitVec.toNat_ofNat] <;> omega
  rw [hsum]
  simp only [IntOp.cmpi, IntOp.andi, BitVec.slt, BitVec.sle, int t (by omega), int s (by omega), int (s + w) hw, Nat.cast_le, Nat.cast_lt]
  by_cases h1 : s ≤ t <;> by_cases h2 : t < s + w <;> simp [h1, h2]

/-- Whether a time lies in one of a row's spans. -/
theorem spans_masked (x : Fin 4) (t : ℕ) :
    ((spans x 0).1 ≤ t ∧ t < (spans x 0).2 ∨ (spans x 1).1 ≤ t ∧ t < (spans x 1).2) ↔ Masked x.val t := by
  unfold Masked
  fin_cases x
  · show (7156 ≤ t ∧ t < 7619 ∨ 572 ≤ t ∧ t < 887) ↔ _; simp only [true_and]; omega
  · show (7070 ≤ t ∧ t < 7361 ∨ 2400 ≤ t ∧ t < 3125) ↔ _; simp only [true_and]; omega
  · show (21 ≤ t ∧ t < 830 ∨ 3653 ≤ t ∧ t < 4162) ↔ _; simp only [true_and]; omega
  · show (475 ≤ t ∧ t < 1049 ∨ 341 ≤ t ∧ t < 496) ↔ _; simp only [true_and]; omega

theorem spans_ok : ∀ x y, (spans x y).1 ≤ (spans x y).2 ∧ (spans x y).2 ≤ 8192 ∧ (spans x y).1 < 8192 := by decide

theorem inSpan_spans (x : Fin 4) (y : Fin 2) (t : ℕ) (ht : t < 8192) :
    inSpan (at2 x y) (BitVec.ofNat 32 t) = if (spans x y).1 ≤ t ∧ t < (spans x y).2 then 1#1 else 0#1 := by
  obtain ⟨h1, h2, h3⟩ := spans_ok x y
  unfold inSpan
  rw [(spans_eq x y).1, (spans_eq x y).2, inSpan_eq t ht h3 (by omega)]
  rw [Nat.add_sub_cancel' h1]

instance : Std.Commutative (IntOp.ori : BitVec 1 → BitVec 1 → BitVec 1) := ⟨BitVec.or_comm⟩
instance : Std.Associative (IntOp.ori : BitVec 1 → BitVec 1 → BitVec 1) := ⟨BitVec.or_assoc⟩

theorem fold_two (f : BitVec 1 → BitVec 1 → BitVec 1) [Std.Commutative f] [Std.Associative f] (b : BitVec 1) (g : Fin 2 → BitVec 1) :
    (Finset.univ : Finset (Fin 2)).fold f b g = f (g 0) (f (g 1) b) := rfl

variable {F : FTy → Type} [FloatOps F] [Facts] {W : Valuation τ sig (Elt F)}

/-- The key of the seed. -/
theorem seed_key : (concatenate S2 0 [⟨S1, broadcastInDim S1 ![] Facts₀.bcast_S_S1 (id (Host.shrui (constantI S_ 32 1#32) (constantI S_ 32 32#32)))⟩,
    ⟨S1, broadcastInDim S1 ![] Facts₀.bcast_S_S1 (id (andi (constantI S_ 32 1#32) (constantI S_ 32 4294967295#32)))⟩]
      Facts₀.concatenates_S1_S1_S2_d0 : S2.Idx → Word) = fun i => two 0#32 1#32 (i 0).val := by
  have key : ∀ x : Fin 2, (concatenate S2 0 [⟨S1, broadcastInDim S1 ![] Facts₀.bcast_S_S1 (id (Host.shrui (constantI S_ 32 1#32) (constantI S_ 32 32#32)))⟩,
    ⟨S1, broadcastInDim S1 ![] Facts₀.bcast_S_S1 (id (andi (constantI S_ 32 1#32) (constantI S_ 32 4294967295#32)))⟩]
      Facts₀.concatenates_S1_S1_S2_d0 : S2.Idx → Word) (Fin.cons x finZeroElim) = two 0#32 1#32 x.val := by
    intro x; fin_cases x <;> rfl
  funext i
  have hi : i = Fin.cons (i 0) finZeroElim := by
    funext a; fin_cases a; rfl
  rw [hi]
  exact key (i 0)

/-- A table spread along the times. -/
theorem bcast_table (h1 : S4x2.BroadcastsInDim S4x2x1 ![0, 1]) (h2 : S4x2x1.BroadcastsInDim S4x2x8192 ![0, 1, 2]) (v : S4x2.Idx → Word)
    (i : S4x2x8192.Idx) : broadcastInDim S4x2x8192 ![0, 1, 2] h2 (broadcastInDim S4x2x1 ![0, 1] h1 v) i = v (at2 (i 0) (i 1)) := by
  unfold broadcastInDim
  congr 1
  funext a
  fin_cases a <;> rfl

/-- The two spans of a row together. -/
theorem either_span (x : Fin 4) (t : ℕ) (ht : t < 8192) :
    IntOp.ori (inSpan (at2 x 0) (BitVec.ofNat 32 t)) (IntOp.ori (inSpan (at2 x 1) (BitVec.ofNat 32 t)) 0#1) =
      if Masked x.val t then 1#1 else 0#1 := by
  rw [inSpan_spans _ _ _ ht, inSpan_spans _ _ _ ht, ← if_congr (spans_masked x t) rfl rfl]
  by_cases h0 : (spans x 0).1 ≤ t ∧ t < (spans x 0).2 <;>
    by_cases h1 : (spans x 1).1 ≤ t ∧ t < (spans x 1).2 <;> simp only [h0, h1, if_true, if_false, or_true, true_or, or_false, or_self] <;> rfl

/-- Whether a time lies in any span of its row. -/
theorem any_span : (Host.reduce IntOp.ori (fun i : S4x2x8192.Idx => inSpan (at2 (i 0) (i 1)) (BitVec.ofNat 32 (i 2).val)) (constantI S_ 1 0#1)
    Facts₀.reducesTo_S4x2x8192_S4x8192_d1 Facts₀.h_S_ : S4x8192.Idx → BitVec 1) =
      fun i => if Masked (i 0).val (i 1).val then 1#1 else 0#1 := by
  funext i
  rw [Host.reduce_eq_fold_single _ _ _ _ (by decide : S4x2x8192.Reduces [1] S4x8192)]
  refine (fold_two _ _ _).trans ?_
  exact either_span (i 0) (i 1).val (i 1).isLt

/-- The value of the reference: zeros in the spans, the argument elsewhere. -/
theorem value {d : Dev nD} (h : Sat W (mainLine (F := F) d).eqns) :
    W (Proc.devRef .tc main_v32) = fun i : S4x8192x2048.Idx =>
      if Masked (i 0).val (i 1).val then FloatOps.ofBits .f32 0x00000000#32 else W (Proc.devRef .tc main_arg0) i := by
  obtain ⟨e1, e2, e3, e4, e5, e6, e7, e8, e9, e10, h⟩ := h
  obtain ⟨hs, e11, e12, e13, e14, e15, e16, h⟩ := (sat_append _ _ _).mp h
  obtain ⟨hw, e17, e18, h⟩ := (sat_append _ _ _).mp h
  obtain ⟨hf, e19, e20, e21, e22, e23, e24, e25, e26, e27, e28, e29, e30, e31, e32, e33, e34, e35, e36, e37, e38, e39, h⟩ :=
    (sat_append _ _ _).mp h
  obtain ⟨⟨e40, e41, e42, -⟩, -⟩ := (sat_append _ _ _).mp h
  simp only [Eqn.Holds] at e1 e2 e3 e4 e5 e6 e7 e8 e9 e10 e11 e12 e13 e14 e15 e16 e17 e18 e19
  simp only [Eqn.Holds] at e20 e21 e22 e23 e24 e25 e26 e27 e28 e29 e30 e31 e32 e33 e34 e35 e36 e37 e38 e39
  have key : rd W (.of main_v6) = fun i : S2.Idx => two (0#32 : Word) 1#32 (i 0).val := by
    show W (Proc.devRef .tc main_v6) = _
    rw [e10, e9, e8, e7, e6, e5, e4, e3, e2, e1]
    exact seed_key
  have hk := split_spec hs key
  have hkW := row_at (c := child 0#32 1#32) (p := .of main_v8) (r := .of main_v9) hk e11 e12
  have hkS := row_at (c := child 0#32 1#32) (p := .of main_v10) (r := .of main_v11) hk e13 e14
  have rW := rand_spec hw hkW e15 e16
  have rS := rand_spec hf hkS e17 e18
  have hwidth : W (Proc.devRef .tc main_v12) = width := rW
  have hfirst : W (Proc.devRef .tc main_v13) = first := rS
  have hstart : W (Proc.devRef .tc main_v16) = start := by rw [e22, e21, e20, e19, hwidth, hfirst]; rfl
  have hin : W (Proc.devRef .tc main_v29) = fun i : S4x2x8192.Idx => inSpan (at2 (i 0) (i 1)) (BitVec.ofNat 32 (i 2).val) := by
    rw [e35, e34, e33, e32, e31, e30, e29, e28, e27, e26, e25, e24, e23, hstart, hwidth]
    funext i
    show IntOp.andi (IntOp.cmpi .sge _ (broadcastInDim _ _ _ (broadcastInDim _ _ _ _) i))
      (IntOp.cmpi .slt _ (broadcastInDim _ _ _ (broadcastInDim _ _ _ _) i)) = _
    rw [bcast_table, bcast_table]
    rfl
  have hmask : W (Proc.devRef .tc main_v30) = fun i : S4x8192.Idx => if Masked (i 0).val (i 1).val then 1#1 else 0#1 := by
    rw [e37, e36, hin]
    exact any_span
  have h31 : rd W (.of main_v31) = _ := e38
  have hcst : rd W (.of main_cst) = _ := e39
  rw [holds_unary] at e40 e41
  rw [holds_ternary, e40, e41, hcst, h31, hmask] at e42
  refine Eq.trans e42 ?_
  funext i
  by_cases hM : Masked (i 0).val (i 1).val
  · rw [if_pos hM]
    refine (if_pos ?_).trans rfl
    exact if_pos hM
  · rw [if_neg hM]
    refine (if_neg ?_).trans rfl
    intro h
    exact absurd (((if_neg hM).symm.trans h)) (by decide)

end Cert.ReferenceIdeal.Hand

end
-- ==== Proof.lean ====
module

public import proofs.«01_k».proof.Defs
public import proofs.«01_k».proof.Proof.Hand.Ideal
public import proofs.«01_k».proof.Proof.Gen.ReferenceIdeal
public import proofs.«01_k».proof.Proof.Ref.Run
public import proofs.«01_k».proof.Proof.Ref.Value
public import Idealize.ShloMosaic.Adequacy
public import Idealize.ShloMosaic.Init
public import Idealize.ShloMosaic.Lib.Quiescent

@[expose] public section

noncomputable section

namespace Cert.Proof

open Idealize.ShloMosaic Idealize.SL.Sem

/-- The kernel as written runs, leaves its input alone and ends quiescent. -/
theorem kernel_frame : Cert.quiescent_Kernel := fun m g _ =>
  (θ_run _ _ _).mono (fun _ h => ⟨fun c => (h.1 c).2, h.2⟩) (Cert.Kernel.Hand.run m g)

/-- So does the program at the ideal values. -/
theorem ideal_frame : Cert.quiescent_KernelIdeal := fun m g _ =>
  (θ_run _ _ _).mono (fun _ h => ⟨fun c => (h.1 c).2, h.2⟩) (Cert.KernelIdeal.Hand.run m g)

/-- The reference ends with the masked input in its result and its input unchanged. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      ∀ c : Dev Cert.ReferenceIdeal.nD,
        r.2.mem ((c.tc : Thread Cert.ReferenceIdeal.nD Cert.ReferenceIdeal.τ).loc Cert.ReferenceIdeal.main_v32) =
          Cert.Kernel.Hand.masked (F := Ideal) (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0) =
          m ((c.tc : Thread Cert.ReferenceIdeal.nD Cert.ReferenceIdeal.τ).loc Cert.ReferenceIdeal.main_arg0)) := by
  refine (θ_run _ _ _).mono (fun r h c => ?_) (Cert.ReferenceIdeal.Hand.run_main m g)
  obtain ⟨W, hW, hmem, harg⟩ := h c
  refine ⟨(hmem _).trans ((Cert.ReferenceIdeal.Hand.value hW).trans ?_), (hmem _).trans harg⟩
  rw [harg]
  rfl

/-- The reference runs and leaves its input alone; it has no semaphore to leave anything in. -/
theorem reference_frame : Cert.quiescent_ReferenceIdeal := fun m g _ =>
  (θ_run _ _ _).mono (fun r h => ⟨fun c => (h c).2, sem_eq_zero_of_no_sems (by decide) r.2⟩) (reference_run m g)

/-- The two compute the same: each the masked input. -/
theorem same_values : Cert.algebraic_KernelIdeal_ReferenceIdeal := fun m g m' g' _ hargs =>
  ⟨fun c => Cert.Kernel.Hand.masked (F := Ideal) (m (c.tc.loc Cert.KernelIdeal.main_arg0)),
    (θ_run _ _ _).mono (fun _ h => h.1) (Cert.KernelIdeal.Hand.run m g),
    (θ_run _ _ _).mono (fun _ h c => ⟨(h c).1.trans (congrArg (Cert.Kernel.Hand.masked (F := Ideal)) (hargs c)), (h c).2⟩) (reference_run m' g')⟩

theorem claim : Cert.Claim := ⟨Cert.Kernel.Gen.facts, Cert.KernelIdeal.Gen.facts, Cert.ReferenceIdeal.Gen.facts,
  kernel_frame, ideal_frame, reference_frame, trivial, same_values⟩

end Cert.Proof

end
